-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_nonneg [hKernelIdeal : Cert.KernelIdeal.Facts] [hPre_in_range : Cert.Pre_in_range.Facts] [hPost_nonneg : Cert.Post_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v83))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_nonneg : Cert.Post_nonneg.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ holds_KernelIdeal_nonneg (hKernelIdeal := hKernelIdeal) (hPre_in_range := hPre_in_range) (hPost_nonneg := hPost_nonneg)
-- ==== Post_nonneg.lean ====
abbrev S8x20x128x128 : Shape := ⟨4, ![8, 20, 128, 128]⟩
abbrev S8x2x128x128 : Shape := ⟨4, ![8, 2, 128, 128]⟩
abbrev S8x32x4 : Shape := ⟨3, ![8, 32, 4]⟩
abbrev S8x32 : Shape := ⟨2, ![8, 32]⟩
abbrev S_ : Shape := ⟨0, ![]⟩

class Facts : Prop where

variable [Facts]

def fn {F : FTy → Type} [FloatOps F] (main_arg0 : FVec F S8x20x128x128 .f32) (main_arg1 : FVec F S8x2x128x128 .f32) (main_arg2 : FVec F S8x2x128x128 .f32) (main_arg3 : FVec F S8x32x4 .f32) (main_arg4 : IVec S8x32 32) (main_arg5 : FVec F S_ .f32) : IVec S_ 1 :=
  let main_cst : FVec F S_ .f32 := constant S_ .f32 0x00000000#32
  let main_v0 : IVec S_ 1 := cmpf .oge main_arg5 main_cst
  main_v0
-- ==== Pre_in_range.lean ====
abbrev S8x20x128x128 : Shape := ⟨4, ![8, 20, 128, 128]⟩
abbrev S8x2x128x128 : Shape := ⟨4, ![8, 2, 128, 128]⟩
abbrev S8x32x4 : Shape := ⟨3, ![8, 32, 4]⟩
abbrev S8x32 : Shape := ⟨2, ![8, 32]⟩
abbrev S_ : Shape := ⟨0, ![]⟩

class Facts : Prop where
  bcast_S_S8x20x128x128 : S_.BroadcastsInDim S8x20x128x128 (![] : Fin 0 → Fin S8x20x128x128.rank)
  reducesTo_S8x20x128x128_S_d0_1_2_3 : S8x20x128x128.ReducesTo [0, 1, 2, 3] S_
  h_S_ : 0 < S_.numel
  bcast_S_S8x32x4 : S_.BroadcastsInDim S8x32x4 (![] : Fin 0 → Fin S8x32x4.rank)
  reducesTo_S8x32x4_S_d0_1_2 : S8x32x4.ReducesTo [0, 1, 2] S_
  bcast_S_S8x32 : S_.BroadcastsInDim S8x32 (![] : Fin 0 → Fin S8x32.rank)
  reducesTo_S8x32_S_d0_1 : S8x32.ReducesTo [0, 1] S_

variable [Facts]

def fn_part1 {F : FTy → Type} [FloatOps F] (main_arg4 : IVec S8x32 32) (main_v14 : IVec S_ 1) (main_c_6 : IVec S_ 32) : IVec S_ 1 :=
  let main_v15 : IVec S8x32 32 := broadcastInDim S8x32 ![] bcast_S_S8x32 main_c_6
  let main_v16 : IVec S8x32 1 := cmpi .sge main_arg4 main_v15
  let main_c_7 : IVec S_ 1 := constantI S_ 1 1#1
  let main_v17 : IVec S_ 1 := (fun x v => Host.reduce IntOp.andi x v reducesTo_S8x32_S_d0_1 h_S_) main_v16 main_c_7
  let main_v18 : IVec S_ 1 := andi main_v14 main_v17
  let main_c_8 : IVec S_ 32 := constantI S_ 32 20#32
  let main_v19 : IVec S8x32 32 := broadcastInDim S8x32 ![] bcast_S_S8x32 main_c_8
  let main_v20 : IVec S8x32 1 := cmpi .slt main_arg4 main_v19
  let main_c_9 : IVec S_ 1 := constantI S_ 1 1#1
  let main_v21 : IVec S_ 1 := (fun x v => Host.reduce IntOp.andi x v reducesTo_S8x32_S_d0_1 h_S_) main_v20 main_c_9
  let main_v22 : IVec S_ 1 := andi main_v18 main_v21
  main_v22

def fn {F : FTy → Type} [FloatOps F] (main_arg0 : FVec F S8x20x128x128 .f32) (main_arg1 : FVec F S8x2x128x128 .f32) (main_arg2 : FVec F S8x2x128x128 .f32) (main_arg3 : FVec F S8x32x4 .f32) (main_arg4 : IVec S8x32 32) : IVec S_ 1 :=
  let main_cst : FVec F S_ .f32 := constant S_ .f32 0x358637BD#32
  let main_v0 : FVec F S8x20x128x128 .f32 := broadcastInDim S8x20x128x128 ![] bcast_S_S8x20x128x128 main_cst
  let main_v1 : IVec S8x20x128x128 1 := cmpf .oge main_arg0 main_v0
  let main_c : IVec S_ 1 := constantI S_ 1 1#1
  let main_v2 : IVec S_ 1 := (fun x v => Host.reduce IntOp.andi x v reducesTo_S8x20x128x128_S_d0_1_2_3 h_S_) main_v1 main_c
  let main_cst_0 : FVec F S_ .f32 := constant S_ .f32 0x3F7FFFEF#32
  let main_v3 : FVec F S8x20x128x128 .f32 := broadcastInDim S8x20x128x128 ![] bcast_S_S8x20x128x128 main_cst_0
  let main_v4 : IVec S8x20x128x128 1 := cmpf .ole main_arg0 main_v3
  let main_c_1 : IVec S_ 1 := constantI S_ 1 1#1
  let main_v5 : IVec S_ 1 := (fun x v => Host.reduce IntOp.andi x v reducesTo_S8x20x128x128_S_d0_1_2_3 h_S_) main_v4 main_c_1
  let main_v6 : IVec S_ 1 := andi main_v2 main_v5
  let main_cst_2 : FVec F S_ .f32 := constant S_ .f32 0xFF800000#32
  let main_v7 : FVec F S8x32x4 .f32 := broadcastInDim S8x32x4 ![] bcast_S_S8x32x4 main_cst_2
  let main_v8 : IVec S8x32x4 1 := cmpf .ogt main_arg3 main_v7
  let main_c_3 : IVec S_ 1 := constantI S_ 1 1#1
  let main_v9 : IVec S_ 1 := (fun x v => Host.reduce IntOp.andi x v reducesTo_S8x32x4_S_d0_1_2 h_S_) main_v8 main_c_3
  let main_v10 : IVec S_ 1 := andi main_v6 main_v9
  let main_cst_4 : FVec F S_ .f32 := constant S_ .f32 0x7F800000#32
  let main_v11 : FVec F S8x32x4 .f32 := broadcastInDim S8x32x4 ![] bcast_S_S8x32x4 main_cst_4
  let main_v12 : IVec S8x32x4 1 := cmpf .olt main_arg3 main_v11
  let main_c_5 : IVec S_ 1 := constantI S_ 1 1#1
  let main_v13 : IVec S_ 1 := (fun x v => Host.reduce IntOp.andi x v reducesTo_S8x32x4_S_d0_1_2 h_S_) main_v12 main_c_5
  let main_v14 : IVec S_ 1 := andi main_v10 main_v13
  let main_c_6 : IVec S_ 32 := constantI S_ 32 0#32
  fn_part1 (F := F) main_arg4 main_v14 main_c_6
-- ==== Kernel.lean ====
abbrev S8x20x128x128 : Shape := ⟨4, ![8, 20, 128, 128]⟩
abbrev S8x2x128x128 : Shape := ⟨4, ![8, 2, 128, 128]⟩
abbrev S8x32x4 : Shape := ⟨3, ![8, 32, 4]⟩
abbrev S8x32 : Shape := ⟨2, ![8, 32]⟩
abbrev S2 : Shape := ⟨1, ![2]⟩
abbrev S8x32x2 : Shape := ⟨3, ![8, 32, 2]⟩
abbrev S_ : Shape := ⟨0, ![]⟩
abbrev S1x1x2 : Shape := ⟨3, ![1, 1, 2]⟩
abbrev S8x32x1 : Shape := ⟨3, ![8, 32, 1]⟩
abbrev S8x1x32 : Shape := ⟨3, ![8, 1, 32]⟩
abbrev S8x32x32 : Shape := ⟨3, ![8, 32, 32]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x32x32 : Shape := ⟨3, ![1, 32, 32]⟩
abbrev S1x1 : Shape := ⟨2, ![1, 1]⟩
abbrev S1x20x128x128 : Shape := ⟨4, ![1, 20, 128, 128]⟩
abbrev S1x2x128x128 : Shape := ⟨4, ![1, 2, 128, 128]⟩
abbrev S20x128x128 : Shape := ⟨3, ![20, 128, 128]⟩
abbrev S4x128x128 : Shape := ⟨3, ![4, 128, 128]⟩
abbrev S10 : Shape := ⟨1, ![10]⟩
abbrev S4 : Shape := ⟨1, ![4]⟩
abbrev S16x128 : Shape := ⟨2, ![16, 128]⟩
abbrev S1 : Shape := ⟨1, ![1]⟩
abbrev S80x128 : Shape := ⟨2, ![80, 128]⟩
abbrev S1x128 : Shape := ⟨2, ![1, 128]⟩
abbrev S1x80x128 : Shape := ⟨3, ![1, 80, 128]⟩
abbrev S1x1x128 : Shape := ⟨3, ![1, 1, 128]⟩
abbrev S128x128 : Shape := ⟨2, ![128, 128]⟩
abbrev S1x128x128 : Shape := ⟨3, ![1, 128, 128]⟩
abbrev S1x1x1 : Shape := ⟨3, ![1, 1, 1]⟩
abbrev S1x1x128x128 : Shape := ⟨4, ![1, 1, 128, 128]⟩
abbrev S2560x128 : Shape := ⟨2, ![2560, 128]⟩
abbrev S1x2560 : Shape := ⟨2, ![1, 2560]⟩
abbrev S128 : Shape := ⟨1, ![128]⟩

abbrev nBuf : Space → Nat
  | .hbm => 132
  | .vmem => 10
  | .smem => 16
  | _ => 0

abbrev hbmTy0_0 (i : Nat) : BufTy := match i % 128 with
  | 0 => ⟨S8x20x128x128, .f32⟩
  | 1 => ⟨S8x2x128x128, .f32⟩
  | 2 => ⟨S8x2x128x128, .f32⟩
  | 3 => ⟨S8x32x4, .f32⟩
  | 4 => ⟨S8x32, .i32⟩
  | 5 => ⟨S2, .f32⟩
  | 6 => ⟨S2, .i32⟩
  | 7 => ⟨S2, .i32⟩
  | 8 => ⟨S8x32x2, .f32⟩
  | 9 => ⟨S8x32x2, .f32⟩
  | 10 => ⟨S8x32x2, .f32⟩
  | 11 => ⟨S_, .f32⟩
  | 12 => ⟨S8x32x2, .f32⟩
  | 13 => ⟨S8x32x2, .f32⟩
  | 14 => ⟨S8x32x2, .f32⟩
  | 15 => ⟨S8x32x2, .f32⟩
  | 16 => ⟨S8x32x2, .f32⟩
  | 17 => ⟨S8x32x2, .f32⟩
  | 18 => ⟨S1x1x2, .f32⟩
  | 19 => ⟨S8x32x2, .f32⟩
  | 20 => ⟨S8x32x2, .f32⟩
  | 21 => ⟨S8x32x2, .f32⟩
  | 22 => ⟨S8x32x2, .i32⟩
  | 23 => ⟨S1x1x2, .i32⟩
  | 24 => ⟨S8x32x2, .i32⟩
  | 25 => ⟨S8x32x2, .i32⟩
  | 26 => ⟨S1x1x2, .i32⟩
  | 27 => ⟨S8x32x2, .i32⟩
  | 28 => ⟨S8x32x2, .i32⟩
  | 29 => ⟨S8x32x2, .f32⟩
  | 30 => ⟨S8x32x2, .f32⟩
  | 31 => ⟨S8x32x1, .f32⟩
  | 32 => ⟨S8x32, .f32⟩
  | 33 => ⟨S_, .f32⟩
  | 34 => ⟨S8x32, .f32⟩
  | 35 => ⟨S8x32, .f32⟩
  | 36 => ⟨S8x32x1, .f32⟩
  | 37 => ⟨S8x32, .f32⟩
  | 38 => ⟨S_, .f32⟩
  | 39 => ⟨S8x32, .f32⟩
  | 40 => ⟨S8x32, .f32⟩
  | 41 => ⟨S8x32, .f32⟩
  | 42 => ⟨S_, .f32⟩
  | 43 => ⟨S8x32, .f32⟩
  | 44 => ⟨S8x32, .f32⟩
  | 45 => ⟨S_, .f32⟩
  | 46 => ⟨S8x32, .f32⟩
  | 47 => ⟨S8x32, .f32⟩
  | 48 => ⟨S_, .f32⟩
  | 49 => ⟨S8x32, .f32⟩
  | 50 => ⟨S8x32, .f32⟩
  | 51 => ⟨S8x32, .f32⟩
  | 52 => ⟨S_, .f32⟩
  | 53 => ⟨S8x32, .f32⟩
  | 54 => ⟨S8x32, .f32⟩
  | 55 => ⟨S_, .f32⟩
  | 56 => ⟨S8x32, .f32⟩
  | 57 => ⟨S8x32, .f32⟩
  | 58 => ⟨S8x32x1, .i32⟩
  | 59 => ⟨S8x32, .i32⟩
  | 60 => ⟨S8x32x1, .i32⟩
  | 61 => ⟨S8x32, .i32⟩
  | 62 => ⟨S8x32x1, .i32⟩
  | 63 => ⟨S8x1x32, .i32⟩
  | 64 => ⟨S8x32x32, .i32⟩
  | 65 => ⟨S8x32x32, .i32⟩
  | 66 => ⟨S8x32x32, .i1⟩
  | 67 => ⟨S8x32x1, .i32⟩
  | 68 => ⟨S8x1x32, .i32⟩
  | 69 => ⟨S8x32x32, .i32⟩
  | 70 => ⟨S8x32x32, .i32⟩
  | 71 => ⟨S8x32x32, .i1⟩
  | 72 => ⟨S8x32x32, .i1⟩
  | 73 => ⟨S32, .i32⟩
  | 74 => ⟨S1x32, .i32⟩
  | 75 => ⟨S32x1, .i32⟩
  | 76 => ⟨S32x32, .i32⟩
  | 77 => ⟨S32x32, .i32⟩
  | 78 => ⟨S32x32, .i1⟩
  | 79 => ⟨S1x32x32, .i1⟩
  | 80 => ⟨S8x32x32, .i1⟩
  | 81 => ⟨S8x32x32, .i1⟩
  | 82 => ⟨S_, .i1⟩
  | 83 => ⟨S8x32, .i1⟩
  | 84 => ⟨S8x32, .i1⟩
  | 85 => ⟨S8x32, .i32⟩
  | 86 => ⟨S_, .i32⟩
  | 87 => ⟨S8x32, .i32⟩
  | 88 => ⟨S8x32, .i32⟩
  | 89 => ⟨S_, .i32⟩
  | 90 => ⟨S_, .i32⟩
  | 91 => ⟨S_, .i32⟩
  | 92 => ⟨S8x32, .i32⟩
  | 93 => ⟨S8x32, .i32⟩
  | 94 => ⟨S_, .i32⟩
  | 95 => ⟨S8x32, .i32⟩
  | 96 => ⟨S8x32, .i32⟩
  | 97 => ⟨S_, .i32⟩
  | 98 => ⟨S_, .i32⟩
  | 99 => ⟨S8x32, .i32⟩
  | 100 => ⟨S8x32, .i32⟩
  | 101 => ⟨S8x32, .i32⟩
  | 102 => ⟨S_, .i32⟩
  | 103 => ⟨S8x32, .i32⟩
  | 104 => ⟨S8x32, .i1⟩
  | 105 => ⟨S8x32, .i32⟩
  | 106 => ⟨S8x32, .i32⟩
  | 107 => ⟨S_, .i32⟩
  | 108 => ⟨S8x32, .i32⟩
  | 109 => ⟨S8x32, .i1⟩
  | 110 => ⟨S8x32, .i1⟩
  | 111 => ⟨S_, .i32⟩
  | 112 => ⟨S8x32, .i32⟩
  | 113 => ⟨S8x32, .i32⟩
  | 114 => ⟨S8x32, .i32⟩
  | 115 => ⟨S_, .i32⟩
  | 116 => ⟨S8x32, .i32⟩
  | 117 => ⟨S8x32, .i32⟩
  | 118 => ⟨S8x32x1, .f32⟩
  | 119 => ⟨S8x32, .f32⟩
  | 120 => ⟨S8x32x1, .f32⟩
  | 121 => ⟨S8x32, .f32⟩
  | 122 => ⟨S8x32x1, .f32⟩
  | 123 => ⟨S8x32, .f32⟩
  | 124 => ⟨S8x32x1, .f32⟩
  | 125 => ⟨S8x32, .f32⟩
  | 126 => ⟨S8x32x1, .f32⟩
  | 127 => ⟨S8x32, .f32⟩
  | _ => ⟨S8x20x128x128, .f32⟩

abbrev hbmTy0_1 (i : Nat) : BufTy := match i % 128 with
  | 0 => ⟨S8x32x1, .f32⟩
  | 1 => ⟨S8x32, .f32⟩
  | 2 => ⟨S1x1, .f32⟩
  | 3 => ⟨S_, .f32⟩
  | _ => ⟨S8x20x128x128, .f32⟩

abbrev hbmTy (i : Nat) : BufTy := match i / 128 with
  | 0 => hbmTy0_0 i
  | 1 => hbmTy0_1 i
  | _ => ⟨S8x20x128x128, .f32⟩

abbrev bufTy : (tb : Table) → Fin (tcTables nBuf tb) → BufTy
  | .hbm, ⟨i, _⟩ => hbmTy i
  | .local _ .vmem, ⟨0, _⟩ => ⟨S1x20x128x128, .f32⟩
  | .local _ .vmem, ⟨1, _⟩ => ⟨S1x20x128x128, .f32⟩
  | .local _ .vmem, ⟨2, _⟩ => ⟨S1x2x128x128, .f32⟩
  | .local _ .vmem, ⟨3, _⟩ => ⟨S1x2x128x128, .f32⟩
  | .local _ .vmem, ⟨4, _⟩ => ⟨S1x2x128x128, .f32⟩
  | .local _ .vmem, ⟨5, _⟩ => ⟨S1x2x128x128, .f32⟩
  | .local _ .vmem, ⟨6, _⟩ => ⟨S20x128x128, .f32⟩
  | .local _ .vmem, ⟨7, _⟩ => ⟨S4x128x128, .f32⟩
  | .local _ .vmem, ⟨8, _⟩ => ⟨S16x128, .f32⟩
  | .local _ .vmem, ⟨9, _⟩ => ⟨S16x128, .f32⟩
  | .local _ .smem, ⟨0, _⟩ => ⟨S8x32, .f32⟩
  | .local _ .smem, ⟨1, _⟩ => ⟨S8x32, .f32⟩
  | .local _ .smem, ⟨2, _⟩ => ⟨S8x32, .f32⟩
  | .local _ .smem, ⟨3, _⟩ => ⟨S8x32, .f32⟩
  | .local _ .smem, ⟨4, _⟩ => ⟨S8x32, .f32⟩
  | .local _ .smem, ⟨5, _⟩ => ⟨S8x32, .f32⟩
  | .local _ .smem, ⟨6, _⟩ => ⟨S8x32, .f32⟩
  | .local _ .smem, ⟨7, _⟩ => ⟨S8x32, .i32⟩
  | .local _ .smem, ⟨8, _⟩ => ⟨S8x32, .i32⟩
  | .local _ .smem, ⟨9, _⟩ => ⟨S8x32, .i32⟩
  | .local _ .smem, ⟨10, _⟩ => ⟨S8x32, .i32⟩
  | .local _ .smem, ⟨11, _⟩ => ⟨S8x32, .i32⟩
  | .local _ .smem, ⟨12, _⟩ => ⟨S1x1, .f32⟩
  | .local _ .smem, ⟨13, _⟩ => ⟨S10, .f32⟩
  | .local _ .smem, ⟨14, _⟩ => ⟨S10, .f32⟩
  | .local _ .smem, ⟨15, _⟩ => ⟨S4, .f32⟩
  | _, _ => ⟨S8x20x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_10 : Ref sig .tc := ⟨.hbm, 86, rfl⟩
abbrev main_v64 : Ref sig .tc := ⟨.hbm, 87, rfl⟩
abbrev main_v65 : Ref sig .tc := ⟨.hbm, 88, rfl⟩
abbrev main_c_11 : Ref sig .tc := ⟨.hbm, 89, rfl⟩
abbrev main_c_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v66 : Ref sig .tc := ⟨.hbm, 96, rfl⟩
abbrev main_c_13 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v67 : Ref sig .tc := ⟨.hbm, 114, rfl⟩
abbrev main_c_14 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev cc0_stg12_0 : Ref sig .tc := ⟨.vmem, 0, rfl⟩
abbrev cc0_stg12_1 : Ref sig .tc := ⟨.vmem, 1, rfl⟩
abbrev cc0_stg13_0 : Ref sig .tc := ⟨.vmem, 2, rfl⟩
abbrev cc0_stg13_1 : Ref sig .tc := ⟨.vmem, 3, rfl⟩
abbrev cc0_stg14_0 : Ref sig .tc := ⟨.vmem, 4, rfl⟩
abbrev cc0_stg14_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch5 : Ref sig .tc := ⟨.vmem, 8, rfl⟩
abbrev cc0_scratch6 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_stg7_0 : Ref sig .tc := ⟨.smem, 7, rfl⟩
abbrev cc0_stg8_0 : Ref sig .tc := ⟨.smem, 8, rfl⟩
abbrev cc0_stg9_0 : Ref sig .tc := ⟨.smem, 9, rfl⟩
abbrev cc0_stg10_0 : Ref sig .tc := ⟨.smem, 10, rfl⟩
abbrev cc0_stg11_0 : Ref sig .tc := ⟨.smem, 11, rfl⟩
abbrev cc0_stg15_0 : Ref sig .tc := ⟨.smem, 12, rfl⟩
abbrev cc0_scratch2 : Ref sig .tc := ⟨.smem, 13, rfl⟩
abbrev cc0_scratch3 : Ref sig .tc := ⟨.smem, 14, rfl⟩
abbrev cc0_scratch4 : Ref sig .tc := ⟨.smem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v16 : Index := Scalar.indexCast arg0
  let c0_7 : Index := 0#32
  ![v16.toNat, 0]
def k0_off2 (v27 : BitVec 32) (v31 : BitVec 32) : Fin 3 → Nat :=
  let v47 : Index := Scalar.indexCast v27
  let v48 : Index := Scalar.indexCast v31
  let c0_15 : Index := 0#32
  ![v47.toNat, v48.toNat, 0]

def k0_chk1 (v27 : BitVec 32) (v31 : BitVec 32) : Prop :=
  (∀ a, (k0_off2 v27 v31) a + S1x80x128.size a ≤ S20x128x128.size a)
theorem k0_off2_inb : ∀ (v27 : BitVec 32) (v31 : BitVec 32) (k0_hw1 : k0_chk1 v27 v31), ∀ a, (k0_off2 v27 v31) a + S1x80x128.size a ≤ S20x128x128.size a := fun v27 v31 k0_hw1 => k0_hw1

def k0_off3 (v25 : BitVec 32) (v27 : BitVec 32) : Fin 3 → Nat :=
  let v59 : Index := Scalar.indexCast v27
  let v60 : Index := Scalar.indexCast v25
  let c0_17 : Index := 0#32
  ![v59.toNat, v60.toNat, 0]

def k0_chk2 (v25 : BitVec 32) (v27 : BitVec 32) : Prop :=
  (∀ a, (k0_off3 v25 v27) a + S1x1x128.size a ≤ S20x128x128.size a)
theorem k0_off3_inb : ∀ (v25 : BitVec 32) (v27 : BitVec 32) (k0_hw2 : k0_chk2 v25 v27), ∀ a, (k0_off3 v25 v27) a + S1x1x128.size a ≤ S20x128x128.size a := fun v25 v27 k0_hw2 => k0_hw2

def k0_off4 (v25 : BitVec 32) : Fin 3 → Nat :=
  let c0_21 : Index := 0#32
  let v73 : Index := Scalar.indexCast v25
  let c0_22 : Index := 0#32
  ![0, v73.toNat, 0]

def k0_off5 (i : grid0.Coords) : Fin 2 → Nat :=
  let arg0 : BitVec 32 := BitVec.ofNat 32 (i 0).val
  let v76 : Index := Scalar.indexCast arg0
  let c0_23 : Index := 0#32
  ![v76.toNat, 0]
def k0_off6 (v25 : BitVec 32) : Fin 3 → Nat :=
  let c1 : Index := 1#32
  let v84 : Index := Scalar.indexCast v25
  let c0_26 : Index := 0#32
  ![1, v84.toNat, 0]
def k0_off7 (v25 : BitVec 32) : Fin 3 → Nat :=
  let c2 : Index := 2#32
  let v95 : Index := Scalar.indexCast v25
  let c0_30 : Index := 0#32
  ![2, v95.toNat, 0]
def k0_off8 (v25 : BitVec 32) : Fin 3 → Nat :=
  let c3 : Index := 3#32
  let v106 : Index := Scalar.indexCast v25
  let c0_34 : Index := 0#32
  ![3, v106.toNat, 0]

def k0_chk3 (v25 : BitVec 32) : Prop :=
  (∀ a, (k0_off4 v25) a + S1x1x128.size a ≤ S4x128x128.size a) ∧
  (∀ a, (k0_off6 v25) a + S1x1x128.size a ≤ S4x128x128.size a) ∧
  (∀ a, (k0_off7 v25) a + S1x1x128.size a ≤ S4x128x128.size a) ∧
  (∀ a, (k0_off8 v25) a + S1x1x128.size a ≤ S4x128x128.size a)
theorem k0_off4_inb : ∀ (v25 : BitVec 32) (k0_hw3 : k0_chk3 v25), ∀ a, (k0_off4 v25) a + S1x1x128.size a ≤ S4x128x128.size a := fun v25 k0_hw3 => k0_hw3.1
theorem k0_off6_inb : ∀ (v25 : BitVec 32) (k0_hw3 : k0_chk3 v25), ∀ a, (k0_off6 v25) a + S1x1x128.size a ≤ S4x128x128.size a := fun v25 k0_hw3 => k0_hw3.2.1
theorem k0_off7_inb : ∀ (v25 : BitVec 32) (k0_hw3 : k0_chk3 v25), ∀ a, (k0_off7 v25) a + S1x1x128.size a ≤ S4x128x128.size a := fun v25 k0_hw3 => k0_hw3.2.2.1
theorem k0_off8_inb : ∀ (v25 : BitVec 32) (k0_hw3 : k0_chk3 v25), ∀ a, (k0_off8 v25) a + S1x1x128.size a ≤ S4x128x128.size a := fun v25 k0_hw3 => k0_hw3.2.2.2

def k0_off9 (i : grid0.Coords) : Fin 2 → Nat :=
  let arg0 : BitVec 32 := BitVec.ofNat 32 (i 0).val
  let v117 : Index := Scalar.indexCast arg0
  let c1_38 : Index := 1#32
  ![v117.toNat, 1]
def k0_off10 (v128 : BitVec 32) (v132 : BitVec 32) : Fin 3 → Nat :=
  let v148 : Index := Scalar.indexCast v128
  let v149 : Index := Scalar.indexCast v132
  let c0_46 : Index := 0#32
  ![v148.toNat, v149.toNat, 0]

def k0_chk4 (v128 : BitVec 32) (v132 : BitVec 32) : Prop :=
  (∀ a, (k0_off10 v128 v132) a + S1x80x128.size a ≤ S20x128x128.size a)
theorem k0_off10_inb : ∀ (v128 : BitVec 32) (v132 : BitVec 32) (k0_hw4 : k0_chk4 v128 v132), ∀ a, (k0_off10 v128 v132) a + S1x80x128.size a ≤ S20x128x128.size a := fun v128 v132 k0_hw4 => k0_hw4

def k0_off11 (v126 : BitVec 32) (v128 : BitVec 32) : Fin 3 → Nat :=
  let v160 : Index := Scalar.indexCast v128
  let v161 : Index := Scalar.indexCast v126
  let c0_48 : Index := 0#32
  ![v160.toNat, v161.toNat, 0]

def k0_chk5 (v126 : BitVec 32) (v128 : BitVec 32) : Prop :=
  (∀ a, (k0_off11 v126 v128) a + S1x1x128.size a ≤ S20x128x128.size a)
theorem k0_off11_inb : ∀ (v126 : BitVec 32) (v128 : BitVec 32) (k0_hw5 : k0_chk5 v126 v128), ∀ a, (k0_off11 v126 v128) a + S1x1x128.size a ≤ S20x128x128.size a := fun v126 v128 k0_hw5 => k0_hw5

def k0_off12 (v126 : BitVec 32) : Fin 3 → Nat :=
  let c0_52 : Index := 0#32
  let v174 : Index := Scalar.indexCast v126
  let c0_53 : Index := 0#32
  ![0, v174.toNat, 0]

def k0_off13 (i : grid0.Coords) : Fin 2 → Nat :=
  let arg0 : BitVec 32 := BitVec.ofNat 32 (i 0).val
  let v177 : Index := Scalar.indexCast arg0
  let c1_54 : Index := 1#32
  ![v177.toNat, 1]
def k0_off14 (v126 : BitVec 32) : Fin 3 → Nat :=
  let c1_57 : Index := 1#32
  let v185 : Index := Scalar.indexCast v126
  let c0_58 : Index := 0#32
  ![1, v185.toNat, 0]
def k0_off15 (v126 : BitVec 32) : Fin 3 → Nat :=
  let c2_62 : Index := 2#32
  let v196 : Index := Scalar.indexCast v126
  let c0_63 : Index := 0#32
  ![2, v196.toNat, 0]
def k0_off16 (v126 : BitVec 32) : Fin 3 → Nat :=
  let c3_67 : Index := 3#32
  let v207 : Index := Scalar.indexCast v126
  let c0_68 : Index := 0#32
  ![3, v207.toNat, 0]

def k0_chk6 (v126 : BitVec 32) : Prop :=
  (∀ a, (k0_off12 v126) a + S1x1x128.size a ≤ S4x128x128.size a) ∧
  (∀ a, (k0_off14 v126) a + S1x1x128.size a ≤ S4x128x128.size a) ∧
  (∀ a, (k0_off15 v126) a + S1x1x128.size a ≤ S4x128x128.size a) ∧
  (∀ a, (k0_off16 v126) a + S1x1x128.size a ≤ S4x128x128.size a)
theorem k0_off12_inb : ∀ (v126 : BitVec 32) (k0_hw6 : k0_chk6 v126), ∀ a, (k0_off12 v126) a + S1x1x128.size a ≤ S4x128x128.size a := fun v126 k0_hw6 => k0_hw6.1
theorem k0_off14_inb : ∀ (v126 : BitVec 32) (k0_hw6 : k0_chk6 v126), ∀ a, (k0_off14 v126) a + S1x1x128.size a ≤ S4x128x128.size a := fun v126 k0_hw6 => k0_hw6.2.1
theorem k0_off15_inb : ∀ (v126 : BitVec 32) (k0_hw6 : k0_chk6 v126), ∀ a, (k0_off15 v126) a + S1x1x128.size a ≤ S4x128x128.size a := fun v126 k0_hw6 => k0_hw6.2.2.1
theorem k0_off16_inb : ∀ (v126 : BitVec 32) (k0_hw6 : k0_chk6 v126), ∀ a, (k0_off16 v126) a + S1x1x128.size a ≤ S4x128x128.size a := fun v126 k0_hw6 => k0_hw6.2.2.2

def k0_off17 (i : grid0.Coords) : Fin 2 → Nat :=
  let arg0 : BitVec 32 := BitVec.ofNat 32 (i 0).val
  let v218 : Index := Scalar.indexCast arg0
  let c2_72 : Index := 2#32
  ![v218.toNat, 2]
def k0_off18 (v229 : BitVec 32) (v233 : BitVec 32) : Fin 3 → Nat :=
  let v249 : Index := Scalar.indexCast v229
  let v250 : Index := Scalar.indexCast v233
  let c0_80 : Index := 0#32
  ![v249.toNat, v250.toNat, 0]

def k0_chk7 (v229 : BitVec 32) (v233 : BitVec 32) : Prop :=
  (∀ a, (k0_off18 v229 v233) a + S1x80x128.size a ≤ S20x128x128.size a)
theorem k0_off18_inb : ∀ (v229 : BitVec 32) (v233 : BitVec 32) (k0_hw7 : k0_chk7 v229 v233), ∀ a, (k0_off18 v229 v233) a + S1x80x128.size a ≤ S20x128x128.size a := fun v229 v233 k0_hw7 => k0_hw7

def k0_off19 (v227 : BitVec 32) (v229 : BitVec 32) : Fin 3 → Nat :=
  let v261 : Index := Scalar.indexCast v229
  let v262 : Index := Scalar.indexCast v227
  let c0_82 : Index := 0#32
  ![v261.toNat, v262.toNat, 0]

def k0_chk8 (v227 : BitVec 32) (v229 : BitVec 32) : Prop :=
  (∀ a, (k0_off19 v227 v229) a + S1x1x128.size a ≤ S20x128x128.size a)
theorem k0_off19_inb : ∀ (v227 : BitVec 32) (v229 : BitVec 32) (k0_hw8 : k0_chk8 v227 v229), ∀ a, (k0_off19 v227 v229) a + S1x1x128.size a ≤ S20x128x128.size a := fun v227 v229 k0_hw8 => k0_hw8

def k0_off20 (v227 : BitVec 32) : Fin 3 → Nat :=
  let c0_86 : Index := 0#32
  let v275 : Index := Scalar.indexCast v227
  let c0_87 : Index := 0#32
  ![0, v275.toNat, 0]

def k0_off21 (i : grid0.Coords) : Fin 2 → Nat :=
  let arg0 : BitVec 32 := BitVec.ofNat 32 (i 0).val
  let v278 : Index := Scalar.indexCast arg0
  let c2_88 : Index := 2#32
  ![v278.toNat, 2]
def k0_off22 (v227 : BitVec 32) : Fin 3 → Nat :=
  let c1_91 : Index := 1#32
  let v286 : Index := Scalar.indexCast v227
  let c0_92 : Index := 0#32
  ![1, v286.toNat, 0]
def k0_off23 (v227 : BitVec 32) : Fin 3 → Nat :=
  let c2_96 : Index := 2#32
  let v297 : Index := Scalar.indexCast v227
  let c0_97 : Index := 0#32
  ![2, v297.toNat, 0]
def k0_off24 (v227 : BitVec 32) : Fin 3 → Nat :=
  let c3_101 : Index := 3#32
  let v308 : Index := Scalar.indexCast v227
  let c0_102 : Index := 0#32
  ![3, v308.toNat, 0]

def k0_chk9 (v227 : BitVec 32) : Prop :=
  (∀ a, (k0_off20 v227) a + S1x1x128.size a ≤ S4x128x128.size a) ∧
  (∀ a, (k0_off22 v227) a + S1x1x128.size a ≤ S4x128x128.size a) ∧
  (∀ a, (k0_off23 v227) a + S1x1x128.size a ≤ S4x128x128.size a) ∧
  (∀ a, (k0_off24 v227) a + S1x1x128.size a ≤ S4x128x128.size a)
theorem k0_off20_inb : ∀ (v227 : BitVec 32) (k0_hw9 : k0_chk9 v227), ∀ a, (k0_off20 v227) a + S1x1x128.size a ≤ S4x128x128.size a := fun v227 k0_hw9 => k0_hw9.1
theorem k0_off22_inb : ∀ (v227 : BitVec 32) (k0_hw9 : k0_chk9 v227), ∀ a, (k0_off22 v227) a + S1x1x128.size a ≤ S4x128x128.size a := fun v227 k0_hw9 => k0_hw9.2.1
theorem k0_off23_inb : ∀ (v227 : BitVec 32) (k0_hw9 : k0_chk9 v227), ∀ a, (k0_off23 v227) a + S1x1x128.size a ≤ S4x128x128.size a := fun v227 k0_hw9 => k0_hw9.2.2.1
theorem k0_off24_inb : ∀ (v227 : BitVec 32) (k0_hw9 : k0_chk9 v227), ∀ a, (k0_off24 v227) a + S1x1x128.size a ≤ S4x128x128.size a := fun v227 k0_hw9 => k0_hw9.2.2.2

def k0_off25 (i : grid0.Coords) : Fin 2 → Nat :=
  let arg0 : BitVec 32 := BitVec.ofNat 32 (i 0).val
  let v319 : Index := Scalar.indexCast arg0
  let c3_106 : Index := 3#32
  ![v319.toNat, 3]
def k0_off26 (v330 : BitVec 32) (v334 : BitVec 32) : Fin 3 → Nat :=
  let v350 : Index := Scalar.indexCast v330
  let v351 : Index := Scalar.indexCast v334
  let c0_114 : Index := 0#32
  ![v350.toNat, v351.toNat, 0]

def k0_chk10 (v330 : BitVec 32) (v334 : BitVec 32) : Prop :=
  (∀ a, (k0_off26 v330 v334) a + S1x80x128.size a ≤ S20x128x128.size a)
theorem k0_off26_inb : ∀ (v330 : BitVec 32) (v334 : BitVec 32) (k0_hw10 : k0_chk10 v330 v334), ∀ a, (k0_off26 v330 v334) a + S1x80x128.size a ≤ S20x128x128.size a := fun v330 v334 k0_hw10 => k0_hw10

def k0_off27 (v328 : BitVec 32) (v330 : BitVec 32) : Fin 3 → Nat :=
  let v362 : Index := Scalar.indexCast v330
  let v363 : Index := Scalar.indexCast v328
  let c0_116 : Index := 0#32
  ![v362.toNat, v363.toNat, 0]

def k0_chk11 (v328 : BitVec 32) (v330 : BitVec 32) : Prop :=
  (∀ a, (k0_off27 v328 v330) a + S1x1x128.size a ≤ S20x128x128.size a)
theorem k0_off27_inb : ∀ (v328 : BitVec 32) (v330 : BitVec 32) (k0_hw11 : k0_chk11 v328 v330), ∀ a, (k0_off27 v328 v330) a + S1x1x128.size a ≤ S20x128x128.size a := fun v328 v330 k0_hw11 => k0_hw11

def k0_off28 (v328 : BitVec 32) : Fin 3 → Nat :=
  let c0_120 : Index := 0#32
  let v376 : Index := Scalar.indexCast v328
  let c0_121 : Index := 0#32
  ![0, v376.toNat, 0]

def k0_off29 (i : grid0.Coords) : Fin 2 → Nat :=
  let arg0 : BitVec 32 := BitVec.ofNat 32 (i 0).val
  let v379 : Index := Scalar.indexCast arg0
  let c3_122 : Index := 3#32
  ![v379.toNat, 3]
def k0_off30 (v328 : BitVec 32) : Fin 3 → Nat :=
  let c1_125 : Index := 1#32
  let v387 : Index := Scalar.indexCast v328
  let c0_126 : Index := 0#32
  ![1, v387.toNat, 0]
def k0_off31 (v328 : BitVec 32) : Fin 3 → Nat :=
  let c2_130 : Index := 2#32
  let v398 : Index := Scalar.indexCast v328
  let c0_131 : Index := 0#32
  ![2, v398.toNat, 0]
def k0_off32 (v328 : BitVec 32) : Fin 3 → Nat :=
  let c3_135 : Index := 3#32
  let v409 : Index := Scalar.indexCast v328
  let c0_136 : Index := 0#32
  ![3, v409.toNat, 0]

def k0_chk12 (v328 : BitVec 32) : Prop :=
  (∀ a, (k0_off28 v328) a + S1x1x128.size a ≤ S4x128x128.size a) ∧
  (∀ a, (k0_off30 v328) a + S1x1x128.size a ≤ S4x128x128.size a) ∧
  (∀ a, (k0_off31 v328) a + S1x1x128.size a ≤ S4x128x128.size a) ∧
  (∀ a, (k0_off32 v328) a + S1x1x128.size a ≤ S4x128x128.size a)
theorem k0_off28_inb : ∀ (v328 : BitVec 32) (k0_hw12 : k0_chk12 v328), ∀ a, (k0_off28 v328) a + S1x1x128.size a ≤ S4x128x128.size a := fun v328 k0_hw12 => k0_hw12.1
theorem k0_off30_inb : ∀ (v328 : BitVec 32) (k0_hw12 : k0_chk12 v328), ∀ a, (k0_off30 v328) a + S1x1x128.size a ≤ S4x128x128.size a := fun v328 k0_hw12 => k0_hw12.2.1
theorem k0_off31_inb : ∀ (v328 : BitVec 32) (k0_hw12 : k0_chk12 v328), ∀ a, (k0_off31 v328) a + S1x1x128.size a ≤ S4x128x128.size a := fun v328 k0_hw12 => k0_hw12.2.2.1
theorem k0_off32_inb : ∀ (v328 : BitVec 32) (k0_hw12 : k0_chk12 v328), ∀ a, (k0_off32 v328) a + S1x1x128.size a ≤ S4x128x128.size a := fun v328 k0_hw12 => k0_hw12.2.2.2

def k0_off33 (i : grid0.Coords) : Fin 2 → Nat :=
  let arg0 : BitVec 32 := BitVec.ofNat 32 (i 0).val
  let v420 : Index := Scalar.indexCast arg0
  let c4 : Index := 4#32
  ![v420.toNat, 4]
def k0_off34 (v431 : BitVec 32) (v435 : BitVec 32) : Fin 3 → Nat :=
  let v451 : Index := Scalar.indexCast v431
  let v452 : Index := Scalar.indexCast v435
  let c0_147 : Index := 0#32
  ![v451.toNat, v452.toNat, 0]

def k0_chk13 (v431 : BitVec 32) (v435 : BitVec 32) : Prop :=
  (∀ a, (k0_off34 v431 v435) a + S1x80x128.size a ≤ S20x128x128.size a)
theorem k0_off34_inb : ∀ (v431 : BitVec 32) (v435 : BitVec 32) (k0_hw13 : k0_chk13 v431 v435), ∀ a, (k0_off34 v431 v435) a + S1x80x128.size a ≤ S20x128x128.size a := fun v431 v435 k0_hw13 => k0_hw13

def k0_off35 (v429 : BitVec 32) (v431 : BitVec 32) : Fin 3 → Nat :=
  let v463 : Index := Scalar.indexCast v431
  let v464 : Index := Scalar.indexCast v429
  let c0_149 : Index := 0#32
  ![v463.toNat, v464.toNat, 0]

def k0_chk14 (v429 : BitVec 32) (v431 : BitVec 32) : Prop :=
  (∀ a, (k0_off35 v429 v431) a + S1x1x128.size a ≤ S20x128x128.size a)
theorem k0_off35_inb : ∀ (v429 : BitVec 32) (v431 : BitVec 32) (k0_hw14 : k0_chk14 v429 v431), ∀ a, (k0_off35 v429 v431) a + S1x1x128.size a ≤ S20x128x128.size a := fun v429 v431 k0_hw14 => k0_hw14

def k0_off36 (v429 : BitVec 32) : Fin 3 → Nat :=
  let c0_153 : Index := 0#32
  let v477 : Index := Scalar.indexCast v429
  let c0_154 : Index := 0#32
  ![0, v477.toNat, 0]

def k0_off37 (i : grid0.Coords) : Fin 2 → Nat :=
  let arg0 : BitVec 32 := BitVec.ofNat 32 (i 0).val
  let v480 : Index := Scalar.indexCast arg0
  let c4_155 : Index := 4#32
  ![v480.toNat, 4]
def k0_off38 (v429 : BitVec 32) : Fin 3 → Nat :=
  let c1_158 : Index := 1#32
  let v488 : Index := Scalar.indexCast v429
  let c0_159 : Index := 0#32
  ![1, v488.toNat, 0]
def k0_off39 (v429 : BitVec 32) : Fin 3 → Nat :=
  let c2_163 : Index := 2#32
  let v499 : Index := Scalar.indexCast v429
  let c0_164 : Index := 0#32
  ![2, v499.toNat, 0]
def k0_off40 (v429 : BitVec 32) : Fin 3 → Nat :=
  let c3_168 : Index := 3#32
  let v510 : Index := Scalar.indexCast v429
  let c0_169 : Index := 0#32
  ![3, v510.toNat, 0]

def k0_chk15 (v429 : BitVec 32) : Prop :=
  (∀ a, (k0_off36 v429) a + S1x1x128.size a ≤ S4x128x128.size a) ∧
  (∀ a, (k0_off38 v429) a + S1x1x128.size a ≤ S4x128x128.size a) ∧
  (∀ a, (k0_off39 v429) a + S1x1x128.size a ≤ S4x128x128.size a) ∧
  (∀ a, (k0_off40 v429) a + S1x1x128.size a ≤ S4x128x128.size a)
theorem k0_off36_inb : ∀ (v429 : BitVec 32) (k0_hw15 : k0_chk15 v429), ∀ a, (k0_off36 v429) a + S1x1x128.size a ≤ S4x128x128.size a := fun v429 k0_hw15 => k0_hw15.1
theorem k0_off38_inb : ∀ (v429 : BitVec 32) (k0_hw15 : k0_chk15 v429), ∀ a, (k0_off38 v429) a + S1x1x128.size a ≤ S4x128x128.size a := fun v429 k0_hw15 => k0_hw15.2.1
theorem k0_off39_inb : ∀ (v429 : BitVec 32) (k0_hw15 : k0_chk15 v429), ∀ a, (k0_off39 v429) a + S1x1x128.size a ≤ S4x128x128.size a := fun v429 k0_hw15 => k0_hw15.2.2.1
theorem k0_off40_inb : ∀ (v429 : BitVec 32) (k0_hw15 : k0_chk15 v429), ∀ a, (k0_off40 v429) a + S1x1x128.size a ≤ S4x128x128.size a := fun v429 k0_hw15 => k0_hw15.2.2.2

def k0_off41 (i : grid0.Coords) : Fin 2 → Nat :=
  let arg0 : BitVec 32 := BitVec.ofNat 32 (i 0).val
  let v521 : Index := Scalar.indexCast arg0
  let c5 : Index := 5#32
  ![v521.toNat, 5]
def k0_off42 (v532 : BitVec 32) (v536 : BitVec 32) : Fin 3 → Nat :=
  let v552 : Index := Scalar.indexCast v532
  let v553 : Index := Scalar.indexCast v536
  let c0_180 : Index := 0#32
  ![v552.toNat, v553.toNat, 0]

def k0_chk16 (v532 : BitVec 32) (v536 : BitVec 32) : Prop :=
  (∀ a, (k0_off42 v532 v536) a + S1x80x128.size a ≤ S20x128x128.size a)
theorem k0_off42_inb : ∀ (v532 : BitVec 32) (v536 : BitVec 32) (k0_hw16 : k0_chk16 v532 v536), ∀ a, (k0_off42 v532 v536) a + S1x80x128.size a ≤ S20x128x128.size a := fun v532 v536 k0_hw16 => k0_hw16

def k0_off43 (v530 : BitVec 32) (v532 : BitVec 32) : Fin 3 → Nat :=
  let v564 : Index := Scalar.indexCast v532
  let v565 : Index := Scalar.indexCast v530
  let c0_182 : Index := 0#32
  ![v564.toNat, v565.toNat, 0]

def k0_chk17 (v530 : BitVec 32) (v532 : BitVec 32) : Prop :=
  (∀ a, (k0_off43 v530 v532) a + S1x1x128.size a ≤ S20x128x128.size a)
theorem k0_off43_inb : ∀ (v530 : BitVec 32) (v532 : BitVec 32) (k0_hw17 : k0_chk17 v530 v532), ∀ a, (k0_off43 v530 v532) a + S1x1x128.size a ≤ S20x128x128.size a := fun v530 v532 k0_hw17 => k0_hw17

def k0_off44 (v530 : BitVec 32) : Fin 3 → Nat :=
  let c0_186 : Index := 0#32
  let v578 : Index := Scalar.indexCast v530
  let c0_187 : Index := 0#32
  ![0, v578.toNat, 0]

def k0_off45 (i : grid0.Coords) : Fin 2 → Nat :=
  let arg0 : BitVec 32 := BitVec.ofNat 32 (i 0).val
  let v581 : Index := Scalar.indexCast arg0
  let c5_188 : Index := 5#32
  ![v581.toNat, 5]
def k0_off46 (v530 : BitVec 32) : Fin 3 → Nat :=
  let c1_191 : Index := 1#32
  let v589 : Index := Scalar.indexCast v530
  let c0_192 : Index := 0#32
  ![1, v589.toNat, 0]
def k0_off47 (v530 : BitVec 32) : Fin 3 → Nat :=
  let c2_196 : Index := 2#32
  let v600 : Index := Scalar.indexCast v530
  let c0_197 : Index := 0#32
  ![2, v600.toNat, 0]
def k0_off48 (v530 : BitVec 32) : Fin 3 → Nat :=
  let c3_201 : Index := 3#32
  let v611 : Index := Scalar.indexCast v530
  let c0_202 : Index := 0#32
  ![3, v611.toNat, 0]

def k0_chk18 (v530 : BitVec 32) : Prop :=
  (∀ a, (k0_off44 v530) a + S1x1x128.size a ≤ S4x128x128.size a) ∧
  (∀ a, (k0_off46 v530) a + S1x1x128.size a ≤ S4x128x128.size a) ∧
  (∀ a, (k0_off47 v530) a + S1x1x128.size a ≤ S4x128x128.size a) ∧
  (∀ a, (k0_off48 v530) a + S1x1x128.size a ≤ S4x128x128.size a)
theorem k0_off44_inb : ∀ (v530 : BitVec 32) (k0_hw18 : k0_chk18 v530), ∀ a, (k0_off44 v530) a + S1x1x128.size a ≤ S4x128x128.size a := fun v530 k0_hw18 => k0_hw18.1
theorem k0_off46_inb : ∀ (v530 : BitVec 32) (k0_hw18 : k0_chk18 v530), ∀ a, (k0_off46 v530) a + S1x1x128.size a ≤ S4x128x128.size a := fun v530 k0_hw18 => k0_hw18.2.1
theorem k0_off47_inb : ∀ (v530 : BitVec 32) (k0_hw18 : k0_chk18 v530), ∀ a, (k0_off47 v530) a + S1x1x128.size a ≤ S4x128x128.size a := fun v530 k0_hw18 => k0_hw18.2.2.1
theorem k0_off48_inb : ∀ (v530 : BitVec 32) (k0_hw18 : k0_chk18 v530), ∀ a, (k0_off48 v530) a + S1x1x128.size a ≤ S4x128x128.size a := fun v530 k0_hw18 => k0_hw18.2.2.2

def k0_off49 (i : grid0.Coords) : Fin 2 → Nat :=
  let arg0 : BitVec 32 := BitVec.ofNat 32 (i 0).val
  let v622 : Index := Scalar.indexCast arg0
  let c6 : Index := 6#32
  ![v622.toNat, 6]
def k0_off50 (v633 : BitVec 32) (v637 : BitVec 32) : Fin 3 → Nat :=
  let v653 : Index := Scalar.indexCast v633
  let v654 : Index := Scalar.indexCast v637
  let c0_213 : Index := 0#32
  ![v653.toNat, v654.toNat, 0]

def k0_chk19 (v633 : BitVec 32) (v637 : BitVec 32) : Prop :=
  (∀ a, (k0_off50 v633 v637) a + S1x80x128.size a ≤ S20x128x128.size a)
theorem k0_off50_inb : ∀ (v633 : BitVec 32) (v637 : BitVec 32) (k0_hw19 : k0_chk19 v633 v637), ∀ a, (k0_off50 v633 v637) a + S1x80x128.size a ≤ S20x128x128.size a := fun v633 v637 k0_hw19 => k0_hw19

def k0_off51 (v631 : BitVec 32) (v633 : BitVec 32) : Fin 3 → Nat :=
  let v665 : Index := Scalar.indexCast v633
  let v666 : Index := Scalar.indexCast v631
  let c0_215 : Index := 0#32
  ![v665.toNat, v666.toNat, 0]

def k0_chk20 (v631 : BitVec 32) (v633 : BitVec 32) : Prop :=
  (∀ a, (k0_off51 v631 v633) a + S1x1x128.size a ≤ S20x128x128.size a)
theorem k0_off51_inb : ∀ (v631 : BitVec 32) (v633 : BitVec 32) (k0_hw20 : k0_chk20 v631 v633), ∀ a, (k0_off51 v631 v633) a + S1x1x128.size a ≤ S20x128x128.size a := fun v631 v633 k0_hw20 => k0_hw20

def k0_off52 (v631 : BitVec 32) : Fin 3 → Nat :=
  let c0_219 : Index := 0#32
  let v679 : Index := Scalar.indexCast v631
  let c0_220 : Index := 0#32
  ![0, v679.toNat, 0]

def k0_off53 (i : grid0.Coords) : Fin 2 → Nat :=
  let arg0 : BitVec 32 := BitVec.ofNat 32 (i 0).val
  let v682 : Index := Scalar.indexCast arg0
  let c6_221 : Index := 6#32
  ![v682.toNat, 6]
def k0_off54 (v631 : BitVec 32) : Fin 3 → Nat :=
  let c1_224 : Index := 1#32
  let v690 : Index := Scalar.indexCast v631
  let c0_225 : Index := 0#32
  ![1, v690.toNat, 0]
def k0_off55 (v631 : BitVec 32) : Fin 3 → Nat :=
  let c2_229 : Index := 2#32
  let v701 : Index := Scalar.indexCast v631
  let c0_230 : Index := 0#32
  ![2, v701.toNat, 0]
def k0_off56 (v631 : BitVec 32) : Fin 3 → Nat :=
  let c3_234 : Index := 3#32
  let v712 : Index := Scalar.indexCast v631
  let c0_235 : Index := 0#32
  ![3, v712.toNat, 0]

def k0_chk21 (v631 : BitVec 32) : Prop :=
  (∀ a, (k0_off52 v631) a + S1x1x128.size a ≤ S4x128x128.size a) ∧
  (∀ a, (k0_off54 v631) a + S1x1x128.size a ≤ S4x128x128.size a) ∧
  (∀ a, (k0_off55 v631) a + S1x1x128.size a ≤ S4x128x128.size a) ∧
  (∀ a, (k0_off56 v631) a + S1x1x128.size a ≤ S4x128x128.size a)
theorem k0_off52_inb : ∀ (v631 : BitVec 32) (k0_hw21 : k0_chk21 v631), ∀ a, (k0_off52 v631) a + S1x1x128.size a ≤ S4x128x128.size a := fun v631 k0_hw21 => k0_hw21.1
theorem k0_off54_inb : ∀ (v631 : BitVec 32) (k0_hw21 : k0_chk21 v631), ∀ a, (k0_off54 v631) a + S1x1x128.size a ≤ S4x128x128.size a := fun v631 k0_hw21 => k0_hw21.2.1
theorem k0_off55_inb : ∀ (v631 : BitVec 32) (k0_hw21 : k0_chk21 v631), ∀ a, (k0_off55 v631) a + S1x1x128.size a ≤ S4x128x128.size a := fun v631 k0_hw21 => k0_hw21.2.2.1
theorem k0_off56_inb : ∀ (v631 : BitVec 32) (k0_hw21 : k0_chk21 v631), ∀ a, (k0_off56 v631) a + S1x1x128.size a ≤ S4x128x128.size a := fun v631 k0_hw21 => k0_hw21.2.2.2

def k0_off57 (i : grid0.Coords) : Fin 2 → Nat :=
  let arg0 : BitVec 32 := BitVec.ofNat 32 (i 0).val
  let v723 : Index := Scalar.indexCast arg0
  let c7 : Index := 7#32
  ![v723.toNat, 7]
def k0_off58 (v734 : BitVec 32) (v738 : BitVec 32) : Fin 3 → Nat :=
  let v754 : Index := Scalar.indexCast v734
  let v755 : Index := Scalar.indexCast v738
  let c0_246 : Index := 0#32
  ![v754.toNat, v755.toNat, 0]

def k0_chk22 (v734 : BitVec 32) (v738 : BitVec 32) : Prop :=
  (∀ a, (k0_off58 v734 v738) a + S1x80x128.size a ≤ S20x128x128.size a)
theorem k0_off58_inb : ∀ (v734 : BitVec 32) (v738 : BitVec 32) (k0_hw22 : k0_chk22 v734 v738), ∀ a, (k0_off58 v734 v738) a + S1x80x128.size a ≤ S20x128x128.size a := fun v734 v738 k0_hw22 => k0_hw22

def k0_off59 (v732 : BitVec 32) (v734 : BitVec 32) : Fin 3 → Nat :=
  let v766 : Index := Scalar.indexCast v734
  let v767 : Index := Scalar.indexCast v732
  let c0_248 : Index := 0#32
  ![v766.toNat, v767.toNat, 0]

def k0_chk23 (v732 : BitVec 32) (v734 : BitVec 32) : Prop :=
  (∀ a, (k0_off59 v732 v734) a + S1x1x128.size a ≤ S20x128x128.size a)
theorem k0_off59_inb : ∀ (v732 : BitVec 32) (v734 : BitVec 32) (k0_hw23 : k0_chk23 v732 v734), ∀ a, (k0_off59 v732 v734) a + S1x1x128.size a ≤ S20x128x128.size a := fun v732 v734 k0_hw23 => k0_hw23

def k0_off60 (v732 : BitVec 32) : Fin 3 → Nat :=
  let c0_252 : Index := 0#32
  let v780 : Index := Scalar.indexCast v732
  let c0_253 : Index := 0#32
  ![0, v780.toNat, 0]

def k0_off61 (i : grid0.Coords) : Fin 2 → Nat :=
  let arg0 : BitVec 32 := BitVec.ofNat 32 (i 0).val
  let v783 : Index := Scalar.indexCast arg0
  let c7_254 : Index := 7#32
  ![v783.toNat, 7]
def k0_off62 (v732 : BitVec 32) : Fin 3 → Nat :=
  let c1_257 : Index := 1#32
  let v791 : Index := Scalar.indexCast v732
  let c0_258 : Index := 0#32
  ![1, v791.toNat, 0]
def k0_off63 (v732 : BitVec 32) : Fin 3 → Nat :=
  let c2_262 : Index := 2#32
  let v802 : Index := Scalar.indexCast v732
  let c0_263 : Index := 0#32
  ![2, v802.toNat, 0]
def k0_off64 (v732 : BitVec 32) : Fin 3 → Nat :=
  let c3_267 : Index := 3#32
  let v813 : Index := Scalar.indexCast v732
  let c0_268 : Index := 0#32
  ![3, v813.toNat, 0]

def k0_chk24 (v732 : BitVec 32) : Prop :=
  (∀ a, (k0_off60 v732) a + S1x1x128.size a ≤ S4x128x128.size a) ∧
  (∀ a, (k0_off62 v732) a + S1x1x128.size a ≤ S4x128x128.size a) ∧
  (∀ a, (k0_off63 v732) a + S1x1x128.size a ≤ S4x128x128.size a) ∧
  (∀ a, (k0_off64 v732) a + S1x1x128.size a ≤ S4x128x128.size a)
theorem k0_off60_inb : ∀ (v732 : BitVec 32) (k0_hw24 : k0_chk24 v732), ∀ a, (k0_off60 v732) a + S1x1x128.size a ≤ S4x128x128.size a := fun v732 k0_hw24 => k0_hw24.1
theorem k0_off62_inb : ∀ (v732 : BitVec 32) (k0_hw24 : k0_chk24 v732), ∀ a, (k0_off62 v732) a + S1x1x128.size a ≤ S4x128x128.size a := fun v732 k0_hw24 => k0_hw24.2.1
theorem k0_off63_inb : ∀ (v732 : BitVec 32) (k0_hw24 : k0_chk24 v732), ∀ a, (k0_off63 v732) a + S1x1x128.size a ≤ S4x128x128.size a := fun v732 k0_hw24 => k0_hw24.2.2.1
theorem k0_off64_inb : ∀ (v732 : BitVec 32) (k0_hw24 : k0_chk24 v732), ∀ a, (k0_off64 v732) a + S1x1x128.size a ≤ S4x128x128.size a := fun v732 k0_hw24 => k0_hw24.2.2.2

def k0_off65 (i : grid0.Coords) : Fin 2 → Nat :=
  let arg0 : BitVec 32 := BitVec.ofNat 32 (i 0).val
  let v824 : Index := Scalar.indexCast arg0
  let c8 : Index := 8#32
  ![v824.toNat, 8]
def k0_off66 (v835 : BitVec 32) (v839 : BitVec 32) : Fin 3 → Nat :=
  let v855 : Index := Scalar.indexCast v835
  let v856 : Index := Scalar.indexCast v839
  let c0_279 : Index := 0#32
  ![v855.toNat, v856.toNat, 0]

def k0_chk25 (v835 : BitVec 32) (v839 : BitVec 32) : Prop :=
  (∀ a, (k0_off66 v835 v839) a + S1x80x128.size a ≤ S20x128x128.size a)
theorem k0_off66_inb : ∀ (v835 : BitVec 32) (v839 : BitVec 32) (k0_hw25 : k0_chk25 v835 v839), ∀ a, (k0_off66 v835 v839) a + S1x80x128.size a ≤ S20x128x128.size a := fun v835 v839 k0_hw25 => k0_hw25

def k0_off67 (v833 : BitVec 32) (v835 : BitVec 32) : Fin 3 → Nat :=
  let v867 : Index := Scalar.indexCast v835
  let v868 : Index := Scalar.indexCast v833
  let c0_281 : Index := 0#32
  ![v867.toNat, v868.toNat, 0]

def k0_chk26 (v833 : BitVec 32) (v835 : BitVec 32) : Prop :=
  (∀ a, (k0_off67 v833 v835) a + S1x1x128.size a ≤ S20x128x128.size a)
theorem k0_off67_inb : ∀ (v833 : BitVec 32) (v835 : BitVec 32) (k0_hw26 : k0_chk26 v833 v835), ∀ a, (k0_off67 v833 v835) a + S1x1x128.size a ≤ S20x128x128.size a := fun v833 v835 k0_hw26 => k0_hw26

def k0_off68 (v833 : BitVec 32) : Fin 3 → Nat :=
  let c0_285 : Index := 0#32
  let v881 : Index := Scalar.indexCast v833
  let c0_286 : Index := 0#32
  ![0, v881.toNat, 0]

def k0_off69 (i : grid0.Coords) : Fin 2 → Nat :=
  let arg0 : BitVec 32 := BitVec.ofNat 32 (i 0).val
  let v884 : Index := Scalar.indexCast arg0
  let c8_287 : Index := 8#32
  ![v884.toNat, 8]
def k0_off70 (v833 : BitVec 32) : Fin 3 → Nat :=
  let c1_290 : Index := 1#32
  let v892 : Index := Scalar.indexCast v833
  let c0_291 : Index := 0#32
  ![1, v892.toNat, 0]
def k0_off71 (v833 : BitVec 32) : Fin 3 → Nat :=
  let c2_295 : Index := 2#32
  let v903 : Index := Scalar.indexCast v833
  let c0_296 : Index := 0#32
  ![2, v903.toNat, 0]
def k0_off72 (v833 : BitVec 32) : Fin 3 → Nat :=
  let c3_300 : Index := 3#32
  let v914 : Index := Scalar.indexCast v833
  let c0_301 : Index := 0#32
  ![3, v914.toNat, 0]

def k0_chk27 (v833 : BitVec 32) : Prop :=
  (∀ a, (k0_off68 v833) a + S1x1x128.size a ≤ S4x128x128.size a) ∧
  (∀ a, (k0_off70 v833) a + S1x1x128.size a ≤ S4x128x128.size a) ∧
  (∀ a, (k0_off71 v833) a + S1x1x128.size a ≤ S4x128x128.size a) ∧
  (∀ a, (k0_off72 v833) a + S1x1x128.size a ≤ S4x128x128.size a)
theorem k0_off68_inb : ∀ (v833 : BitVec 32) (k0_hw27 : k0_chk27 v833), ∀ a, (k0_off68 v833) a + S1x1x128.size a ≤ S4x128x128.size a := fun v833 k0_hw27 => k0_hw27.1
theorem k0_off70_inb : ∀ (v833 : BitVec 32) (k0_hw27 : k0_chk27 v833), ∀ a, (k0_off70 v833) a + S1x1x128.size a ≤ S4x128x128.size a := fun v833 k0_hw27 => k0_hw27.2.1
theorem k0_off71_inb : ∀ (v833 : BitVec 32) (k0_hw27 : k0_chk27 v833), ∀ a, (k0_off71 v833) a + S1x1x128.size a ≤ S4x128x128.size a := fun v833 k0_hw27 => k0_hw27.2.2.1
theorem k0_off72_inb : ∀ (v833 : BitVec 32) (k0_hw27 : k0_chk27 v833), ∀ a, (k0_off72 v833) a + S1x1x128.size a ≤ S4x128x128.size a := fun v833 k0_hw27 => k0_hw27.2.2.2

def k0_off73 (i : grid0.Coords) : Fin 2 → Nat :=
  let arg0 : BitVec 32 := BitVec.ofNat 32 (i 0).val
  let v925 : Index := Scalar.indexCast arg0
  let c9 : Index := 9#32
  ![v925.toNat, 9]
def k0_off74 (v936 : BitVec 32) (v940 : BitVec 32) : Fin 3 → Nat :=
  let v956 : Index := Scalar.indexCast v936
  let v957 : Index := Scalar.indexCast v940
  let c0_312 : Index := 0#32
  ![v956.toNat, v957.toNat, 0]

def k0_chk28 (v936 : BitVec 32) (v940 : BitVec 32) : Prop :=
  (∀ a, (k0_off74 v936 v940) a + S1x80x128.size a ≤ S20x128x128.size a)
theorem k0_off74_inb : ∀ (v936 : BitVec 32) (v940 : BitVec 32) (k0_hw28 : k0_chk28 v936 v940), ∀ a, (k0_off74 v936 v940) a + S1x80x128.size a ≤ S20x128x128.size a := fun v936 v940 k0_hw28 => k0_hw28

def k0_off75 (v934 : BitVec 32) (v936 : BitVec 32) : Fin 3 → Nat :=
  let v968 : Index := Scalar.indexCast v936
  let v969 : Index := Scalar.indexCast v934
  let c0_314 : Index := 0#32
  ![v968.toNat, v969.toNat, 0]

def k0_chk29 (v934 : BitVec 32) (v936 : BitVec 32) : Prop :=
  (∀ a, (k0_off75 v934 v936) a + S1x1x128.size a ≤ S20x128x128.size a)
theorem k0_off75_inb : ∀ (v934 : BitVec 32) (v936 : BitVec 32) (k0_hw29 : k0_chk29 v934 v936), ∀ a, (k0_off75 v934 v936) a + S1x1x128.size a ≤ S20x128x128.size a := fun v934 v936 k0_hw29 => k0_hw29

def k0_off76 (v934 : BitVec 32) : Fin 3 → Nat :=
  let c0_318 : Index := 0#32
  let v982 : Index := Scalar.indexCast v934
  let c0_319 : Index := 0#32
  ![0, v982.toNat, 0]

def k0_off77 (i : grid0.Coords) : Fin 2 → Nat :=
  let arg0 : BitVec 32 := BitVec.ofNat 32 (i 0).val
  let v985 : Index := Scalar.indexCast arg0
  let c9_320 : Index := 9#32
  ![v985.toNat, 9]
def k0_off78 (v934 : BitVec 32) : Fin 3 → Nat :=
  let c1_323 : Index := 1#32
  let v993 : Index := Scalar.indexCast v934
  let c0_324 : Index := 0#32
  ![1, v993.toNat, 0]
def k0_off79 (v934 : BitVec 32) : Fin 3 → Nat :=
  let c2_328 : Index := 2#32
  let v1004 : Index := Scalar.indexCast v934
  let c0_329 : Index := 0#32
  ![2, v1004.toNat, 0]
def k0_off80 (v934 : BitVec 32) : Fin 3 → Nat :=
  let c3_333 : Index := 3#32
  let v1015 : Index := Scalar.indexCast v934
  let c0_334 : Index := 0#32
  ![3, v1015.toNat, 0]

def k0_chk30 (v934 : BitVec 32) : Prop :=
  (∀ a, (k0_off76 v934) a + S1x1x128.size a ≤ S4x128x128.size a) ∧
  (∀ a, (k0_off78 v934) a + S1x1x128.size a ≤ S4x128x128.size a) ∧
  (∀ a, (k0_off79 v934) a + S1x1x128.size a ≤ S4x128x128.size a) ∧
  (∀ a, (k0_off80 v934) a + S1x1x128.size a ≤ S4x128x128.size a)
theorem k0_off76_inb : ∀ (v934 : BitVec 32) (k0_hw30 : k0_chk30 v934), ∀ a, (k0_off76 v934) a + S1x1x128.size a ≤ S4x128x128.size a := fun v934 k0_hw30 => k0_hw30.1
theorem k0_off78_inb : ∀ (v934 : BitVec 32) (k0_hw30 : k0_chk30 v934), ∀ a, (k0_off78 v934) a + S1x1x128.size a ≤ S4x128x128.size a := fun v934 k0_hw30 => k0_hw30.2.1
theorem k0_off79_inb : ∀ (v934 : BitVec 32) (k0_hw30 : k0_chk30 v934), ∀ a, (k0_off79 v934) a + S1x1x128.size a ≤ S4x128x128.size a := fun v934 k0_hw30 => k0_hw30.2.2.1
theorem k0_off80_inb : ∀ (v934 : BitVec 32) (k0_hw30 : k0_chk30 v934), ∀ a, (k0_off80 v934) a + S1x1x128.size a ≤ S4x128x128.size a := fun v934 k0_hw30 => k0_hw30.2.2.2

def k0_off81 (i : grid0.Coords) : Fin 2 → Nat :=
  let arg0 : BitVec 32 := BitVec.ofNat 32 (i 0).val
  let v1026 : Index := Scalar.indexCast arg0
  let c10 : Index := 10#32
  ![v1026.toNat, 10]
def k0_off82 (v1037 : BitVec 32) (v1041 : BitVec 32) : Fin 3 → Nat :=
  let v1057 : Index := Scalar.indexCast v1037
  let v1058 : Index := Scalar.indexCast v1041
  let c0_345 : Index := 0#32
  ![v1057.toNat, v1058.toNat, 0]

def k0_chk31 (v1037 : BitVec 32) (v1041 : BitVec 32) : Prop :=
  (∀ a, (k0_off82 v1037 v1041) a + S1x80x128.size a ≤ S20x128x128.size a)
theorem k0_off82_inb : ∀ (v1037 : BitVec 32) (v1041 : BitVec 32) (k0_hw31 : k0_chk31 v1037 v1041), ∀ a, (k0_off82 v1037 v1041) a + S1x80x128.size a ≤ S20x128x128.size a := fun v1037 v1041 k0_hw31 => k0_hw31

def k0_off83 (v1035 : BitVec 32) (v1037 : BitVec 32) : Fin 3 → Nat :=
  let v1069 : Index := Scalar.indexCast v1037
  let v1070 : Index := Scalar.indexCast v1035
  let c0_347 : Index := 0#32
  ![v1069.toNat, v1070.toNat, 0]

def k0_chk32 (v1035 : BitVec 32) (v1037 : BitVec 32) : Prop :=
  (∀ a, (k0_off83 v1035 v1037) a + S1x1x128.size a ≤ S20x128x128.size a)
theorem k0_off83_inb : ∀ (v1035 : BitVec 32) (v1037 : BitVec 32) (k0_hw32 : k0_chk32 v1035 v1037), ∀ a, (k0_off83 v1035 v1037) a + S1x1x128.size a ≤ S20x128x128.size a := fun v1035 v1037 k0_hw32 => k0_hw32

def k0_off84 (v1035 : BitVec 32) : Fin 3 → Nat :=
  let c0_351 : Index := 0#32
  let v1083 : Index := Scalar.indexCast v1035
  let c0_352 : Index := 0#32
  ![0, v1083.toNat, 0]

def k0_off85 (i : grid0.Coords) : Fin 2 → Nat :=
  let arg0 : BitVec 32 := BitVec.ofNat 32 (i 0).val
  let v1086 : Index := Scalar.indexCast arg0
  let c10_353 : Index := 10#32
  ![v1086.toNat, 10]
def k0_off86 (v1035 : BitVec 32) : Fin 3 → Nat :=
  let c1_356 : Index := 1#32
  let v1094 : Index := Scalar.indexCast v1035
  let c0_357 : Index := 0#32
  ![1, v1094.toNat, 0]
def k0_off87 (v1035 : BitVec 32) : Fin 3 → Nat :=
  let c2_361 : Index := 2#32
  let v1105 : Index := Scalar.indexCast v1035
  let c0_362 : Index := 0#32
  ![2, v1105.toNat, 0]
def k0_off88 (v1035 : BitVec 32) : Fin 3 → Nat :=
  let c3_366 : Index := 3#32
  let v1116 : Index := Scalar.indexCast v1035
  let c0_367 : Index := 0#32
  ![3, v1116.toNat, 0]

def k0_chk33 (v1035 : BitVec 32) : Prop :=
  (∀ a, (k0_off84 v1035) a + S1x1x128.size a ≤ S4x128x128.size a) ∧
  (∀ a, (k0_off86 v1035) a + S1x1x128.size a ≤ S4x128x128.size a) ∧
  (∀ a, (k0_off87 v1035) a + S1x1x128.size a ≤ S4x128x128.size a) ∧
  (∀ a, (k0_off88 v1035) a + S1x1x128.size a ≤ S4x128x128.size a)
theorem k0_off84_inb : ∀ (v1035 : BitVec 32) (k0_hw33 : k0_chk33 v1035), ∀ a, (k0_off84 v1035) a + S1x1x128.size a ≤ S4x128x128.size a := fun v1035 k0_hw33 => k0_hw33.1
theorem k0_off86_inb : ∀ (v1035 : BitVec 32) (k0_hw33 : k0_chk33 v1035), ∀ a, (k0_off86 v1035) a + S1x1x128.size a ≤ S4x128x128.size a := fun v1035 k0_hw33 => k0_hw33.2.1
theorem k0_off87_inb : ∀ (v1035 : BitVec 32) (k0_hw33 : k0_chk33 v1035), ∀ a, (k0_off87 v1035) a + S1x1x128.size a ≤ S4x128x128.size a := fun v1035 k0_hw33 => k0_hw33.2.2.1
theorem k0_off88_inb : ∀ (v1035 : BitVec 32) (k0_hw33 : k0_chk33 v1035), ∀ a, (k0_off88 v1035) a + S1x1x128.size a ≤ S4x128x128.size a := fun v1035 k0_hw33 => k0_hw33.2.2.2

def k0_off89 (i : grid0.Coords) : Fin 2 → Nat :=
  let arg0 : BitVec 32 := BitVec.ofNat 32 (i 0).val
  let v1127 : Index := Scalar.indexCast arg0
  let c11 : Index := 11#32
  ![v1127.toNat, 11]
def k0_off90 (v1138 : BitVec 32) (v1142 : BitVec 32) : Fin 3 → Nat :=
  let v1158 : Index := Scalar.indexCast v1138
  let v1159 : Index := Scalar.indexCast v1142
  let c0_378 : Index := 0#32
  ![v1158.toNat, v1159.toNat, 0]

def k0_chk34 (v1138 : BitVec 32) (v1142 : BitVec 32) : Prop :=
  (∀ a, (k0_off90 v1138 v1142) a + S1x80x128.size a ≤ S20x128x128.size a)
theorem k0_off90_inb : ∀ (v1138 : BitVec 32) (v1142 : BitVec 32) (k0_hw34 : k0_chk34 v1138 v1142), ∀ a, (k0_off90 v1138 v1142) a + S1x80x128.size a ≤ S20x128x128.size a := fun v1138 v1142 k0_hw34 => k0_hw34

def k0_off91 (v1136 : BitVec 32) (v1138 : BitVec 32) : Fin 3 → Nat :=
  let v1170 : Index := Scalar.indexCast v1138
  let v1171 : Index := Scalar.indexCast v1136
  let c0_380 : Index := 0#32
  ![v1170.toNat, v1171.toNat, 0]

def k0_chk35 (v1136 : BitVec 32) (v1138 : BitVec 32) : Prop :=
  (∀ a, (k0_off91 v1136 v1138) a + S1x1x128.size a ≤ S20x128x128.size a)
theorem k0_off91_inb : ∀ (v1136 : BitVec 32) (v1138 : BitVec 32) (k0_hw35 : k0_chk35 v1136 v1138), ∀ a, (k0_off91 v1136 v1138) a + S1x1x128.size a ≤ S20x128x128.size a := fun v1136 v1138 k0_hw35 => k0_hw35

def k0_off92 (v1136 : BitVec 32) : Fin 3 → Nat :=
  let c0_384 : Index := 0#32
  let v1184 : Index := Scalar.indexCast v1136
  let c0_385 : Index := 0#32
  ![0, v1184.toNat, 0]

def k0_off93 (i : grid0.Coords) : Fin 2 → Nat :=
  let arg0 : BitVec 32 := BitVec.ofNat 32 (i 0).val
  let v1187 : Index := Scalar.indexCast arg0
  let c11_386 : Index := 11#32
  ![v1187.toNat, 11]
def k0_off94 (v1136 : BitVec 32) : Fin 3 → Nat :=
  let c1_389 : Index := 1#32
  let v1195 : Index := Scalar.indexCast v1136
  let c0_390 : Index := 0#32
  ![1, v1195.toNat, 0]
def k0_off95 (v1136 : BitVec 32) : Fin 3 → Nat :=
  let c2_394 : Index := 2#32
  let v1206 : Index := Scalar.indexCast v1136
  let c0_395 : Index := 0#32
  ![2, v1206.toNat, 0]
def k0_off96 (v1136 : BitVec 32) : Fin 3 → Nat :=
  let c3_399 : Index := 3#32
  let v1217 : Index := Scalar.indexCast v1136
  let c0_400 : Index := 0#32
  ![3, v1217.toNat, 0]

def k0_chk36 (v1136 : BitVec 32) : Prop :=
  (∀ a, (k0_off92 v1136) a + S1x1x128.size a ≤ S4x128x128.size a) ∧
  (∀ a, (k0_off94 v1136) a + S1x1x128.size a ≤ S4x128x128.size a) ∧
  (∀ a, (k0_off95 v1136) a + S1x1x128.size a ≤ S4x128x128.size a) ∧
  (∀ a, (k0_off96 v1136) a + S1x1x128.size a ≤ S4x128x128.size a)
theorem k0_off92_inb : ∀ (v1136 : BitVec 32) (k0_hw36 : k0_chk36 v1136), ∀ a, (k0_off92 v1136) a + S1x1x128.size a ≤ S4x128x128.size a := fun v1136 k0_hw36 => k0_hw36.1
theorem k0_off94_inb : ∀ (v1136 : BitVec 32) (k0_hw36 : k0_chk36 v1136), ∀ a, (k0_off94 v1136) a + S1x1x128.size a ≤ S4x128x128.size a := fun v1136 k0_hw36 => k0_hw36.2.1
theorem k0_off95_inb : ∀ (v1136 : BitVec 32) (k0_hw36 : k0_chk36 v1136), ∀ a, (k0_off95 v1136) a + S1x1x128.size a ≤ S4x128x128.size a := fun v1136 k0_hw36 => k0_hw36.2.2.1
theorem k0_off96_inb : ∀ (v1136 : BitVec 32) (k0_hw36 : k0_chk36 v1136), ∀ a, (k0_off96 v1136) a + S1x1x128.size a ≤ S4x128x128.size a := fun v1136 k0_hw36 => k0_hw36.2.2.2

def k0_off97 (i : grid0.Coords) : Fin 2 → Nat :=
  let arg0 : BitVec 32 := BitVec.ofNat 32 (i 0).val
  let v1228 : Index := Scalar.indexCast arg0
  let c12 : Index := 12#32
  ![v1228.toNat, 12]
def k0_off98 (v1239 : BitVec 32) (v1243 : BitVec 32) : Fin 3 → Nat :=
  let v1259 : Index := Scalar.indexCast v1239
  let v1260 : Index := Scalar.indexCast v1243
  let c0_411 : Index := 0#32
  ![v1259.toNat, v1260.toNat, 0]

def k0_chk37 (v1239 : BitVec 32) (v1243 : BitVec 32) : Prop :=
  (∀ a, (k0_off98 v1239 v1243) a + S1x80x128.size a ≤ S20x128x128.size a)
theorem k0_off98_inb : ∀ (v1239 : BitVec 32) (v1243 : BitVec 32) (k0_hw37 : k0_chk37 v1239 v1243), ∀ a, (k0_off98 v1239 v1243) a + S1x80x128.size a ≤ S20x128x128.size a := fun v1239 v1243 k0_hw37 => k0_hw37

def k0_off99 (v1237 : BitVec 32) (v1239 : BitVec 32) : Fin 3 → Nat :=
  let v1271 : Index := Scalar.indexCast v1239
  let v1272 : Index := Scalar.indexCast v1237
  let c0_413 : Index := 0#32
  ![v1271.toNat, v1272.toNat, 0]

def k0_chk38 (v1237 : BitVec 32) (v1239 : BitVec 32) : Prop :=
  (∀ a, (k0_off99 v1237 v1239) a + S1x1x128.size a ≤ S20x128x128.size a)
theorem k0_off99_inb : ∀ (v1237 : BitVec 32) (v1239 : BitVec 32) (k0_hw38 : k0_chk38 v1237 v1239), ∀ a, (k0_off99 v1237 v1239) a + S1x1x128.size a ≤ S20x128x128.size a := fun v1237 v1239 k0_hw38 => k0_hw38

def k0_off100 (v1237 : BitVec 32) : Fin 3 → Nat :=
  let c0_417 : Index := 0#32
  let v1285 : Index := Scalar.indexCast v1237
  let c0_418 : Index := 0#32
  ![0, v1285.toNat, 0]

def k0_off101 (i : grid0.Coords) : Fin 2 → Nat :=
  let arg0 : BitVec 32 := BitVec.ofNat 32 (i 0).val
  let v1288 : Index := Scalar.indexCast arg0
  let c12_419 : Index := 12#32
  ![v1288.toNat, 12]
def k0_off102 (v1237 : BitVec 32) : Fin 3 → Nat :=
  let c1_422 : Index := 1#32
  let v1296 : Index := Scalar.indexCast v1237
  let c0_423 : Index := 0#32
  ![1, v1296.toNat, 0]
def k0_off103 (v1237 : BitVec 32) : Fin 3 → Nat :=
  let c2_427 : Index := 2#32
  let v1307 : Index := Scalar.indexCast v1237
  let c0_428 : Index := 0#32
  ![2, v1307.toNat, 0]
def k0_off104 (v1237 : BitVec 32) : Fin 3 → Nat :=
  let c3_432 : Index := 3#32
  let v1318 : Index := Scalar.indexCast v1237
  let c0_433 : Index := 0#32
  ![3, v1318.toNat, 0]

def k0_chk39 (v1237 : BitVec 32) : Prop :=
  (∀ a, (k0_off100 v1237) a + S1x1x128.size a ≤ S4x128x128.size a) ∧
  (∀ a, (k0_off102 v1237) a + S1x1x128.size a ≤ S4x128x128.size a) ∧
  (∀ a, (k0_off103 v1237) a + S1x1x128.size a ≤ S4x128x128.size a) ∧
  (∀ a, (k0_off104 v1237) a + S1x1x128.size a ≤ S4x128x128.size a)
theorem k0_off100_inb : ∀ (v1237 : BitVec 32) (k0_hw39 : k0_chk39 v1237), ∀ a, (k0_off100 v1237) a + S1x1x128.size a ≤ S4x128x128.size a := fun v1237 k0_hw39 => k0_hw39.1
theorem k0_off102_inb : ∀ (v1237 : BitVec 32) (k0_hw39 : k0_chk39 v1237), ∀ a, (k0_off102 v1237) a + S1x1x128.size a ≤ S4x128x128.size a := fun v1237 k0_hw39 => k0_hw39.2.1
theorem k0_off103_inb : ∀ (v1237 : BitVec 32) (k0_hw39 : k0_chk39 v1237), ∀ a, (k0_off103 v1237) a + S1x1x128.size a ≤ S4x128x128.size a := fun v1237 k0_hw39 => k0_hw39.2.2.1
theorem k0_off104_inb : ∀ (v1237 : BitVec 32) (k0_hw39 : k0_chk39 v1237), ∀ a, (k0_off104 v1237) a + S1x1x128.size a ≤ S4x128x128.size a := fun v1237 k0_hw39 => k0_hw39.2.2.2

def k0_off105 (i : grid0.Coords) : Fin 2 → Nat :=
  let arg0 : BitVec 32 := BitVec.ofNat 32 (i 0).val
  let v1329 : Index := Scalar.indexCast arg0
  let c13 : Index := 13#32
  ![v1329.toNat, 13]
def k0_off106 (v1340 : BitVec 32) (v1344 : BitVec 32) : Fin 3 → Nat :=
  let v1360 : Index := Scalar.indexCast v1340
  let v1361 : Index := Scalar.indexCast v1344
  let c0_444 : Index := 0#32
  ![v1360.toNat, v1361.toNat, 0]

def k0_chk40 (v1340 : BitVec 32) (v1344 : BitVec 32) : Prop :=
  (∀ a, (k0_off106 v1340 v1344) a + S1x80x128.size a ≤ S20x128x128.size a)
theorem k0_off106_inb : ∀ (v1340 : BitVec 32) (v1344 : BitVec 32) (k0_hw40 : k0_chk40 v1340 v1344), ∀ a, (k0_off106 v1340 v1344) a + S1x80x128.size a ≤ S20x128x128.size a := fun v1340 v1344 k0_hw40 => k0_hw40

def k0_off107 (v1338 : BitVec 32) (v1340 : BitVec 32) : Fin 3 → Nat :=
  let v1372 : Index := Scalar.indexCast v1340
  let v1373 : Index := Scalar.indexCast v1338
  let c0_446 : Index := 0#32
  ![v1372.toNat, v1373.toNat, 0]

def k0_chk41 (v1338 : BitVec 32) (v1340 : BitVec 32) : Prop :=
  (∀ a, (k0_off107 v1338 v1340) a + S1x1x128.size a ≤ S20x128x128.size a)
theorem k0_off107_inb : ∀ (v1338 : BitVec 32) (v1340 : BitVec 32) (k0_hw41 : k0_chk41 v1338 v1340), ∀ a, (k0_off107 v1338 v1340) a + S1x1x128.size a ≤ S20x128x128.size a := fun v1338 v1340 k0_hw41 => k0_hw41

def k0_off108 (v1338 : BitVec 32) : Fin 3 → Nat :=
  let c0_450 : Index := 0#32
  let v1386 : Index := Scalar.indexCast v1338
  let c0_451 : Index := 0#32
  ![0, v1386.toNat, 0]

def k0_off109 (i : grid0.Coords) : Fin 2 → Nat :=
  let arg0 : BitVec 32 := BitVec.ofNat 32 (i 0).val
  let v1389 : Index := Scalar.indexCast arg0
  let c13_452 : Index := 13#32
  ![v1389.toNat, 13]
def k0_off110 (v1338 : BitVec 32) : Fin 3 → Nat :=
  let c1_455 : Index := 1#32
  let v1397 : Index := Scalar.indexCast v1338
  let c0_456 : Index := 0#32
  ![1, v1397.toNat, 0]
def k0_off111 (v1338 : BitVec 32) : Fin 3 → Nat :=
  let c2_460 : Index := 2#32
  let v1408 : Index := Scalar.indexCast v1338
  let c0_461 : Index := 0#32
  ![2, v1408.toNat, 0]
def k0_off112 (v1338 : BitVec 32) : Fin 3 → Nat :=
  let c3_465 : Index := 3#32
  let v1419 : Index := Scalar.indexCast v1338
  let c0_466 : Index := 0#32
  ![3, v1419.toNat, 0]

def k0_chk42 (v1338 : BitVec 32) : Prop :=
  (∀ a, (k0_off108 v1338) a + S1x1x128.size a ≤ S4x128x128.size a) ∧
  (∀ a, (k0_off110 v1338) a + S1x1x128.size a ≤ S4x128x128.size a) ∧
  (∀ a, (k0_off111 v1338) a + S1x1x128.size a ≤ S4x128x128.size a) ∧
  (∀ a, (k0_off112 v1338) a + S1x1x128.size a ≤ S4x128x128.size a)
theorem k0_off108_inb : ∀ (v1338 : BitVec 32) (k0_hw42 : k0_chk42 v1338), ∀ a, (k0_off108 v1338) a + S1x1x128.size a ≤ S4x128x128.size a := fun v1338 k0_hw42 => k0_hw42.1
theorem k0_off110_inb : ∀ (v1338 : BitVec 32) (k0_hw42 : k0_chk42 v1338), ∀ a, (k0_off110 v1338) a + S1x1x128.size a ≤ S4x128x128.size a := fun v1338 k0_hw42 => k0_hw42.2.1
theorem k0_off111_inb : ∀ (v1338 : BitVec 32) (k0_hw42 : k0_chk42 v1338), ∀ a, (k0_off111 v1338) a + S1x1x128.size a ≤ S4x128x128.size a := fun v1338 k0_hw42 => k0_hw42.2.2.1
theorem k0_off112_inb : ∀ (v1338 : BitVec 32) (k0_hw42 : k0_chk42 v1338), ∀ a, (k0_off112 v1338) a + S1x1x128.size a ≤ S4x128x128.size a := fun v1338 k0_hw42 => k0_hw42.2.2.2

def k0_off113 (i : grid0.Coords) : Fin 2 → Nat :=
  let arg0 : BitVec 32 := BitVec.ofNat 32 (i 0).val
  let v1430 : Index := Scalar.indexCast arg0
  let c14 : Index := 14#32
  ![v1430.toNat, 14]
def k0_off114 (v1441 : BitVec 32) (v1445 : BitVec 32) : Fin 3 → Nat :=
  let v1461 : Index := Scalar.indexCast v1441
  let v1462 : Index := Scalar.indexCast v1445
  let c0_477 : Index := 0#32
  ![v1461.toNat, v1462.toNat, 0]

def k0_chk43 (v1441 : BitVec 32) (v1445 : BitVec 32) : Prop :=
  (∀ a, (k0_off114 v1441 v1445) a + S1x80x128.size a ≤ S20x128x128.size a)
theorem k0_off114_inb : ∀ (v1441 : BitVec 32) (v1445 : BitVec 32) (k0_hw43 : k0_chk43 v1441 v1445), ∀ a, (k0_off114 v1441 v1445) a + S1x80x128.size a ≤ S20x128x128.size a := fun v1441 v1445 k0_hw43 => k0_hw43

def k0_off115 (v1439 : BitVec 32) (v1441 : BitVec 32) : Fin 3 → Nat :=
  let v1473 : Index := Scalar.indexCast v1441
  let v1474 : Index := Scalar.indexCast v1439
  let c0_479 : Index := 0#32
  ![v1473.toNat, v1474.toNat, 0]

def k0_chk44 (v1439 : BitVec 32) (v1441 : BitVec 32) : Prop :=
  (∀ a, (k0_off115 v1439 v1441) a + S1x1x128.size a ≤ S20x128x128.size a)
theorem k0_off115_inb : ∀ (v1439 : BitVec 32) (v1441 : BitVec 32) (k0_hw44 : k0_chk44 v1439 v1441), ∀ a, (k0_off115 v1439 v1441) a + S1x1x128.size a ≤ S20x128x128.size a := fun v1439 v1441 k0_hw44 => k0_hw44

def k0_off116 (v1439 : BitVec 32) : Fin 3 → Nat :=
  let c0_483 : Index := 0#32
  let v1487 : Index := Scalar.indexCast v1439
  let c0_484 : Index := 0#32
  ![0, v1487.toNat, 0]

def k0_off117 (i : grid0.Coords) : Fin 2 → Nat :=
  let arg0 : BitVec 32 := BitVec.ofNat 32 (i 0).val
  let v1490 : Index := Scalar.indexCast arg0
  let c14_485 : Index := 14#32
  ![v1490.toNat, 14]
def k0_off118 (v1439 : BitVec 32) : Fin 3 → Nat :=
  let c1_488 : Index := 1#32
  let v1498 : Index := Scalar.indexCast v1439
  let c0_489 : Index := 0#32
  ![1, v1498.toNat, 0]
def k0_off119 (v1439 : BitVec 32) : Fin 3 → Nat :=
  let c2_493 : Index := 2#32
  let v1509 : Index := Scalar.indexCast v1439
  let c0_494 : Index := 0#32
  ![2, v1509.toNat, 0]
def k0_off120 (v1439 : BitVec 32) : Fin 3 → Nat :=
  let c3_498 : Index := 3#32
  let v1520 : Index := Scalar.indexCast v1439
  let c0_499 : Index := 0#32
  ![3, v1520.toNat, 0]

def k0_chk45 (v1439 : BitVec 32) : Prop :=
  (∀ a, (k0_off116 v1439) a + S1x1x128.size a ≤ S4x128x128.size a) ∧
  (∀ a, (k0_off118 v1439) a + S1x1x128.size a ≤ S4x128x128.size a) ∧
  (∀ a, (k0_off119 v1439) a + S1x1x128.size a ≤ S4x128x128.size a) ∧
  (∀ a, (k0_off120 v1439) a + S1x1x128.size a ≤ S4x128x128.size a)
theorem k0_off116_inb : ∀ (v1439 : BitVec 32) (k0_hw45 : k0_chk45 v1439), ∀ a, (k0_off116 v1439) a + S1x1x128.size a ≤ S4x128x128.size a := fun v1439 k0_hw45 => k0_hw45.1
theorem k0_off118_inb : ∀ (v1439 : BitVec 32) (k0_hw45 : k0_chk45 v1439), ∀ a, (k0_off118 v1439) a + S1x1x128.size a ≤ S4x128x128.size a := fun v1439 k0_hw45 => k0_hw45.2.1
theorem k0_off119_inb : ∀ (v1439 : BitVec 32) (k0_hw45 : k0_chk45 v1439), ∀ a, (k0_off119 v1439) a + S1x1x128.size a ≤ S4x128x128.size a := fun v1439 k0_hw45 => k0_hw45.2.2.1
theorem k0_off120_inb : ∀ (v1439 : BitVec 32) (k0_hw45 : k0_chk45 v1439), ∀ a, (k0_off120 v1439) a + S1x1x128.size a ≤ S4x128x128.size a := fun v1439 k0_hw45 => k0_hw45.2.2.2

def k0_off121 (i : grid0.Coords) : Fin 2 → Nat :=
  let arg0 : BitVec 32 := BitVec.ofNat 32 (i 0).val
  let v1531 : Index := Scalar.indexCast arg0
  let c15 : Index := 15#32
  ![v1531.toNat, 15]
def k0_off122 (v1542 : BitVec 32) (v1546 : BitVec 32) : Fin 3 → Nat :=
  let v1562 : Index := Scalar.indexCast v1542
  let v1563 : Index := Scalar.indexCast v1546
  let c0_510 : Index := 0#32
  ![v1562.toNat, v1563.toNat, 0]

def k0_chk46 (v1542 : BitVec 32) (v1546 : BitVec 32) : Prop :=
  (∀ a, (k0_off122 v1542 v1546) a + S1x80x128.size a ≤ S20x128x128.size a)
theorem k0_off122_inb : ∀ (v1542 : BitVec 32) (v1546 : BitVec 32) (k0_hw46 : k0_chk46 v1542 v1546), ∀ a, (k0_off122 v1542 v1546) a + S1x80x128.size a ≤ S20x128x128.size a := fun v1542 v1546 k0_hw46 => k0_hw46

def k0_off123 (v1540 : BitVec 32) (v1542 : BitVec 32) : Fin 3 → Nat :=
  let v1574 : Index := Scalar.indexCast v1542
  let v1575 : Index := Scalar.indexCast v1540
  let c0_512 : Index := 0#32
  ![v1574.toNat, v1575.toNat, 0]

def k0_chk47 (v1540 : BitVec 32) (v1542 : BitVec 32) : Prop :=
  (∀ a, (k0_off123 v1540 v1542) a + S1x1x128.size a ≤ S20x128x128.size a)
theorem k0_off123_inb : ∀ (v1540 : BitVec 32) (v1542 : BitVec 32) (k0_hw47 : k0_chk47 v1540 v1542), ∀ a, (k0_off123 v1540 v1542) a + S1x1x128.size a ≤ S20x128x128.size a := fun v1540 v1542 k0_hw47 => k0_hw47

def k0_off124 (v1540 : BitVec 32) : Fin 3 → Nat :=
  let c0_516 : Index := 0#32
  let v1588 : Index := Scalar.indexCast v1540
  let c0_517 : Index := 0#32
  ![0, v1588.toNat, 0]

def k0_off125 (i : grid0.Coords) : Fin 2 → Nat :=
  let arg0 : BitVec 32 := BitVec.ofNat 32 (i 0).val
  let v1591 : Index := Scalar.indexCast arg0
  let c15_518 : Index := 15#32
  ![v1591.toNat, 15]
def k0_off126 (v1540 : BitVec 32) : Fin 3 → Nat :=
  let c1_521 : Index := 1#32
  let v1599 : Index := Scalar.indexCast v1540
  let c0_522 : Index := 0#32
  ![1, v1599.toNat, 0]
def k0_off127 (v1540 : BitVec 32) : Fin 3 → Nat :=
  let c2_526 : Index := 2#32
  let v1610 : Index := Scalar.indexCast v1540
  let c0_527 : Index := 0#32
  ![2, v1610.toNat, 0]
def k0_off128 (v1540 : BitVec 32) : Fin 3 → Nat :=
  let c3_531 : Index := 3#32
  let v1621 : Index := Scalar.indexCast v1540
  let c0_532 : Index := 0#32
  ![3, v1621.toNat, 0]

def k0_chk48 (v1540 : BitVec 32) : Prop :=
  (∀ a, (k0_off124 v1540) a + S1x1x128.size a ≤ S4x128x128.size a) ∧
  (∀ a, (k0_off126 v1540) a + S1x1x128.size a ≤ S4x128x128.size a) ∧
  (∀ a, (k0_off127 v1540) a + S1x1x128.size a ≤ S4x128x128.size a) ∧
  (∀ a, (k0_off128 v1540) a + S1x1x128.size a ≤ S4x128x128.size a)
theorem k0_off124_inb : ∀ (v1540 : BitVec 32) (k0_hw48 : k0_chk48 v1540), ∀ a, (k0_off124 v1540) a + S1x1x128.size a ≤ S4x128x128.size a := fun v1540 k0_hw48 => k0_hw48.1
theorem k0_off126_inb : ∀ (v1540 : BitVec 32) (k0_hw48 : k0_chk48 v1540), ∀ a, (k0_off126 v1540) a + S1x1x128.size a ≤ S4x128x128.size a := fun v1540 k0_hw48 => k0_hw48.2.1
theorem k0_off127_inb : ∀ (v1540 : BitVec 32) (k0_hw48 : k0_chk48 v1540), ∀ a, (k0_off127 v1540) a + S1x1x128.size a ≤ S4x128x128.size a := fun v1540 k0_hw48 => k0_hw48.2.2.1
theorem k0_off128_inb : ∀ (v1540 : BitVec 32) (k0_hw48 : k0_chk48 v1540), ∀ a, (k0_off128 v1540) a + S1x1x128.size a ≤ S4x128x128.size a := fun v1540 k0_hw48 => k0_hw48.2.2.2

def k0_off129 (i : grid0.Coords) : Fin 2 → Nat :=
  let arg0 : BitVec 32 := BitVec.ofNat 32 (i 0).val
  let v1632 : Index := Scalar.indexCast arg0
  let c16 : Index := 16#32
  ![v1632.toNat, 16]
def k0_off130 (v1643 : BitVec 32) (v1647 : BitVec 32) : Fin 3 → Nat :=
  let v1663 : Index := Scalar.indexCast v1643
  let v1664 : Index := Scalar.indexCast v1647
  let c0_543 : Index := 0#32
  ![v1663.toNat, v1664.toNat, 0]

def k0_chk49 (v1643 : BitVec 32) (v1647 : BitVec 32) : Prop :=
  (∀ a, (k0_off130 v1643 v1647) a + S1x80x128.size a ≤ S20x128x128.size a)
theorem k0_off130_inb : ∀ (v1643 : BitVec 32) (v1647 : BitVec 32) (k0_hw49 : k0_chk49 v1643 v1647), ∀ a, (k0_off130 v1643 v1647) a + S1x80x128.size a ≤ S20x128x128.size a := fun v1643 v1647 k0_hw49 => k0_hw49

def k0_off131 (v1641 : BitVec 32) (v1643 : BitVec 32) : Fin 3 → Nat :=
  let v1675 : Index := Scalar.indexCast v1643
  let v1676 : Index := Scalar.indexCast v1641
  let c0_545 : Index := 0#32
  ![v1675.toNat, v1676.toNat, 0]

def k0_chk50 (v1641 : BitVec 32) (v1643 : BitVec 32) : Prop :=
  (∀ a, (k0_off131 v1641 v1643) a + S1x1x128.size a ≤ S20x128x128.size a)
theorem k0_off131_inb : ∀ (v1641 : BitVec 32) (v1643 : BitVec 32) (k0_hw50 : k0_chk50 v1641 v1643), ∀ a, (k0_off131 v1641 v1643) a + S1x1x128.size a ≤ S20x128x128.size a := fun v1641 v1643 k0_hw50 => k0_hw50

def k0_off132 (v1641 : BitVec 32) : Fin 3 → Nat :=
  let c0_549 : Index := 0#32
  let v1689 : Index := Scalar.indexCast v1641
  let c0_550 : Index := 0#32
  ![0, v1689.toNat, 0]

def k0_off133 (i : grid0.Coords) : Fin 2 → Nat :=
  let arg0 : BitVec 32 := BitVec.ofNat 32 (i 0).val
  let v1692 : Index := Scalar.indexCast arg0
  let c16_551 : Index := 16#32
  ![v1692.toNat, 16]
def k0_off134 (v1641 : BitVec 32) : Fin 3 → Nat :=
  let c1_554 : Index := 1#32
  let v1700 : Index := Scalar.indexCast v1641
  let c0_555 : Index := 0#32
  ![1, v1700.toNat, 0]
def k0_off135 (v1641 : BitVec 32) : Fin 3 → Nat :=
  let c2_559 : Index := 2#32
  let v1711 : Index := Scalar.indexCast v1641
  let c0_560 : Index := 0#32
  ![2, v1711.toNat, 0]
def k0_off136 (v1641 : BitVec 32) : Fin 3 → Nat :=
  let c3_564 : Index := 3#32
  let v1722 : Index := Scalar.indexCast v1641
  let c0_565 : Index := 0#32
  ![3, v1722.toNat, 0]

def k0_chk51 (v1641 : BitVec 32) : Prop :=
  (∀ a, (k0_off132 v1641) a + S1x1x128.size a ≤ S4x128x128.size a) ∧
  (∀ a, (k0_off134 v1641) a + S1x1x128.size a ≤ S4x128x128.size a) ∧
  (∀ a, (k0_off135 v1641) a + S1x1x128.size a ≤ S4x128x128.size a) ∧
  (∀ a, (k0_off136 v1641) a + S1x1x128.size a ≤ S4x128x128.size a)
theorem k0_off132_inb : ∀ (v1641 : BitVec 32) (k0_hw51 : k0_chk51 v1641), ∀ a, (k0_off132 v1641) a + S1x1x128.size a ≤ S4x128x128.size a := fun v1641 k0_hw51 => k0_hw51.1
theorem k0_off134_inb : ∀ (v1641 : BitVec 32) (k0_hw51 : k0_chk51 v1641), ∀ a, (k0_off134 v1641) a + S1x1x128.size a ≤ S4x128x128.size a := fun v1641 k0_hw51 => k0_hw51.2.1
theorem k0_off135_inb : ∀ (v1641 : BitVec 32) (k0_hw51 : k0_chk51 v1641), ∀ a, (k0_off135 v1641) a + S1x1x128.size a ≤ S4x128x128.size a := fun v1641 k0_hw51 => k0_hw51.2.2.1
theorem k0_off136_inb : ∀ (v1641 : BitVec 32) (k0_hw51 : k0_chk51 v1641), ∀ a, (k0_off136 v1641) a + S1x1x128.size a ≤ S4x128x128.size a := fun v1641 k0_hw51 => k0_hw51.2.2.2

def k0_off137 (i : grid0.Coords) : Fin 2 → Nat :=
  let arg0 : BitVec 32 := BitVec.ofNat 32 (i 0).val
  let v1733 : Index := Scalar.indexCast arg0
  let c17 : Index := 17#32
  ![v1733.toNat, 17]
def k0_off138 (v1744 : BitVec 32) (v1748 : BitVec 32) : Fin 3 → Nat :=
  let v1764 : Index := Scalar.indexCast v1744
  let v1765 : Index := Scalar.indexCast v1748
  let c0_576 : Index := 0#32
  ![v1764.toNat, v1765.toNat, 0]

def k0_chk52 (v1744 : BitVec 32) (v1748 : BitVec 32) : Prop :=
  (∀ a, (k0_off138 v1744 v1748) a + S1x80x128.size a ≤ S20x128x128.size a)
theorem k0_off138_inb : ∀ (v1744 : BitVec 32) (v1748 : BitVec 32) (k0_hw52 : k0_chk52 v1744 v1748), ∀ a, (k0_off138 v1744 v1748) a + S1x80x128.size a ≤ S20x128x128.size a := fun v1744 v1748 k0_hw52 => k0_hw52

def k0_off139 (v1742 : BitVec 32) (v1744 : BitVec 32) : Fin 3 → Nat :=
  let v1776 : Index := Scalar.indexCast v1744
  let v1777 : Index := Scalar.indexCast v1742
  let c0_578 : Index := 0#32
  ![v1776.toNat, v1777.toNat, 0]

def k0_chk53 (v1742 : BitVec 32) (v1744 : BitVec 32) : Prop :=
  (∀ a, (k0_off139 v1742 v1744) a + S1x1x128.size a ≤ S20x128x128.size a)
theorem k0_off139_inb : ∀ (v1742 : BitVec 32) (v1744 : BitVec 32) (k0_hw53 : k0_chk53 v1742 v1744), ∀ a, (k0_off139 v1742 v1744) a + S1x1x128.size a ≤ S20x128x128.size a := fun v1742 v1744 k0_hw53 => k0_hw53

def k0_off140 (v1742 : BitVec 32) : Fin 3 → Nat :=
  let c0_582 : Index := 0#32
  let v1790 : Index := Scalar.indexCast v1742
  let c0_583 : Index := 0#32
  ![0, v1790.toNat, 0]

def k0_off141 (i : grid0.Coords) : Fin 2 → Nat :=
  let arg0 : BitVec 32 := BitVec.ofNat 32 (i 0).val
  let v1793 : Index := Scalar.indexCast arg0
  let c17_584 : Index := 17#32
  ![v1793.toNat, 17]
def k0_off142 (v1742 : BitVec 32) : Fin 3 → Nat :=
  let c1_587 : Index := 1#32
  let v1801 : Index := Scalar.indexCast v1742
  let c0_588 : Index := 0#32
  ![1, v1801.toNat, 0]
def k0_off143 (v1742 : BitVec 32) : Fin 3 → Nat :=
  let c2_592 : Index := 2#32
  let v1812 : Index := Scalar.indexCast v1742
  let c0_593 : Index := 0#32
  ![2, v1812.toNat, 0]
def k0_off144 (v1742 : BitVec 32) : Fin 3 → Nat :=
  let c3_597 : Index := 3#32
  let v1823 : Index := Scalar.indexCast v1742
  let c0_598 : Index := 0#32
  ![3, v1823.toNat, 0]

def k0_chk54 (v1742 : BitVec 32) : Prop :=
  (∀ a, (k0_off140 v1742) a + S1x1x128.size a ≤ S4x128x128.size a) ∧
  (∀ a, (k0_off142 v1742) a + S1x1x128.size a ≤ S4x128x128.size a) ∧
  (∀ a, (k0_off143 v1742) a + S1x1x128.size a ≤ S4x128x128.size a) ∧
  (∀ a, (k0_off144 v1742) a + S1x1x128.size a ≤ S4x128x128.size a)
theorem k0_off140_inb : ∀ (v1742 : BitVec 32) (k0_hw54 : k0_chk54 v1742), ∀ a, (k0_off140 v1742) a + S1x1x128.size a ≤ S4x128x128.size a := fun v1742 k0_hw54 => k0_hw54.1
theorem k0_off142_inb : ∀ (v1742 : BitVec 32) (k0_hw54 : k0_chk54 v1742), ∀ a, (k0_off142 v1742) a + S1x1x128.size a ≤ S4x128x128.size a := fun v1742 k0_hw54 => k0_hw54.2.1
theorem k0_off143_inb : ∀ (v1742 : BitVec 32) (k0_hw54 : k0_chk54 v1742), ∀ a, (k0_off143 v1742) a + S1x1x128.size a ≤ S4x128x128.size a := fun v1742 k0_hw54 => k0_hw54.2.2.1
theorem k0_off144_inb : ∀ (v1742 : BitVec 32) (k0_hw54 : k0_chk54 v1742), ∀ a, (k0_off144 v1742) a + S1x1x128.size a ≤ S4x128x128.size a := fun v1742 k0_hw54 => k0_hw54.2.2.2

def k0_off145 (i : grid0.Coords) : Fin 2 → Nat :=
  let arg0 : BitVec 32 := BitVec.ofNat 32 (i 0).val
  let v1834 : Index := Scalar.indexCast arg0
  let c18 : Index := 18#32
  ![v1834.toNat, 18]
def k0_off146 (v1845 : BitVec 32) (v1849 : BitVec 32) : Fin 3 → Nat :=
  let v1865 : Index := Scalar.indexCast v1845
  let v1866 : Index := Scalar.indexCast v1849
  let c0_609 : Index := 0#32
  ![v1865.toNat, v1866.toNat, 0]

def k0_chk55 (v1845 : BitVec 32) (v1849 : BitVec 32) : Prop :=
  (∀ a, (k0_off146 v1845 v1849) a + S1x80x128.size a ≤ S20x128x128.size a)
theorem k0_off146_inb : ∀ (v1845 : BitVec 32) (v1849 : BitVec 32) (k0_hw55 : k0_chk55 v1845 v1849), ∀ a, (k0_off146 v1845 v1849) a + S1x80x128.size a ≤ S20x128x128.size a := fun v1845 v1849 k0_hw55 => k0_hw55

def k0_off147 (v1843 : BitVec 32) (v1845 : BitVec 32) : Fin 3 → Nat :=
  let v1877 : Index := Scalar.indexCast v1845
  let v1878 : Index := Scalar.indexCast v1843
  let c0_611 : Index := 0#32
  ![v1877.toNat, v1878.toNat, 0]

def k0_chk56 (v1843 : BitVec 32) (v1845 : BitVec 32) : Prop :=
  (∀ a, (k0_off147 v1843 v1845) a + S1x1x128.size a ≤ S20x128x128.size a)
theorem k0_off147_inb : ∀ (v1843 : BitVec 32) (v1845 : BitVec 32) (k0_hw56 : k0_chk56 v1843 v1845), ∀ a, (k0_off147 v1843 v1845) a + S1x1x128.size a ≤ S20x128x128.size a := fun v1843 v1845 k0_hw56 => k0_hw56

def k0_off148 (v1843 : BitVec 32) : Fin 3 → Nat :=
  let c0_615 : Index := 0#32
  let v1891 : Index := Scalar.indexCast v1843
  let c0_616 : Index := 0#32
  ![0, v1891.toNat, 0]

def k0_off149 (i : grid0.Coords) : Fin 2 → Nat :=
  let arg0 : BitVec 32 := BitVec.ofNat 32 (i 0).val
  let v1894 : Index := Scalar.indexCast arg0
  let c18_617 : Index := 18#32
  ![v1894.toNat, 18]
def k0_off150 (v1843 : BitVec 32) : Fin 3 → Nat :=
  let c1_620 : Index := 1#32
  let v1902 : Index := Scalar.indexCast v1843
  let c0_621 : Index := 0#32
  ![1, v1902.toNat, 0]
def k0_off151 (v1843 : BitVec 32) : Fin 3 → Nat :=
  let c2_625 : Index := 2#32
  let v1913 : Index := Scalar.indexCast v1843
  let c0_626 : Index := 0#32
  ![2, v1913.toNat, 0]
def k0_off152 (v1843 : BitVec 32) : Fin 3 → Nat :=
  let c3_630 : Index := 3#32
  let v1924 : Index := Scalar.indexCast v1843
  let c0_631 : Index := 0#32
  ![3, v1924.toNat, 0]

def k0_chk57 (v1843 : BitVec 32) : Prop :=
  (∀ a, (k0_off148 v1843) a + S1x1x128.size a ≤ S4x128x128.size a) ∧
  (∀ a, (k0_off150 v1843) a + S1x1x128.size a ≤ S4x128x128.size a) ∧
  (∀ a, (k0_off151 v1843) a + S1x1x128.size a ≤ S4x128x128.size a) ∧
  (∀ a, (k0_off152 v1843) a + S1x1x128.size a ≤ S4x128x128.size a)
theorem k0_off148_inb : ∀ (v1843 : BitVec 32) (k0_hw57 : k0_chk57 v1843), ∀ a, (k0_off148 v1843) a + S1x1x128.size a ≤ S4x128x128.size a := fun v1843 k0_hw57 => k0_hw57.1
theorem k0_off150_inb : ∀ (v1843 : BitVec 32) (k0_hw57 : k0_chk57 v1843), ∀ a, (k0_off150 v1843) a + S1x1x128.size a ≤ S4x128x128.size a := fun v1843 k0_hw57 => k0_hw57.2.1
theorem k0_off151_inb : ∀ (v1843 : BitVec 32) (k0_hw57 : k0_chk57 v1843), ∀ a, (k0_off151 v1843) a + S1x1x128.size a ≤ S4x128x128.size a := fun v1843 k0_hw57 => k0_hw57.2.2.1
theorem k0_off152_inb : ∀ (v1843 : BitVec 32) (k0_hw57 : k0_chk57 v1843), ∀ a, (k0_off152 v1843) a + S1x1x128.size a ≤ S4x128x128.size a := fun v1843 k0_hw57 => k0_hw57.2.2.2

def k0_off153 (i : grid0.Coords) : Fin 2 → Nat :=
  let arg0 : BitVec 32 := BitVec.ofNat 32 (i 0).val
  let v1935 : Index := Scalar.indexCast arg0
  let c19 : Index := 19#32
  ![v1935.toNat, 19]
def k0_off154 (v1946 : BitVec 32) (v1950 : BitVec 32) : Fin 3 → Nat :=
  let v1966 : Index := Scalar.indexCast v1946
  let v1967 : Index := Scalar.indexCast v1950
  let c0_642 : Index := 0#32
  ![v1966.toNat, v1967.toNat, 0]

def k0_chk58 (v1946 : BitVec 32) (v1950 : BitVec 32) : Prop :=
  (∀ a, (k0_off154 v1946 v1950) a + S1x80x128.size a ≤ S20x128x128.size a)
theorem k0_off154_inb : ∀ (v1946 : BitVec 32) (v1950 : BitVec 32) (k0_hw58 : k0_chk58 v1946 v1950), ∀ a, (k0_off154 v1946 v1950) a + S1x80x128.size a ≤ S20x128x128.size a := fun v1946 v1950 k0_hw58 => k0_hw58

def k0_off155 (v1944 : BitVec 32) (v1946 : BitVec 32) : Fin 3 → Nat :=
  let v1978 : Index := Scalar.indexCast v1946
  let v1979 : Index := Scalar.indexCast v1944
  let c0_644 : Index := 0#32
  ![v1978.toNat, v1979.toNat, 0]

def k0_chk59 (v1944 : BitVec 32) (v1946 : BitVec 32) : Prop :=
  (∀ a, (k0_off155 v1944 v1946) a + S1x1x128.size a ≤ S20x128x128.size a)
theorem k0_off155_inb : ∀ (v1944 : BitVec 32) (v1946 : BitVec 32) (k0_hw59 : k0_chk59 v1944 v1946), ∀ a, (k0_off155 v1944 v1946) a + S1x1x128.size a ≤ S20x128x128.size a := fun v1944 v1946 k0_hw59 => k0_hw59

def k0_off156 (v1944 : BitVec 32) : Fin 3 → Nat :=
  let c0_648 : Index := 0#32
  let v1992 : Index := Scalar.indexCast v1944
  let c0_649 : Index := 0#32
  ![0, v1992.toNat, 0]

def k0_off157 (i : grid0.Coords) : Fin 2 → Nat :=
  let arg0 : BitVec 32 := BitVec.ofNat 32 (i 0).val
  let v1995 : Index := Scalar.indexCast arg0
  let c19_650 : Index := 19#32
  ![v1995.toNat, 19]
def k0_off158 (v1944 : BitVec 32) : Fin 3 → Nat :=
  let c1_653 : Index := 1#32
  let v2003 : Index := Scalar.indexCast v1944
  let c0_654 : Index := 0#32
  ![1, v2003.toNat, 0]
def k0_off159 (v1944 : BitVec 32) : Fin 3 → Nat :=
  let c2_658 : Index := 2#32
  let v2014 : Index := Scalar.indexCast v1944
  let c0_659 : Index := 0#32
  ![2, v2014.toNat, 0]
def k0_off160 (v1944 : BitVec 32) : Fin 3 → Nat :=
  let c3_663 : Index := 3#32
  let v2025 : Index := Scalar.indexCast v1944
  let c0_664 : Index := 0#32
  ![3, v2025.toNat, 0]

def k0_chk60 (v1944 : BitVec 32) : Prop :=
  (∀ a, (k0_off156 v1944) a + S1x1x128.size a ≤ S4x128x128.size a) ∧
  (∀ a, (k0_off158 v1944) a + S1x1x128.size a ≤ S4x128x128.size a) ∧
  (∀ a, (k0_off159 v1944) a + S1x1x128.size a ≤ S4x128x128.size a) ∧
  (∀ a, (k0_off160 v1944) a + S1x1x128.size a ≤ S4x128x128.size a)
theorem k0_off156_inb : ∀ (v1944 : BitVec 32) (k0_hw60 : k0_chk60 v1944), ∀ a, (k0_off156 v1944) a + S1x1x128.size a ≤ S4x128x128.size a := fun v1944 k0_hw60 => k0_hw60.1
theorem k0_off158_inb : ∀ (v1944 : BitVec 32) (k0_hw60 : k0_chk60 v1944), ∀ a, (k0_off158 v1944) a + S1x1x128.size a ≤ S4x128x128.size a := fun v1944 k0_hw60 => k0_hw60.2.1
theorem k0_off159_inb : ∀ (v1944 : BitVec 32) (k0_hw60 : k0_chk60 v1944), ∀ a, (k0_off159 v1944) a + S1x1x128.size a ≤ S4x128x128.size a := fun v1944 k0_hw60 => k0_hw60.2.2.1
theorem k0_off160_inb : ∀ (v1944 : BitVec 32) (k0_hw60 : k0_chk60 v1944), ∀ a, (k0_off160 v1944) a + S1x1x128.size a ≤ S4x128x128.size a := fun v1944 k0_hw60 => k0_hw60.2.2.2

def k0_off161 (i : grid0.Coords) : Fin 2 → Nat :=
  let arg0 : BitVec 32 := BitVec.ofNat 32 (i 0).val
  let v2036 : Index := Scalar.indexCast arg0
  let c20 : Index := 20#32
  ![v2036.toNat, 20]
def k0_off162 (v2047 : BitVec 32) (v2051 : BitVec 32) : Fin 3 → Nat :=
  let v2067 : Index := Scalar.indexCast v2047
  let v2068 : Index := Scalar.indexCast v2051
  let c0_675 : Index := 0#32
  ![v2067.toNat, v2068.toNat, 0]

def k0_chk61 (v2047 : BitVec 32) (v2051 : BitVec 32) : Prop :=
  (∀ a, (k0_off162 v2047 v2051) a + S1x80x128.size a ≤ S20x128x128.size a)
theorem k0_off162_inb : ∀ (v2047 : BitVec 32) (v2051 : BitVec 32) (k0_hw61 : k0_chk61 v2047 v2051), ∀ a, (k0_off162 v2047 v2051) a + S1x80x128.size a ≤ S20x128x128.size a := fun v2047 v2051 k0_hw61 => k0_hw61

def k0_off163 (v2045 : BitVec 32) (v2047 : BitVec 32) : Fin 3 → Nat :=
  let v2079 : Index := Scalar.indexCast v2047
  let v2080 : Index := Scalar.indexCast v2045
  let c0_677 : Index := 0#32
  ![v2079.toNat, v2080.toNat, 0]

def k0_chk62 (v2045 : BitVec 32) (v2047 : BitVec 32) : Prop :=
  (∀ a, (k0_off163 v2045 v2047) a + S1x1x128.size a ≤ S20x128x128.size a)
theorem k0_off163_inb : ∀ (v2045 : BitVec 32) (v2047 : BitVec 32) (k0_hw62 : k0_chk62 v2045 v2047), ∀ a, (k0_off163 v2045 v2047) a + S1x1x128.size a ≤ S20x128x128.size a := fun v2045 v2047 k0_hw62 => k0_hw62

def k0_off164 (v2045 : BitVec 32) : Fin 3 → Nat :=
  let c0_681 : Index := 0#32
  let v2093 : Index := Scalar.indexCast v2045
  let c0_682 : Index := 0#32
  ![0, v2093.toNat, 0]

def k0_off165 (i : grid0.Coords) : Fin 2 → Nat :=
  let arg0 : BitVec 32 := BitVec.ofNat 32 (i 0).val
  let v2096 : Index := Scalar.indexCast arg0
  let c20_683 : Index := 20#32
  ![v2096.toNat, 20]
def k0_off166 (v2045 : BitVec 32) : Fin 3 → Nat :=
  let c1_686 : Index := 1#32
  let v2104 : Index := Scalar.indexCast v2045
  let c0_687 : Index := 0#32
  ![1, v2104.toNat, 0]
def k0_off167 (v2045 : BitVec 32) : Fin 3 → Nat :=
  let c2_691 : Index := 2#32
  let v2115 : Index := Scalar.indexCast v2045
  let c0_692 : Index := 0#32
  ![2, v2115.toNat, 0]
def k0_off168 (v2045 : BitVec 32) : Fin 3 → Nat :=
  let c3_696 : Index := 3#32
  let v2126 : Index := Scalar.indexCast v2045
  let c0_697 : Index := 0#32
  ![3, v2126.toNat, 0]

def k0_chk63 (v2045 : BitVec 32) : Prop :=
  (∀ a, (k0_off164 v2045) a + S1x1x128.size a ≤ S4x128x128.size a) ∧
  (∀ a, (k0_off166 v2045) a + S1x1x128.size a ≤ S4x128x128.size a) ∧
  (∀ a, (k0_off167 v2045) a + S1x1x128.size a ≤ S4x128x128.size a) ∧
  (∀ a, (k0_off168 v2045) a + S1x1x128.size a ≤ S4x128x128.size a)
theorem k0_off164_inb : ∀ (v2045 : BitVec 32) (k0_hw63 : k0_chk63 v2045), ∀ a, (k0_off164 v2045) a + S1x1x128.size a ≤ S4x128x128.size a := fun v2045 k0_hw63 => k0_hw63.1
theorem k0_off166_inb : ∀ (v2045 : BitVec 32) (k0_hw63 : k0_chk63 v2045), ∀ a, (k0_off166 v2045) a + S1x1x128.size a ≤ S4x128x128.size a := fun v2045 k0_hw63 => k0_hw63.2.1
theorem k0_off167_inb : ∀ (v2045 : BitVec 32) (k0_hw63 : k0_chk63 v2045), ∀ a, (k0_off167 v2045) a + S1x1x128.size a ≤ S4x128x128.size a := fun v2045 k0_hw63 => k0_hw63.2.2.1
theorem k0_off168_inb : ∀ (v2045 : BitVec 32) (k0_hw63 : k0_chk63 v2045), ∀ a, (k0_off168 v2045) a + S1x1x128.size a ≤ S4x128x128.size a := fun v2045 k0_hw63 => k0_hw63.2.2.2

def k0_off169 (i : grid0.Coords) : Fin 2 → Nat :=
  let arg0 : BitVec 32 := BitVec.ofNat 32 (i 0).val
  let v2137 : Index := Scalar.indexCast arg0
  let c21 : Index := 21#32
  ![v2137.toNat, 21]
def k0_off170 (v2148 : BitVec 32) (v2152 : BitVec 32) : Fin 3 → Nat :=
  let v2168 : Index := Scalar.indexCast v2148
  let v2169 : Index := Scalar.indexCast v2152
  let c0_708 : Index := 0#32
  ![v2168.toNat, v2169.toNat, 0]

def k0_chk64 (v2148 : BitVec 32) (v2152 : BitVec 32) : Prop :=
  (∀ a, (k0_off170 v2148 v2152) a + S1x80x128.size a ≤ S20x128x128.size a)
theorem k0_off170_inb : ∀ (v2148 : BitVec 32) (v2152 : BitVec 32) (k0_hw64 : k0_chk64 v2148 v2152), ∀ a, (k0_off170 v2148 v2152) a + S1x80x128.size a ≤ S20x128x128.size a := fun v2148 v2152 k0_hw64 => k0_hw64

def k0_off171 (v2146 : BitVec 32) (v2148 : BitVec 32) : Fin 3 → Nat :=
  let v2180 : Index := Scalar.indexCast v2148
  let v2181 : Index := Scalar.indexCast v2146
  let c0_710 : Index := 0#32
  ![v2180.toNat, v2181.toNat, 0]

def k0_chk65 (v2146 : BitVec 32) (v2148 : BitVec 32) : Prop :=
  (∀ a, (k0_off171 v2146 v2148) a + S1x1x128.size a ≤ S20x128x128.size a)
theorem k0_off171_inb : ∀ (v2146 : BitVec 32) (v2148 : BitVec 32) (k0_hw65 : k0_chk65 v2146 v2148), ∀ a, (k0_off171 v2146 v2148) a + S1x1x128.size a ≤ S20x128x128.size a := fun v2146 v2148 k0_hw65 => k0_hw65

def k0_off172 (v2146 : BitVec 32) : Fin 3 → Nat :=
  let c0_714 : Index := 0#32
  let v2194 : Index := Scalar.indexCast v2146
  let c0_715 : Index := 0#32
  ![0, v2194.toNat, 0]

def k0_off173 (i : grid0.Coords) : Fin 2 → Nat :=
  let arg0 : BitVec 32 := BitVec.ofNat 32 (i 0).val
  let v2197 : Index := Scalar.indexCast arg0
  let c21_716 : Index := 21#32
  ![v2197.toNat, 21]
def k0_off174 (v2146 : BitVec 32) : Fin 3 → Nat :=
  let c1_719 : Index := 1#32
  let v2205 : Index := Scalar.indexCast v2146
  let c0_720 : Index := 0#32
  ![1, v2205.toNat, 0]
def k0_off175 (v2146 : BitVec 32) : Fin 3 → Nat :=
  let c2_724 : Index := 2#32
  let v2216 : Index := Scalar.indexCast v2146
  let c0_725 : Index := 0#32
  ![2, v2216.toNat, 0]
def k0_off176 (v2146 : BitVec 32) : Fin 3 → Nat :=
  let c3_729 : Index := 3#32
  let v2227 : Index := Scalar.indexCast v2146
  let c0_730 : Index := 0#32
  ![3, v2227.toNat, 0]

def k0_chk66 (v2146 : BitVec 32) : Prop :=
  (∀ a, (k0_off172 v2146) a + S1x1x128.size a ≤ S4x128x128.size a) ∧
  (∀ a, (k0_off174 v2146) a + S1x1x128.size a ≤ S4x128x128.size a) ∧
  (∀ a, (k0_off175 v2146) a + S1x1x128.size a ≤ S4x128x128.size a) ∧
  (∀ a, (k0_off176 v2146) a + S1x1x128.size a ≤ S4x128x128.size a)
theorem k0_off172_inb : ∀ (v2146 : BitVec 32) (k0_hw66 : k0_chk66 v2146), ∀ a, (k0_off172 v2146) a + S1x1x128.size a ≤ S4x128x128.size a := fun v2146 k0_hw66 => k0_hw66.1
theorem k0_off174_inb : ∀ (v2146 : BitVec 32) (k0_hw66 : k0_chk66 v2146), ∀ a, (k0_off174 v2146) a + S1x1x128.size a ≤ S4x128x128.size a := fun v2146 k0_hw66 => k0_hw66.2.1
theorem k0_off175_inb : ∀ (v2146 : BitVec 32) (k0_hw66 : k0_chk66 v2146), ∀ a, (k0_off175 v2146) a + S1x1x128.size a ≤ S4x128x128.size a := fun v2146 k0_hw66 => k0_hw66.2.2.1
theorem k0_off176_inb : ∀ (v2146 : BitVec 32) (k0_hw66 : k0_chk66 v2146), ∀ a, (k0_off176 v2146) a + S1x1x128.size a ≤ S4x128x128.size a := fun v2146 k0_hw66 => k0_hw66.2.2.2

def k0_off177 (i : grid0.Coords) : Fin 2 → Nat :=
  let arg0 : BitVec 32 := BitVec.ofNat 32 (i 0).val
  let v2238 : Index := Scalar.indexCast arg0
  let c22 : Index := 22#32
  ![v2238.toNat, 22]
def k0_off178 (v2249 : BitVec 32) (v2253 : BitVec 32) : Fin 3 → Nat :=
  let v2269 : Index := Scalar.indexCast v2249
  let v2270 : Index := Scalar.indexCast v2253
  let c0_741 : Index := 0#32
  ![v2269.toNat, v2270.toNat, 0]

def k0_chk67 (v2249 : BitVec 32) (v2253 : BitVec 32) : Prop :=
  (∀ a, (k0_off178 v2249 v2253) a + S1x80x128.size a ≤ S20x128x128.size a)
theorem k0_off178_inb : ∀ (v2249 : BitVec 32) (v2253 : BitVec 32) (k0_hw67 : k0_chk67 v2249 v2253), ∀ a, (k0_off178 v2249 v2253) a + S1x80x128.size a ≤ S20x128x128.size a := fun v2249 v2253 k0_hw67 => k0_hw67

def k0_off179 (v2247 : BitVec 32) (v2249 : BitVec 32) : Fin 3 → Nat :=
  let v2281 : Index := Scalar.indexCast v2249
  let v2282 : Index := Scalar.indexCast v2247
  let c0_743 : Index := 0#32
  ![v2281.toNat, v2282.toNat, 0]

def k0_chk68 (v2247 : BitVec 32) (v2249 : BitVec 32) : Prop :=
  (∀ a, (k0_off179 v2247 v2249) a + S1x1x128.size a ≤ S20x128x128.size a)
theorem k0_off179_inb : ∀ (v2247 : BitVec 32) (v2249 : BitVec 32) (k0_hw68 : k0_chk68 v2247 v2249), ∀ a, (k0_off179 v2247 v2249) a + S1x1x128.size a ≤ S20x128x128.size a := fun v2247 v2249 k0_hw68 => k0_hw68

def k0_off180 (v2247 : BitVec 32) : Fin 3 → Nat :=
  let c0_747 : Index := 0#32
  let v2295 : Index := Scalar.indexCast v2247
  let c0_748 : Index := 0#32
  ![0, v2295.toNat, 0]

def k0_off181 (i : grid0.Coords) : Fin 2 → Nat :=
  let arg0 : BitVec 32 := BitVec.ofNat 32 (i 0).val
  let v2298 : Index := Scalar.indexCast arg0
  let c22_749 : Index := 22#32
  ![v2298.toNat, 22]
def k0_off182 (v2247 : BitVec 32) : Fin 3 → Nat :=
  let c1_752 : Index := 1#32
  let v2306 : Index := Scalar.indexCast v2247
  let c0_753 : Index := 0#32
  ![1, v2306.toNat, 0]
def k0_off183 (v2247 : BitVec 32) : Fin 3 → Nat :=
  let c2_757 : Index := 2#32
  let v2317 : Index := Scalar.indexCast v2247
  let c0_758 : Index := 0#32
  ![2, v2317.toNat, 0]
def k0_off184 (v2247 : BitVec 32) : Fin 3 → Nat :=
  let c3_762 : Index := 3#32
  let v2328 : Index := Scalar.indexCast v2247
  let c0_763 : Index := 0#32
  ![3, v2328.toNat, 0]

def k0_chk69 (v2247 : BitVec 32) : Prop :=
  (∀ a, (k0_off180 v2247) a + S1x1x128.size a ≤ S4x128x128.size a) ∧
  (∀ a, (k0_off182 v2247) a + S1x1x128.size a ≤ S4x128x128.size a) ∧
  (∀ a, (k0_off183 v2247) a + S1x1x128.size a ≤ S4x128x128.size a) ∧
  (∀ a, (k0_off184 v2247) a + S1x1x128.size a ≤ S4x128x128.size a)
theorem k0_off180_inb : ∀ (v2247 : BitVec 32) (k0_hw69 : k0_chk69 v2247), ∀ a, (k0_off180 v2247) a + S1x1x128.size a ≤ S4x128x128.size a := fun v2247 k0_hw69 => k0_hw69.1
theorem k0_off182_inb : ∀ (v2247 : BitVec 32) (k0_hw69 : k0_chk69 v2247), ∀ a, (k0_off182 v2247) a + S1x1x128.size a ≤ S4x128x128.size a := fun v2247 k0_hw69 => k0_hw69.2.1
theorem k0_off183_inb : ∀ (v2247 : BitVec 32) (k0_hw69 : k0_chk69 v2247), ∀ a, (k0_off183 v2247) a + S1x1x128.size a ≤ S4x128x128.size a := fun v2247 k0_hw69 => k0_hw69.2.2.1
theorem k0_off184_inb : ∀ (v2247 : BitVec 32) (k0_hw69 : k0_chk69 v2247), ∀ a, (k0_off184 v2247) a + S1x1x128.size a ≤ S4x128x128.size a := fun v2247 k0_hw69 => k0_hw69.2.2.2

def k0_off185 (i : grid0.Coords) : Fin 2 → Nat :=
  let arg0 : BitVec 32 := BitVec.ofNat 32 (i 0).val
  let v2339 : Index := Scalar.indexCast arg0
  let c23 : Index := 23#32
  ![v2339.toNat, 23]
def k0_off186 (v2350 : BitVec 32) (v2354 : BitVec 32) : Fin 3 → Nat :=
  let v2370 : Index := Scalar.indexCast v2350
  let v2371 : Index := Scalar.indexCast v2354
  let c0_774 : Index := 0#32
  ![v2370.toNat, v2371.toNat, 0]

def k0_chk70 (v2350 : BitVec 32) (v2354 : BitVec 32) : Prop :=
  (∀ a, (k0_off186 v2350 v2354) a + S1x80x128.size a ≤ S20x128x128.size a)
theorem k0_off186_inb : ∀ (v2350 : BitVec 32) (v2354 : BitVec 32) (k0_hw70 : k0_chk70 v2350 v2354), ∀ a, (k0_off186 v2350 v2354) a + S1x80x128.size a ≤ S20x128x128.size a := fun v2350 v2354 k0_hw70 => k0_hw70

def k0_off187 (v2348 : BitVec 32) (v2350 : BitVec 32) : Fin 3 → Nat :=
  let v2382 : Index := Scalar.indexCast v2350
  let v2383 : Index := Scalar.indexCast v2348
  let c0_776 : Index := 0#32
  ![v2382.toNat, v2383.toNat, 0]

def k0_chk71 (v2348 : BitVec 32) (v2350 : BitVec 32) : Prop :=
  (∀ a, (k0_off187 v2348 v2350) a + S1x1x128.size a ≤ S20x128x128.size a)
theorem k0_off187_inb : ∀ (v2348 : BitVec 32) (v2350 : BitVec 32) (k0_hw71 : k0_chk71 v2348 v2350), ∀ a, (k0_off187 v2348 v2350) a + S1x1x128.size a ≤ S20x128x128.size a := fun v2348 v2350 k0_hw71 => k0_hw71

def k0_off188 (v2348 : BitVec 32) : Fin 3 → Nat :=
  let c0_780 : Index := 0#32
  let v2396 : Index := Scalar.indexCast v2348
  let c0_781 : Index := 0#32
  ![0, v2396.toNat, 0]

def k0_off189 (i : grid0.Coords) : Fin 2 → Nat :=
  let arg0 : BitVec 32 := BitVec.ofNat 32 (i 0).val
  let v2399 : Index := Scalar.indexCast arg0
  let c23_782 : Index := 23#32
  ![v2399.toNat, 23]
def k0_off190 (v2348 : BitVec 32) : Fin 3 → Nat :=
  let c1_785 : Index := 1#32
  let v2407 : Index := Scalar.indexCast v2348
  let c0_786 : Index := 0#32
  ![1, v2407.toNat, 0]
def k0_off191 (v2348 : BitVec 32) : Fin 3 → Nat :=
  let c2_790 : Index := 2#32
  let v2418 : Index := Scalar.indexCast v2348
  let c0_791 : Index := 0#32
  ![2, v2418.toNat, 0]
def k0_off192 (v2348 : BitVec 32) : Fin 3 → Nat :=
  let c3_795 : Index := 3#32
  let v2429 : Index := Scalar.indexCast v2348
  let c0_796 : Index := 0#32
  ![3, v2429.toNat, 0]

def k0_chk72 (v2348 : BitVec 32) : Prop :=
  (∀ a, (k0_off188 v2348) a + S1x1x128.size a ≤ S4x128x128.size a) ∧
  (∀ a, (k0_off190 v2348) a + S1x1x128.size a ≤ S4x128x128.size a) ∧
  (∀ a, (k0_off191 v2348) a + S1x1x128.size a ≤ S4x128x128.size a) ∧
  (∀ a, (k0_off192 v2348) a + S1x1x128.size a ≤ S4x128x128.size a)
theorem k0_off188_inb : ∀ (v2348 : BitVec 32) (k0_hw72 : k0_chk72 v2348), ∀ a, (k0_off188 v2348) a + S1x1x128.size a ≤ S4x128x128.size a := fun v2348 k0_hw72 => k0_hw72.1
theorem k0_off190_inb : ∀ (v2348 : BitVec 32) (k0_hw72 : k0_chk72 v2348), ∀ a, (k0_off190 v2348) a + S1x1x128.size a ≤ S4x128x128.size a := fun v2348 k0_hw72 => k0_hw72.2.1
theorem k0_off191_inb : ∀ (v2348 : BitVec 32) (k0_hw72 : k0_chk72 v2348), ∀ a, (k0_off191 v2348) a + S1x1x128.size a ≤ S4x128x128.size a := fun v2348 k0_hw72 => k0_hw72.2.2.1
theorem k0_off192_inb : ∀ (v2348 : BitVec 32) (k0_hw72 : k0_chk72 v2348), ∀ a, (k0_off192 v2348) a + S1x1x128.size a ≤ S4x128x128.size a := fun v2348 k0_hw72 => k0_hw72.2.2.2

def k0_off193 (i : grid0.Coords) : Fin 2 → Nat :=
  let arg0 : BitVec 32 := BitVec.ofNat 32 (i 0).val
  let v2440 : Index := Scalar.indexCast arg0
  let c24 : Index := 24#32
  ![v2440.toNat, 24]
def k0_off194 (v2451 : BitVec 32) (v2455 : BitVec 32) : Fin 3 → Nat :=
  let v2471 : Index := Scalar.indexCast v2451
  let v2472 : Index := Scalar.indexCast v2455
  let c0_807 : Index := 0#32
  ![v2471.toNat, v2472.toNat, 0]

def k0_chk73 (v2451 : BitVec 32) (v2455 : BitVec 32) : Prop :=
  (∀ a, (k0_off194 v2451 v2455) a + S1x80x128.size a ≤ S20x128x128.size a)
theorem k0_off194_inb : ∀ (v2451 : BitVec 32) (v2455 : BitVec 32) (k0_hw73 : k0_chk73 v2451 v2455), ∀ a, (k0_off194 v2451 v2455) a + S1x80x128.size a ≤ S20x128x128.size a := fun v2451 v2455 k0_hw73 => k0_hw73

def k0_off195 (v2449 : BitVec 32) (v2451 : BitVec 32) : Fin 3 → Nat :=
  let v2483 : Index := Scalar.indexCast v2451
  let v2484 : Index := Scalar.indexCast v2449
  let c0_809 : Index := 0#32
  ![v2483.toNat, v2484.toNat, 0]

def k0_chk74 (v2449 : BitVec 32) (v2451 : BitVec 32) : Prop :=
  (∀ a, (k0_off195 v2449 v2451) a + S1x1x128.size a ≤ S20x128x128.size a)
theorem k0_off195_inb : ∀ (v2449 : BitVec 32) (v2451 : BitVec 32) (k0_hw74 : k0_chk74 v2449 v2451), ∀ a, (k0_off195 v2449 v2451) a + S1x1x128.size a ≤ S20x128x128.size a := fun v2449 v2451 k0_hw74 => k0_hw74

def k0_off196 (v2449 : BitVec 32) : Fin 3 → Nat :=
  let c0_813 : Index := 0#32
  let v2497 : Index := Scalar.indexCast v2449
  let c0_814 : Index := 0#32
  ![0, v2497.toNat, 0]

def k0_off197 (i : grid0.Coords) : Fin 2 → Nat :=
  let arg0 : BitVec 32 := BitVec.ofNat 32 (i 0).val
  let v2500 : Index := Scalar.indexCast arg0
  let c24_815 : Index := 24#32
  ![v2500.toNat, 24]
def k0_off198 (v2449 : BitVec 32) : Fin 3 → Nat :=
  let c1_818 : Index := 1#32
  let v2508 : Index := Scalar.indexCast v2449
  let c0_819 : Index := 0#32
  ![1, v2508.toNat, 0]
def k0_off199 (v2449 : BitVec 32) : Fin 3 → Nat :=
  let c2_823 : Index := 2#32
  let v2519 : Index := Scalar.indexCast v2449
  let c0_824 : Index := 0#32
  ![2, v2519.toNat, 0]
def k0_off200 (v2449 : BitVec 32) : Fin 3 → Nat :=
  let c3_828 : Index := 3#32
  let v2530 : Index := Scalar.indexCast v2449
  let c0_829 : Index := 0#32
  ![3, v2530.toNat, 0]

def k0_chk75 (v2449 : BitVec 32) : Prop :=
  (∀ a, (k0_off196 v2449) a + S1x1x128.size a ≤ S4x128x128.size a) ∧
  (∀ a, (k0_off198 v2449) a + S1x1x128.size a ≤ S4x128x128.size a) ∧
  (∀ a, (k0_off199 v2449) a + S1x1x128.size a ≤ S4x128x128.size a) ∧
  (∀ a, (k0_off200 v2449) a + S1x1x128.size a ≤ S4x128x128.size a)
theorem k0_off196_inb : ∀ (v2449 : BitVec 32) (k0_hw75 : k0_chk75 v2449), ∀ a, (k0_off196 v2449) a + S1x1x128.size a ≤ S4x128x128.size a := fun v2449 k0_hw75 => k0_hw75.1
theorem k0_off198_inb : ∀ (v2449 : BitVec 32) (k0_hw75 : k0_chk75 v2449), ∀ a, (k0_off198 v2449) a + S1x1x128.size a ≤ S4x128x128.size a := fun v2449 k0_hw75 => k0_hw75.2.1
theorem k0_off199_inb : ∀ (v2449 : BitVec 32) (k0_hw75 : k0_chk75 v2449), ∀ a, (k0_off199 v2449) a + S1x1x128.size a ≤ S4x128x128.size a := fun v2449 k0_hw75 => k0_hw75.2.2.1
theorem k0_off200_inb : ∀ (v2449 : BitVec 32) (k0_hw75 : k0_chk75 v2449), ∀ a, (k0_off200 v2449) a + S1x1x128.size a ≤ S4x128x128.size a := fun v2449 k0_hw75 => k0_hw75.2.2.2

def k0_off201 (i : grid0.Coords) : Fin 2 → Nat :=
  let arg0 : BitVec 32 := BitVec.ofNat 32 (i 0).val
  let v2541 : Index := Scalar.indexCast arg0
  let c25 : Index := 25#32
  ![v2541.toNat, 25]
def k0_off202 (v2552 : BitVec 32) (v2556 : BitVec 32) : Fin 3 → Nat :=
  let v2572 : Index := Scalar.indexCast v2552
  let v2573 : Index := Scalar.indexCast v2556
  let c0_840 : Index := 0#32
  ![v2572.toNat, v2573.toNat, 0]

def k0_chk76 (v2552 : BitVec 32) (v2556 : BitVec 32) : Prop :=
  (∀ a, (k0_off202 v2552 v2556) a + S1x80x128.size a ≤ S20x128x128.size a)
theorem k0_off202_inb : ∀ (v2552 : BitVec 32) (v2556 : BitVec 32) (k0_hw76 : k0_chk76 v2552 v2556), ∀ a, (k0_off202 v2552 v2556) a + S1x80x128.size a ≤ S20x128x128.size a := fun v2552 v2556 k0_hw76 => k0_hw76

def k0_off203 (v2550 : BitVec 32) (v2552 : BitVec 32) : Fin 3 → Nat :=
  let v2584 : Index := Scalar.indexCast v2552
  let v2585 : Index := Scalar.indexCast v2550
  let c0_842 : Index := 0#32
  ![v2584.toNat, v2585.toNat, 0]

def k0_chk77 (v2550 : BitVec 32) (v2552 : BitVec 32) : Prop :=
  (∀ a, (k0_off203 v2550 v2552) a + S1x1x128.size a ≤ S20x128x128.size a)
theorem k0_off203_inb : ∀ (v2550 : BitVec 32) (v2552 : BitVec 32) (k0_hw77 : k0_chk77 v2550 v2552), ∀ a, (k0_off203 v2550 v2552) a + S1x1x128.size a ≤ S20x128x128.size a := fun v2550 v2552 k0_hw77 => k0_hw77

def k0_off204 (v2550 : BitVec 32) : Fin 3 → Nat :=
  let c0_846 : Index := 0#32
  let v2598 : Index := Scalar.indexCast v2550
  let c0_847 : Index := 0#32
  ![0, v2598.toNat, 0]

def k0_off205 (i : grid0.Coords) : Fin 2 → Nat :=
  let arg0 : BitVec 32 := BitVec.ofNat 32 (i 0).val
  let v2601 : Index := Scalar.indexCast arg0
  let c25_848 : Index := 25#32
  ![v2601.toNat, 25]
def k0_off206 (v2550 : BitVec 32) : Fin 3 → Nat :=
  let c1_851 : Index := 1#32
  let v2609 : Index := Scalar.indexCast v2550
  let c0_852 : Index := 0#32
  ![1, v2609.toNat, 0]
def k0_off207 (v2550 : BitVec 32) : Fin 3 → Nat :=
  let c2_856 : Index := 2#32
  let v2620 : Index := Scalar.indexCast v2550
  let c0_857 : Index := 0#32
  ![2, v2620.toNat, 0]
def k0_off208 (v2550 : BitVec 32) : Fin 3 → Nat :=
  let c3_861 : Index := 3#32
  let v2631 : Index := Scalar.indexCast v2550
  let c0_862 : Index := 0#32
  ![3, v2631.toNat, 0]

def k0_chk78 (v2550 : BitVec 32) : Prop :=
  (∀ a, (k0_off204 v2550) a + S1x1x128.size a ≤ S4x128x128.size a) ∧
  (∀ a, (k0_off206 v2550) a + S1x1x128.size a ≤ S4x128x128.size a) ∧
  (∀ a, (k0_off207 v2550) a + S1x1x128.size a ≤ S4x128x128.size a) ∧
  (∀ a, (k0_off208 v2550) a + S1x1x128.size a ≤ S4x128x128.size a)
theorem k0_off204_inb : ∀ (v2550 : BitVec 32) (k0_hw78 : k0_chk78 v2550), ∀ a, (k0_off204 v2550) a + S1x1x128.size a ≤ S4x128x128.size a := fun v2550 k0_hw78 => k0_hw78.1
theorem k0_off206_inb : ∀ (v2550 : BitVec 32) (k0_hw78 : k0_chk78 v2550), ∀ a, (k0_off206 v2550) a + S1x1x128.size a ≤ S4x128x128.size a := fun v2550 k0_hw78 => k0_hw78.2.1
theorem k0_off207_inb : ∀ (v2550 : BitVec 32) (k0_hw78 : k0_chk78 v2550), ∀ a, (k0_off207 v2550) a + S1x1x128.size a ≤ S4x128x128.size a := fun v2550 k0_hw78 => k0_hw78.2.2.1
theorem k0_off208_inb : ∀ (v2550 : BitVec 32) (k0_hw78 : k0_chk78 v2550), ∀ a, (k0_off208 v2550) a + S1x1x128.size a ≤ S4x128x128.size a := fun v2550 k0_hw78 => k0_hw78.2.2.2

def k0_off209 (i : grid0.Coords) : Fin 2 → Nat :=
  let arg0 : BitVec 32 := BitVec.ofNat 32 (i 0).val
  let v2642 : Index := Scalar.indexCast arg0
  let c26 : Index := 26#32
  ![v2642.toNat, 26]
def k0_off210 (v2653 : BitVec 32) (v2657 : BitVec 32) : Fin 3 → Nat :=
  let v2673 : Index := Scalar.indexCast v2653
  let v2674 : Index := Scalar.indexCast v2657
  let c0_873 : Index := 0#32
  ![v2673.toNat, v2674.toNat, 0]

def k0_chk79 (v2653 : BitVec 32) (v2657 : BitVec 32) : Prop :=
  (∀ a, (k0_off210 v2653 v2657) a + S1x80x128.size a ≤ S20x128x128.size a)
theorem k0_off210_inb : ∀ (v2653 : BitVec 32) (v2657 : BitVec 32) (k0_hw79 : k0_chk79 v2653 v2657), ∀ a, (k0_off210 v2653 v2657) a + S1x80x128.size a ≤ S20x128x128.size a := fun v2653 v2657 k0_hw79 => k0_hw79

def k0_off211 (v2651 : BitVec 32) (v2653 : BitVec 32) : Fin 3 → Nat :=
  let v2685 : Index := Scalar.indexCast v2653
  let v2686 : Index := Scalar.indexCast v2651
  let c0_875 : Index := 0#32
  ![v2685.toNat, v2686.toNat, 0]

def k0_chk80 (v2651 : BitVec 32) (v2653 : BitVec 32) : Prop :=
  (∀ a, (k0_off211 v2651 v2653) a + S1x1x128.size a ≤ S20x128x128.size a)
theorem k0_off211_inb : ∀ (v2651 : BitVec 32) (v2653 : BitVec 32) (k0_hw80 : k0_chk80 v2651 v2653), ∀ a, (k0_off211 v2651 v2653) a + S1x1x128.size a ≤ S20x128x128.size a := fun v2651 v2653 k0_hw80 => k0_hw80

def k0_off212 (v2651 : BitVec 32) : Fin 3 → Nat :=
  let c0_879 : Index := 0#32
  let v2699 : Index := Scalar.indexCast v2651
  let c0_880 : Index := 0#32
  ![0, v2699.toNat, 0]

def k0_off213 (i : grid0.Coords) : Fin 2 → Nat :=
  let arg0 : BitVec 32 := BitVec.ofNat 32 (i 0).val
  let v2702 : Index := Scalar.indexCast arg0
  let c26_881 : Index := 26#32
  ![v2702.toNat, 26]
def k0_off214 (v2651 : BitVec 32) : Fin 3 → Nat :=
  let c1_884 : Index := 1#32
  let v2710 : Index := Scalar.indexCast v2651
  let c0_885 : Index := 0#32
  ![1, v2710.toNat, 0]
def k0_off215 (v2651 : BitVec 32) : Fin 3 → Nat :=
  let c2_889 : Index := 2#32
  let v2721 : Index := Scalar.indexCast v2651
  let c0_890 : Index := 0#32
  ![2, v2721.toNat, 0]
def k0_off216 (v2651 : BitVec 32) : Fin 3 → Nat :=
  let c3_894 : Index := 3#32
  let v2732 : Index := Scalar.indexCast v2651
  let c0_895 : Index := 0#32
  ![3, v2732.toNat, 0]

def k0_chk81 (v2651 : BitVec 32) : Prop :=
  (∀ a, (k0_off212 v2651) a + S1x1x128.size a ≤ S4x128x128.size a) ∧
  (∀ a, (k0_off214 v2651) a + S1x1x128.size a ≤ S4x128x128.size a) ∧
  (∀ a, (k0_off215 v2651) a + S1x1x128.size a ≤ S4x128x128.size a) ∧
  (∀ a, (k0_off216 v2651) a + S1x1x128.size a ≤ S4x128x128.size a)
theorem k0_off212_inb : ∀ (v2651 : BitVec 32) (k0_hw81 : k0_chk81 v2651), ∀ a, (k0_off212 v2651) a + S1x1x128.size a ≤ S4x128x128.size a := fun v2651 k0_hw81 => k0_hw81.1
theorem k0_off214_inb : ∀ (v2651 : BitVec 32) (k0_hw81 : k0_chk81 v2651), ∀ a, (k0_off214 v2651) a + S1x1x128.size a ≤ S4x128x128.size a := fun v2651 k0_hw81 => k0_hw81.2.1
theorem k0_off215_inb : ∀ (v2651 : BitVec 32) (k0_hw81 : k0_chk81 v2651), ∀ a, (k0_off215 v2651) a + S1x1x128.size a ≤ S4x128x128.size a := fun v2651 k0_hw81 => k0_hw81.2.2.1
theorem k0_off216_inb : ∀ (v2651 : BitVec 32) (k0_hw81 : k0_chk81 v2651), ∀ a, (k0_off216 v2651) a + S1x1x128.size a ≤ S4x128x128.size a := fun v2651 k0_hw81 => k0_hw81.2.2.2

def k0_off217 (i : grid0.Coords) : Fin 2 → Nat :=
  let arg0 : BitVec 32 := BitVec.ofNat 32 (i 0).val
  let v2743 : Index := Scalar.indexCast arg0
  let c27 : Index := 27#32
  ![v2743.toNat, 27]
def k0_off218 (v2754 : BitVec 32) (v2758 : BitVec 32) : Fin 3 → Nat :=
  let v2774 : Index := Scalar.indexCast v2754
  let v2775 : Index := Scalar.indexCast v2758
  let c0_906 : Index := 0#32
  ![v2774.toNat, v2775.toNat, 0]

def k0_chk82 (v2754 : BitVec 32) (v2758 : BitVec 32) : Prop :=
  (∀ a, (k0_off218 v2754 v2758) a + S1x80x128.size a ≤ S20x128x128.size a)
theorem k0_off218_inb : ∀ (v2754 : BitVec 32) (v2758 : BitVec 32) (k0_hw82 : k0_chk82 v2754 v2758), ∀ a, (k0_off218 v2754 v2758) a + S1x80x128.size a ≤ S20x128x128.size a := fun v2754 v2758 k0_hw82 => k0_hw82

def k0_off219 (v2752 : BitVec 32) (v2754 : BitVec 32) : Fin 3 → Nat :=
  let v2786 : Index := Scalar.indexCast v2754
  let v2787 : Index := Scalar.indexCast v2752
  let c0_908 : Index := 0#32
  ![v2786.toNat, v2787.toNat, 0]

def k0_chk83 (v2752 : BitVec 32) (v2754 : BitVec 32) : Prop :=
  (∀ a, (k0_off219 v2752 v2754) a + S1x1x128.size a ≤ S20x128x128.size a)
theorem k0_off219_inb : ∀ (v2752 : BitVec 32) (v2754 : BitVec 32) (k0_hw83 : k0_chk83 v2752 v2754), ∀ a, (k0_off219 v2752 v2754) a + S1x1x128.size a ≤ S20x128x128.size a := fun v2752 v2754 k0_hw83 => k0_hw83

def k0_off220 (v2752 : BitVec 32) : Fin 3 → Nat :=
  let c0_912 : Index := 0#32
  let v2800 : Index := Scalar.indexCast v2752
  let c0_913 : Index := 0#32
  ![0, v2800.toNat, 0]

def k0_off221 (i : grid0.Coords) : Fin 2 → Nat :=
  let arg0 : BitVec 32 := BitVec.ofNat 32 (i 0).val
  let v2803 : Index := Scalar.indexCast arg0
  let c27_914 : Index := 27#32
  ![v2803.toNat, 27]
def k0_off222 (v2752 : BitVec 32) : Fin 3 → Nat :=
  let c1_917 : Index := 1#32
  let v2811 : Index := Scalar.indexCast v2752
  let c0_918 : Index := 0#32
  ![1, v2811.toNat, 0]
def k0_off223 (v2752 : BitVec 32) : Fin 3 → Nat :=
  let c2_922 : Index := 2#32
  let v2822 : Index := Scalar.indexCast v2752
  let c0_923 : Index := 0#32
  ![2, v2822.toNat, 0]
def k0_off224 (v2752 : BitVec 32) : Fin 3 → Nat :=
  let c3_927 : Index := 3#32
  let v2833 : Index := Scalar.indexCast v2752
  let c0_928 : Index := 0#32
  ![3, v2833.toNat, 0]

def k0_chk84 (v2752 : BitVec 32) : Prop :=
  (∀ a, (k0_off220 v2752) a + S1x1x128.size a ≤ S4x128x128.size a) ∧
  (∀ a, (k0_off222 v2752) a + S1x1x128.size a ≤ S4x128x128.size a) ∧
  (∀ a, (k0_off223 v2752) a + S1x1x128.size a ≤ S4x128x128.size a) ∧
  (∀ a, (k0_off224 v2752) a + S1x1x128.size a ≤ S4x128x128.size a)
theorem k0_off220_inb : ∀ (v2752 : BitVec 32) (k0_hw84 : k0_chk84 v2752), ∀ a, (k0_off220 v2752) a + S1x1x128.size a ≤ S4x128x128.size a := fun v2752 k0_hw84 => k0_hw84.1
theorem k0_off222_inb : ∀ (v2752 : BitVec 32) (k0_hw84 : k0_chk84 v2752), ∀ a, (k0_off222 v2752) a + S1x1x128.size a ≤ S4x128x128.size a := fun v2752 k0_hw84 => k0_hw84.2.1
theorem k0_off223_inb : ∀ (v2752 : BitVec 32) (k0_hw84 : k0_chk84 v2752), ∀ a, (k0_off223 v2752) a + S1x1x128.size a ≤ S4x128x128.size a := fun v2752 k0_hw84 => k0_hw84.2.2.1
theorem k0_off224_inb : ∀ (v2752 : BitVec 32) (k0_hw84 : k0_chk84 v2752), ∀ a, (k0_off224 v2752) a + S1x1x128.size a ≤ S4x128x128.size a := fun v2752 k0_hw84 => k0_hw84.2.2.2

def k0_off225 (i : grid0.Coords) : Fin 2 → Nat :=
  let arg0 : BitVec 32 := BitVec.ofNat 32 (i 0).val
  let v2844 : Index := Scalar.indexCast arg0
  let c28 : Index := 28#32
  ![v2844.toNat, 28]
def k0_off226 (v2855 : BitVec 32) (v2859 : BitVec 32) : Fin 3 → Nat :=
  let v2875 : Index := Scalar.indexCast v2855
  let v2876 : Index := Scalar.indexCast v2859
  let c0_939 : Index := 0#32
  ![v2875.toNat, v2876.toNat, 0]

def k0_chk85 (v2855 : BitVec 32) (v2859 : BitVec 32) : Prop :=
  (∀ a, (k0_off226 v2855 v2859) a + S1x80x128.size a ≤ S20x128x128.size a)
theorem k0_off226_inb : ∀ (v2855 : BitVec 32) (v2859 : BitVec 32) (k0_hw85 : k0_chk85 v2855 v2859), ∀ a, (k0_off226 v2855 v2859) a + S1x80x128.size a ≤ S20x128x128.size a := fun v2855 v2859 k0_hw85 => k0_hw85

def k0_off227 (v2853 : BitVec 32) (v2855 : BitVec 32) : Fin 3 → Nat :=
  let v2887 : Index := Scalar.indexCast v2855
  let v2888 : Index := Scalar.indexCast v2853
  let c0_941 : Index := 0#32
  ![v2887.toNat, v2888.toNat, 0]

def k0_chk86 (v2853 : BitVec 32) (v2855 : BitVec 32) : Prop :=
  (∀ a, (k0_off227 v2853 v2855) a + S1x1x128.size a ≤ S20x128x128.size a)
theorem k0_off227_inb : ∀ (v2853 : BitVec 32) (v2855 : BitVec 32) (k0_hw86 : k0_chk86 v2853 v2855), ∀ a, (k0_off227 v2853 v2855) a + S1x1x128.size a ≤ S20x128x128.size a := fun v2853 v2855 k0_hw86 => k0_hw86

def k0_off228 (v2853 : BitVec 32) : Fin 3 → Nat :=
  let c0_945 : Index := 0#32
  let v2901 : Index := Scalar.indexCast v2853
  let c0_946 : Index := 0#32
  ![0, v2901.toNat, 0]

def k0_off229 (i : grid0.Coords) : Fin 2 → Nat :=
  let arg0 : BitVec 32 := BitVec.ofNat 32 (i 0).val
  let v2904 : Index := Scalar.indexCast arg0
  let c28_947 : Index := 28#32
  ![v2904.toNat, 28]
def k0_off230 (v2853 : BitVec 32) : Fin 3 → Nat :=
  let c1_950 : Index := 1#32
  let v2912 : Index := Scalar.indexCast v2853
  let c0_951 : Index := 0#32
  ![1, v2912.toNat, 0]
def k0_off231 (v2853 : BitVec 32) : Fin 3 → Nat :=
  let c2_955 : Index := 2#32
  let v2923 : Index := Scalar.indexCast v2853
  let c0_956 : Index := 0#32
  ![2, v2923.toNat, 0]
def k0_off232 (v2853 : BitVec 32) : Fin 3 → Nat :=
  let c3_960 : Index := 3#32
  let v2934 : Index := Scalar.indexCast v2853
  let c0_961 : Index := 0#32
  ![3, v2934.toNat, 0]

def k0_chk87 (v2853 : BitVec 32) : Prop :=
  (∀ a, (k0_off228 v2853) a + S1x1x128.size a ≤ S4x128x128.size a) ∧
  (∀ a, (k0_off230 v2853) a + S1x1x128.size a ≤ S4x128x128.size a) ∧
  (∀ a, (k0_off231 v2853) a + S1x1x128.size a ≤ S4x128x128.size a) ∧
  (∀ a, (k0_off232 v2853) a + S1x1x128.size a ≤ S4x128x128.size a)
theorem k0_off228_inb : ∀ (v2853 : BitVec 32) (k0_hw87 : k0_chk87 v2853), ∀ a, (k0_off228 v2853) a + S1x1x128.size a ≤ S4x128x128.size a := fun v2853 k0_hw87 => k0_hw87.1
theorem k0_off230_inb : ∀ (v2853 : BitVec 32) (k0_hw87 : k0_chk87 v2853), ∀ a, (k0_off230 v2853) a + S1x1x128.size a ≤ S4x128x128.size a := fun v2853 k0_hw87 => k0_hw87.2.1
theorem k0_off231_inb : ∀ (v2853 : BitVec 32) (k0_hw87 : k0_chk87 v2853), ∀ a, (k0_off231 v2853) a + S1x1x128.size a ≤ S4x128x128.size a := fun v2853 k0_hw87 => k0_hw87.2.2.1
theorem k0_off232_inb : ∀ (v2853 : BitVec 32) (k0_hw87 : k0_chk87 v2853), ∀ a, (k0_off232 v2853) a + S1x1x128.size a ≤ S4x128x128.size a := fun v2853 k0_hw87 => k0_hw87.2.2.2

def k0_off233 (i : grid0.Coords) : Fin 2 → Nat :=
  let arg0 : BitVec 32 := BitVec.ofNat 32 (i 0).val
  let v2945 : Index := Scalar.indexCast arg0
  let c29 : Index := 29#32
  ![v2945.toNat, 29]
def k0_off234 (v2956 : BitVec 32) (v2960 : BitVec 32) : Fin 3 → Nat :=
  let v2976 : Index := Scalar.indexCast v2956
  let v2977 : Index := Scalar.indexCast v2960
  let c0_972 : Index := 0#32
  ![v2976.toNat, v2977.toNat, 0]

def k0_chk88 (v2956 : BitVec 32) (v2960 : BitVec 32) : Prop :=
  (∀ a, (k0_off234 v2956 v2960) a + S1x80x128.size a ≤ S20x128x128.size a)
theorem k0_off234_inb : ∀ (v2956 : BitVec 32) (v2960 : BitVec 32) (k0_hw88 : k0_chk88 v2956 v2960), ∀ a, (k0_off234 v2956 v2960) a + S1x80x128.size a ≤ S20x128x128.size a := fun v2956 v2960 k0_hw88 => k0_hw88

def k0_off235 (v2954 : BitVec 32) (v2956 : BitVec 32) : Fin 3 → Nat :=
  let v2988 : Index := Scalar.indexCast v2956
  let v2989 : Index := Scalar.indexCast v2954
  let c0_974 : Index := 0#32
  ![v2988.toNat, v2989.toNat, 0]

def k0_chk89 (v2954 : BitVec 32) (v2956 : BitVec 32) : Prop :=
  (∀ a, (k0_off235 v2954 v2956) a + S1x1x128.size a ≤ S20x128x128.size a)
theorem k0_off235_inb : ∀ (v2954 : BitVec 32) (v2956 : BitVec 32) (k0_hw89 : k0_chk89 v2954 v2956), ∀ a, (k0_off235 v2954 v2956) a + S1x1x128.size a ≤ S20x128x128.size a := fun v2954 v2956 k0_hw89 => k0_hw89

def k0_off236 (v2954 : BitVec 32) : Fin 3 → Nat :=
  let c0_978 : Index := 0#32
  let v3002 : Index := Scalar.indexCast v2954
  let c0_979 : Index := 0#32
  ![0, v3002.toNat, 0]

def k0_off237 (i : grid0.Coords) : Fin 2 → Nat :=
  let arg0 : BitVec 32 := BitVec.ofNat 32 (i 0).val
  let v3005 : Index := Scalar.indexCast arg0
  let c29_980 : Index := 29#32
  ![v3005.toNat, 29]
def k0_off238 (v2954 : BitVec 32) : Fin 3 → Nat :=
  let c1_983 : Index := 1#32
  let v3013 : Index := Scalar.indexCast v2954
  let c0_984 : Index := 0#32
  ![1, v3013.toNat, 0]
def k0_off239 (v2954 : BitVec 32) : Fin 3 → Nat :=
  let c2_988 : Index := 2#32
  let v3024 : Index := Scalar.indexCast v2954
  let c0_989 : Index := 0#32
  ![2, v3024.toNat, 0]
def k0_off240 (v2954 : BitVec 32) : Fin 3 → Nat :=
  let c3_993 : Index := 3#32
  let v3035 : Index := Scalar.indexCast v2954
  let c0_994 : Index := 0#32
  ![3, v3035.toNat, 0]

def k0_chk90 (v2954 : BitVec 32) : Prop :=
  (∀ a, (k0_off236 v2954) a + S1x1x128.size a ≤ S4x128x128.size a) ∧
  (∀ a, (k0_off238 v2954) a + S1x1x128.size a ≤ S4x128x128.size a) ∧
  (∀ a, (k0_off239 v2954) a + S1x1x128.size a ≤ S4x128x128.size a) ∧
  (∀ a, (k0_off240 v2954) a + S1x1x128.size a ≤ S4x128x128.size a)
theorem k0_off236_inb : ∀ (v2954 : BitVec 32) (k0_hw90 : k0_chk90 v2954), ∀ a, (k0_off236 v2954) a + S1x1x128.size a ≤ S4x128x128.size a := fun v2954 k0_hw90 => k0_hw90.1
theorem k0_off238_inb : ∀ (v2954 : BitVec 32) (k0_hw90 : k0_chk90 v2954), ∀ a, (k0_off238 v2954) a + S1x1x128.size a ≤ S4x128x128.size a := fun v2954 k0_hw90 => k0_hw90.2.1
theorem k0_off239_inb : ∀ (v2954 : BitVec 32) (k0_hw90 : k0_chk90 v2954), ∀ a, (k0_off239 v2954) a + S1x1x128.size a ≤ S4x128x128.size a := fun v2954 k0_hw90 => k0_hw90.2.2.1
theorem k0_off240_inb : ∀ (v2954 : BitVec 32) (k0_hw90 : k0_chk90 v2954), ∀ a, (k0_off240 v2954) a + S1x1x128.size a ≤ S4x128x128.size a := fun v2954 k0_hw90 => k0_hw90.2.2.2

def k0_off241 (i : grid0.Coords) : Fin 2 → Nat :=
  let arg0 : BitVec 32 := BitVec.ofNat 32 (i 0).val
  let v3046 : Index := Scalar.indexCast arg0
  let c30 : Index := 30#32
  ![v3046.toNat, 30]
def k0_off242 (v3057 : BitVec 32) (v3061 : BitVec 32) : Fin 3 → Nat :=
  let v3077 : Index := Scalar.indexCast v3057
  let v3078 : Index := Scalar.indexCast v3061
  let c0_1005 : Index := 0#32
  ![v3077.toNat, v3078.toNat, 0]

def k0_chk91 (v3057 : BitVec 32) (v3061 : BitVec 32) : Prop :=
  (∀ a, (k0_off242 v3057 v3061) a + S1x80x128.size a ≤ S20x128x128.size a)
theorem k0_off242_inb : ∀ (v3057 : BitVec 32) (v3061 : BitVec 32) (k0_hw91 : k0_chk91 v3057 v3061), ∀ a, (k0_off242 v3057 v3061) a + S1x80x128.size a ≤ S20x128x128.size a := fun v3057 v3061 k0_hw91 => k0_hw91

def k0_off243 (v3055 : BitVec 32) (v3057 : BitVec 32) : Fin 3 → Nat :=
  let v3089 : Index := Scalar.indexCast v3057
  let v3090 : Index := Scalar.indexCast v3055
  let c0_1007 : Index := 0#32
  ![v3089.toNat, v3090.toNat, 0]

def k0_chk92 (v3055 : BitVec 32) (v3057 : BitVec 32) : Prop :=
  (∀ a, (k0_off243 v3055 v3057) a + S1x1x128.size a ≤ S20x128x128.size a)
theorem k0_off243_inb : ∀ (v3055 : BitVec 32) (v3057 : BitVec 32) (k0_hw92 : k0_chk92 v3055 v3057), ∀ a, (k0_off243 v3055 v3057) a + S1x1x128.size a ≤ S20x128x128.size a := fun v3055 v3057 k0_hw92 => k0_hw92

def k0_off244 (v3055 : BitVec 32) : Fin 3 → Nat :=
  let c0_1011 : Index := 0#32
  let v3103 : Index := Scalar.indexCast v3055
  let c0_1012 : Index := 0#32
  ![0, v3103.toNat, 0]

def k0_off245 (i : grid0.Coords) : Fin 2 → Nat :=
  let arg0 : BitVec 32 := BitVec.ofNat 32 (i 0).val
  let v3106 : Index := Scalar.indexCast arg0
  let c30_1013 : Index := 30#32
  ![v3106.toNat, 30]
def k0_off246 (v3055 : BitVec 32) : Fin 3 → Nat :=
  let c1_1016 : Index := 1#32
  let v3114 : Index := Scalar.indexCast v3055
  let c0_1017 : Index := 0#32
  ![1, v3114.toNat, 0]
def k0_off247 (v3055 : BitVec 32) : Fin 3 → Nat :=
  let c2_1021 : Index := 2#32
  let v3125 : Index := Scalar.indexCast v3055
  let c0_1022 : Index := 0#32
  ![2, v3125.toNat, 0]
def k0_off248 (v3055 : BitVec 32) : Fin 3 → Nat :=
  let c3_1026 : Index := 3#32
  let v3136 : Index := Scalar.indexCast v3055
  let c0_1027 : Index := 0#32
  ![3, v3136.toNat, 0]

def k0_chk93 (v3055 : BitVec 32) : Prop :=
  (∀ a, (k0_off244 v3055) a + S1x1x128.size a ≤ S4x128x128.size a) ∧
  (∀ a, (k0_off246 v3055) a + S1x1x128.size a ≤ S4x128x128.size a) ∧
  (∀ a, (k0_off247 v3055) a + S1x1x128.size a ≤ S4x128x128.size a) ∧
  (∀ a, (k0_off248 v3055) a + S1x1x128.size a ≤ S4x128x128.size a)
theorem k0_off244_inb : ∀ (v3055 : BitVec 32) (k0_hw93 : k0_chk93 v3055), ∀ a, (k0_off244 v3055) a + S1x1x128.size a ≤ S4x128x128.size a := fun v3055 k0_hw93 => k0_hw93.1
theorem k0_off246_inb : ∀ (v3055 : BitVec 32) (k0_hw93 : k0_chk93 v3055), ∀ a, (k0_off246 v3055) a + S1x1x128.size a ≤ S4x128x128.size a := fun v3055 k0_hw93 => k0_hw93.2.1
theorem k0_off247_inb : ∀ (v3055 : BitVec 32) (k0_hw93 : k0_chk93 v3055), ∀ a, (k0_off247 v3055) a + S1x1x128.size a ≤ S4x128x128.size a := fun v3055 k0_hw93 => k0_hw93.2.2.1
theorem k0_off248_inb : ∀ (v3055 : BitVec 32) (k0_hw93 : k0_chk93 v3055), ∀ a, (k0_off248 v3055) a + S1x1x128.size a ≤ S4x128x128.size a := fun v3055 k0_hw93 => k0_hw93.2.2.2

def k0_off249 (i : grid0.Coords) : Fin 2 → Nat :=
  let arg0 : BitVec 32 := BitVec.ofNat 32 (i 0).val
  let v3147 : Index := Scalar.indexCast arg0
  let c31 : Index := 31#32
  ![v3147.toNat, 31]
def k0_off250 (v3158 : BitVec 32) (v3162 : BitVec 32) : Fin 3 → Nat :=
  let v3178 : Index := Scalar.indexCast v3158
  let v3179 : Index := Scalar.indexCast v3162
  let c0_1038 : Index := 0#32
  ![v3178.toNat, v3179.toNat, 0]

def k0_chk94 (v3158 : BitVec 32) (v3162 : BitVec 32) : Prop :=
  (∀ a, (k0_off250 v3158 v3162) a + S1x80x128.size a ≤ S20x128x128.size a)
theorem k0_off250_inb : ∀ (v3158 : BitVec 32) (v3162 : BitVec 32) (k0_hw94 : k0_chk94 v3158 v3162), ∀ a, (k0_off250 v3158 v3162) a + S1x80x128.size a ≤ S20x128x128.size a := fun v3158 v3162 k0_hw94 => k0_hw94

def k0_off251 (v3156 : BitVec 32) (v3158 : BitVec 32) : Fin 3 → Nat :=
  let v3190 : Index := Scalar.indexCast v3158
  let v3191 : Index := Scalar.indexCast v3156
  let c0_1040 : Index := 0#32
  ![v3190.toNat, v3191.toNat, 0]

def k0_chk95 (v3156 : BitVec 32) (v3158 : BitVec 32) : Prop :=
  (∀ a, (k0_off251 v3156 v3158) a + S1x1x128.size a ≤ S20x128x128.size a)
theorem k0_off251_inb : ∀ (v3156 : BitVec 32) (v3158 : BitVec 32) (k0_hw95 : k0_chk95 v3156 v3158), ∀ a, (k0_off251 v3156 v3158) a + S1x1x128.size a ≤ S20x128x128.size a := fun v3156 v3158 k0_hw95 => k0_hw95

def k0_off252 (v3156 : BitVec 32) : Fin 3 → Nat :=
  let c0_1044 : Index := 0#32
  let v3204 : Index := Scalar.indexCast v3156
  let c0_1045 : Index := 0#32
  ![0, v3204.toNat, 0]

def k0_off253 (i : grid0.Coords) : Fin 2 → Nat :=
  let arg0 : BitVec 32 := BitVec.ofNat 32 (i 0).val
  let v3207 : Index := Scalar.indexCast arg0
  let c31_1046 : Index := 31#32
  ![v3207.toNat, 31]
def k0_off254 (v3156 : BitVec 32) : Fin 3 → Nat :=
  let c1_1049 : Index := 1#32
  let v3215 : Index := Scalar.indexCast v3156
  let c0_1050 : Index := 0#32
  ![1, v3215.toNat, 0]
def k0_off255 (v3156 : BitVec 32) : Fin 3 → Nat :=
  let c2_1054 : Index := 2#32
  let v3226 : Index := Scalar.indexCast v3156
  let c0_1055 : Index := 0#32
  ![2, v3226.toNat, 0]
def k0_off256 (v3156 : BitVec 32) : Fin 3 → Nat :=
  let c3_1059 : Index := 3#32
  let v3237 : Index := Scalar.indexCast v3156
  let c0_1060 : Index := 0#32
  ![3, v3237.toNat, 0]

def k0_chk96 (v3156 : BitVec 32) : Prop :=
  (∀ a, (k0_off252 v3156) a + S1x1x128.size a ≤ S4x128x128.size a) ∧
  (∀ a, (k0_off254 v3156) a + S1x1x128.size a ≤ S4x128x128.size a) ∧
  (∀ a, (k0_off255 v3156) a + S1x1x128.size a ≤ S4x128x128.size a) ∧
  (∀ a, (k0_off256 v3156) a + S1x1x128.size a ≤ S4x128x128.size a)
theorem k0_off252_inb : ∀ (v3156 : BitVec 32) (k0_hw96 : k0_chk96 v3156), ∀ a, (k0_off252 v3156) a + S1x1x128.size a ≤ S4x128x128.size a := fun v3156 k0_hw96 => k0_hw96.1
theorem k0_off254_inb : ∀ (v3156 : BitVec 32) (k0_hw96 : k0_chk96 v3156), ∀ a, (k0_off254 v3156) a + S1x1x128.size a ≤ S4x128x128.size a := fun v3156 k0_hw96 => k0_hw96.2.1
theorem k0_off255_inb : ∀ (v3156 : BitVec 32) (k0_hw96 : k0_chk96 v3156), ∀ a, (k0_off255 v3156) a + S1x1x128.size a ≤ S4x128x128.size a := fun v3156 k0_hw96 => k0_hw96.2.2.1
theorem k0_off256_inb : ∀ (v3156 : BitVec 32) (k0_hw96 : k0_chk96 v3156), ∀ a, (k0_off256 v3156) a + S1x1x128.size a ≤ S4x128x128.size a := fun v3156 k0_hw96 => k0_hw96.2.2.2

def k0_cond2 (i : grid0.Coords) : BitVec 1 :=
  let arg0 : BitVec 32 := BitVec.ofNat 32 (i 0).val
  let c7_i32_1212 : BitVec 32 := 7#32
  let v3503 : BitVec 1 := Scalar.cmpi .eq arg0 c7_i32_1212
  let v3504 : BitVec 32 := Scalar.extui v3503
  let c0_i32_1213 : BitVec 32 := 0#32
  let v3505 : BitVec 1 := Scalar.cmpi .ne v3504 c0_i32_1213
  v3505

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8x32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S8x32 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S8x32 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S8x32 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x20x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8x20x128x128 : Shape := ⟨4, ![8, 20, 128, 128]⟩
abbrev S8x2x128x128 : Shape := ⟨4, ![8, 2, 128, 128]⟩
abbrev S8x32x4 : Shape := ⟨3, ![8, 32, 4]⟩
abbrev S8x32 : Shape := ⟨2, ![8, 32]⟩
abbrev S2 : Shape := ⟨1, ![2]⟩
abbrev S8x32x2 : Shape := ⟨3, ![8, 32, 2]⟩
abbrev S_ : Shape := ⟨0, ![]⟩
abbrev S1x1x2 : Shape := ⟨3, ![1, 1, 2]⟩
abbrev S8x32x1 : Shape := ⟨3, ![8, 32, 1]⟩
abbrev S128 : Shape := ⟨1, ![128]⟩
abbrev S1x1x128x1 : Shape := ⟨4, ![1, 1, 128, 1]⟩
abbrev S1x1x1x128 : Shape := ⟨4, ![1, 1, 1, 128]⟩
abbrev S8x32x1x1 : Shape := ⟨4, ![8, 32, 1, 1]⟩
abbrev S8x32x1x128 : Shape := ⟨4, ![8, 32, 1, 128]⟩
abbrev S8x32x128x1 : Shape := ⟨4, ![8, 32, 128, 1]⟩
abbrev S8x32x128x128 : Shape := ⟨4, ![8, 32, 128, 128]⟩
abbrev S20 : Shape := ⟨1, ![20]⟩
abbrev S1x1x20 : Shape := ⟨3, ![1, 1, 20]⟩
abbrev S8x32x20 : Shape := ⟨3, ![8, 32, 20]⟩
abbrev S8x32x20x1x1 : Shape := ⟨5, ![8, 32, 20, 1, 1]⟩
abbrev S8x32x1x128x128 : Shape := ⟨5, ![8, 32, 1, 128, 128]⟩
abbrev S8x32x20x128x128 : Shape := ⟨5, ![8, 32, 20, 128, 128]⟩
abbrev S32 : Shape := ⟨1, ![32]⟩
abbrev S8x1x32 : Shape := ⟨3, ![8, 1, 32]⟩
abbrev S8x32x32 : Shape := ⟨3, ![8, 32, 32]⟩
abbrev S1x32 : Shape := ⟨2, ![1, 32]⟩
abbrev S32x1 : Shape := ⟨2, ![32, 1]⟩
abbrev S32x32 : Shape := ⟨2, ![32, 32]⟩
abbrev S1x32x32 : Shape := ⟨3, ![1, 32, 32]⟩
abbrev S8x32x4x1x1 : Shape := ⟨5, ![8, 32, 4, 1, 1]⟩
abbrev S8x32x4x128x128 : Shape := ⟨5, ![8, 32, 4, 128, 128]⟩
abbrev S8x4x128x128 : Shape := ⟨4, ![8, 4, 128, 128]⟩
abbrev S8x128x128 : Shape := ⟨3, ![8, 128, 128]⟩
abbrev S10 : Shape := ⟨1, ![10]⟩
abbrev S10x1x1x1x1 : Shape := ⟨5, ![10, 1, 1, 1, 1]⟩
abbrev S1x8x20x128x128 : Shape := ⟨5, ![1, 8, 20, 128, 128]⟩
abbrev S10x8x20x128x128 : Shape := ⟨5, ![10, 8, 20, 128, 128]⟩
abbrev S8x1x128x128 : Shape := ⟨4, ![8, 1, 128, 128]⟩

abbrev nBuf : Space → Nat
  | .hbm => 319
  | .vmem => 0
  | .smem => 0
  | _ => 0

abbrev hbmTy0_0 (i : Nat) : BufTy := match i % 128 with
  | 0 => ⟨S8x20x128x128, .f32⟩
  | 1 => ⟨S8x2x128x128, .f32⟩
  | 2 => ⟨S8x2x128x128, .f32⟩
  | 3 => ⟨S8x32x4, .f32⟩
  | 4 => ⟨S8x32, .i32⟩
  | 5 => ⟨S2, .f32⟩
  | 6 => ⟨S2, .i32⟩
  | 7 => ⟨S2, .i32⟩
  | 8 => ⟨S8x32x2, .f32⟩
  | 9 => ⟨S8x32x2, .f32⟩
  | 10 => ⟨S8x32x2, .f32⟩
  | 11 => ⟨S_, .f32⟩
  | 12 => ⟨S8x32x2, .f32⟩
  | 13 => ⟨S8x32x2, .f32⟩
  | 14 => ⟨S8x32x2, .f32⟩
  | 15 => ⟨S8x32x2, .f32⟩
  | 16 => ⟨S8x32x2, .f32⟩
  | 17 => ⟨S8x32x2, .f32⟩
  | 18 => ⟨S1x1x2, .f32⟩
  | 19 => ⟨S8x32x2, .f32⟩
  | 20 => ⟨S8x32x2, .f32⟩
  | 21 => ⟨S8x32x2, .f32⟩
  | 22 => ⟨S8x32x2, .i32⟩
  | 23 => ⟨S1x1x2, .i32⟩
  | 24 => ⟨S8x32x2, .i32⟩
  | 25 => ⟨S8x32x2, .i32⟩
  | 26 => ⟨S1x1x2, .i32⟩
  | 27 => ⟨S8x32x2, .i32⟩
  | 28 => ⟨S8x32x2, .i32⟩
  | 29 => ⟨S8x32x2, .f32⟩
  | 30 => ⟨S8x32x2, .f32⟩
  | 31 => ⟨S8x32x1, .i32⟩
  | 32 => ⟨S8x32, .i32⟩
  | 33 => ⟨S8x32x1, .i32⟩
  | 34 => ⟨S8x32, .i32⟩
  | 35 => ⟨S8x32x1, .f32⟩
  | 36 => ⟨S8x32, .f32⟩
  | 37 => ⟨S_, .f32⟩
  | 38 => ⟨S8x32, .f32⟩
  | 39 => ⟨S8x32, .f32⟩
  | 40 => ⟨S8x32x1, .f32⟩
  | 41 => ⟨S8x32, .f32⟩
  | 42 => ⟨S_, .f32⟩
  | 43 => ⟨S8x32, .f32⟩
  | 44 => ⟨S8x32, .f32⟩
  | 45 => ⟨S8x32, .f32⟩
  | 46 => ⟨S_, .f32⟩
  | 47 => ⟨S8x32, .f32⟩
  | 48 => ⟨S8x32, .f32⟩
  | 49 => ⟨S_, .f32⟩
  | 50 => ⟨S8x32, .f32⟩
  | 51 => ⟨S8x32, .f32⟩
  | 52 => ⟨S_, .f32⟩
  | 53 => ⟨S8x32, .f32⟩
  | 54 => ⟨S8x32, .f32⟩
  | 55 => ⟨S128, .i32⟩
  | 56 => ⟨S1x1x128x1, .i32⟩
  | 57 => ⟨S128, .i32⟩
  | 58 => ⟨S1x1x1x128, .i32⟩
  | 59 => ⟨S128, .f32⟩
  | 60 => ⟨S1x1x128x1, .f32⟩
  | 61 => ⟨S128, .f32⟩
  | 62 => ⟨S1x1x1x128, .f32⟩
  | 63 => ⟨S8x32x1, .f32⟩
  | 64 => ⟨S8x32, .f32⟩
  | 65 => ⟨S8x32x1x1, .f32⟩
  | 66 => ⟨S8x32x1, .f32⟩
  | 67 => ⟨S8x32, .f32⟩
  | 68 => ⟨S8x32x1x1, .f32⟩
  | 69 => ⟨S8x32x1x128, .f32⟩
  | 70 => ⟨S8x32x1x128, .f32⟩
  | 71 => ⟨S8x32x1x128, .f32⟩
  | 72 => ⟨S8x32x1x128, .f32⟩
  | 73 => ⟨S8x32x128x1, .f32⟩
  | 74 => ⟨S8x32x128x1, .f32⟩
  | 75 => ⟨S8x32x128x1, .f32⟩
  | 76 => ⟨S8x32x128x1, .f32⟩
  | 77 => ⟨S8x32x128x128, .f32⟩
  | 78 => ⟨S8x32x128x128, .f32⟩
  | 79 => ⟨S8x32x128x128, .f32⟩
  | 80 => ⟨S8x32x128x128, .f32⟩
  | 81 => ⟨S8x32x1x1, .f32⟩
  | 82 => ⟨S8x32x1x1, .f32⟩
  | 83 => ⟨S_, .f32⟩
  | 84 => ⟨S8x32x1x1, .f32⟩
  | 85 => ⟨S8x32x1x1, .f32⟩
  | 86 => ⟨S8x32x128x128, .f32⟩
  | 87 => ⟨S8x32x128x128, .f32⟩
  | 88 => ⟨S8x32x128x128, .f32⟩
  | 89 => ⟨S_, .i32⟩
  | 90 => ⟨S8x32, .i32⟩
  | 91 => ⟨S8x32, .i32⟩
  | 92 => ⟨S_, .i32⟩
  | 93 => ⟨S_, .i32⟩
  | 94 => ⟨S_, .i32⟩
  | 95 => ⟨S8x32, .i32⟩
  | 96 => ⟨S8x32, .i32⟩
  | 97 => ⟨S_, .i32⟩
  | 98 => ⟨S8x32, .i32⟩
  | 99 => ⟨S8x32, .i32⟩
  | 100 => ⟨S_, .i32⟩
  | 101 => ⟨S_, .i32⟩
  | 102 => ⟨S8x32, .i32⟩
  | 103 => ⟨S8x32, .i32⟩
  | 104 => ⟨S8x32, .i32⟩
  | 105 => ⟨S_, .i32⟩
  | 106 => ⟨S8x32, .i32⟩
  | 107 => ⟨S8x32, .i1⟩
  | 108 => ⟨S8x32, .i32⟩
  | 109 => ⟨S8x32, .i32⟩
  | 110 => ⟨S_, .i32⟩
  | 111 => ⟨S8x32, .i32⟩
  | 112 => ⟨S8x32, .i1⟩
  | 113 => ⟨S8x32, .i1⟩
  | 114 => ⟨S_, .i32⟩
  | 115 => ⟨S8x32, .i32⟩
  | 116 => ⟨S8x32, .i32⟩
  | 117 => ⟨S8x32, .i32⟩
  | 118 => ⟨S_, .i32⟩
  | 119 => ⟨S8x32, .i32⟩
  | 120 => ⟨S8x32, .i32⟩
  | 121 => ⟨S8x32x1x1, .i32⟩
  | 122 => ⟨S8x32x128x1, .i32⟩
  | 123 => ⟨S8x32x128x1, .i32⟩
  | 124 => ⟨S8x32x128x1, .i1⟩
  | 125 => ⟨S_, .i32⟩
  | 126 => ⟨S8x32x1x1, .i32⟩
  | 127 => ⟨S8x32x1x1, .i32⟩
  | _ => ⟨S8x20x128x128, .f32⟩

abbrev hbmTy0_1 (i : Nat) : BufTy := match i % 128 with
  | 0 => ⟨S8x32x128x1, .i32⟩
  | 1 => ⟨S8x32x128x1, .i32⟩
  | 2 => ⟨S8x32x128x1, .i1⟩
  | 3 => ⟨S8x32x128x1, .i1⟩
  | 4 => ⟨S_, .f32⟩
  | 5 => ⟨S_, .f32⟩
  | 6 => ⟨S8x32x128x128, .i1⟩
  | 7 => ⟨S8x32x128x128, .f32⟩
  | 8 => ⟨S8x32x128x128, .f32⟩
  | 9 => ⟨S8x32x1x1, .i32⟩
  | 10 => ⟨S8x32x128x1, .i32⟩
  | 11 => ⟨S8x32x128x1, .i32⟩
  | 12 => ⟨S8x32x128x1, .i1⟩
  | 13 => ⟨S8x32x1x1, .i32⟩
  | 14 => ⟨S8x32x1x128, .i32⟩
  | 15 => ⟨S8x32x1x128, .i32⟩
  | 16 => ⟨S8x32x1x128, .i1⟩
  | 17 => ⟨S8x32x128x128, .i1⟩
  | 18 => ⟨S8x32x128x128, .i1⟩
  | 19 => ⟨S8x32x128x128, .i1⟩
  | 20 => ⟨S_, .f32⟩
  | 21 => ⟨S_, .f32⟩
  | 22 => ⟨S8x32x128x128, .f32⟩
  | 23 => ⟨S8x32x128x128, .f32⟩
  | 24 => ⟨S8x32x1, .i32⟩
  | 25 => ⟨S20, .i32⟩
  | 26 => ⟨S1x1x20, .i32⟩
  | 27 => ⟨S8x32x20, .i32⟩
  | 28 => ⟨S8x32x20, .i32⟩
  | 29 => ⟨S8x32x20, .i1⟩
  | 30 => ⟨S8x32x20x1x1, .i1⟩
  | 31 => ⟨S8x32x1x128x128, .f32⟩
  | 32 => ⟨S_, .f32⟩
  | 33 => ⟨S_, .f32⟩
  | 34 => ⟨S8x32x20x128x128, .i1⟩
  | 35 => ⟨S8x32x20x128x128, .f32⟩
  | 36 => ⟨S8x32x20x128x128, .f32⟩
  | 37 => ⟨S8x32x20x128x128, .f32⟩
  | 38 => ⟨S_, .f32⟩
  | 39 => ⟨S8x20x128x128, .f32⟩
  | 40 => ⟨S32, .i32⟩
  | 41 => ⟨S8x32x1, .i32⟩
  | 42 => ⟨S8x1x32, .i32⟩
  | 43 => ⟨S8x32x32, .i32⟩
  | 44 => ⟨S8x32x32, .i32⟩
  | 45 => ⟨S8x32x32, .i1⟩
  | 46 => ⟨S8x32x1, .i32⟩
  | 47 => ⟨S8x1x32, .i32⟩
  | 48 => ⟨S8x32x32, .i32⟩
  | 49 => ⟨S8x32x32, .i32⟩
  | 50 => ⟨S8x32x32, .i1⟩
  | 51 => ⟨S8x32x32, .i1⟩
  | 52 => ⟨S1x32, .i32⟩
  | 53 => ⟨S32x1, .i32⟩
  | 54 => ⟨S32x32, .i32⟩
  | 55 => ⟨S32x32, .i32⟩
  | 56 => ⟨S32x32, .i1⟩
  | 57 => ⟨S1x32x32, .i1⟩
  | 58 => ⟨S8x32x32, .i1⟩
  | 59 => ⟨S8x32x32, .i1⟩
  | 60 => ⟨S_, .i1⟩
  | 61 => ⟨S8x32, .i1⟩
  | 62 => ⟨S8x32, .i1⟩
  | 63 => ⟨S8x32x4, .f32⟩
  | 64 => ⟨S8x32x1x1, .i1⟩
  | 65 => ⟨S8x32x128x128, .i1⟩
  | 66 => ⟨S8x32x128x128, .i1⟩
  | 67 => ⟨S8x32x1x128x128, .i1⟩
  | 68 => ⟨S8x32x4x1x1, .f32⟩
  | 69 => ⟨S_, .f32⟩
  | 70 => ⟨S_, .f32⟩
  | 71 => ⟨S8x32x4x128x128, .i1⟩
  | 72 => ⟨S8x32x4x128x128, .f32⟩
  | 73 => ⟨S8x32x4x128x128, .f32⟩
  | 74 => ⟨S8x32x4x128x128, .f32⟩
  | 75 => ⟨S_, .f32⟩
  | 76 => ⟨S8x4x128x128, .f32⟩
  | 77 => ⟨S_, .f32⟩
  | 78 => ⟨S8x128x128, .f32⟩
  | 79 => ⟨S_, .f32⟩
  | 80 => ⟨S8x128x128, .f32⟩
  | 81 => ⟨S8x128x128, .i1⟩
  | 82 => ⟨S8x128x128, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8x20x128x128, .f32⟩
  | 91 => ⟨S8x20x128x128, .f32⟩
  | 92 => ⟨S_, .f32⟩
  | 93 => ⟨S8x20x128x128, .f32⟩
  | 94 => ⟨S8x20x128x128, .f32⟩
  | 95 => ⟨S8x20x128x128, .f32⟩
  | 96 => ⟨S8x20x128x128, .f32⟩
  | 97 => ⟨S_, .f32⟩
  | 98 => ⟨S8x20x128x128, .f32⟩
  | 99 => ⟨S8x20x128x128, .f32⟩
  | 100 => ⟨S8x20x128x128, .i32⟩
  | 101 => ⟨S_, .i32⟩
  | 102 => ⟨S_, .i32⟩
  | 103 => ⟨S_, .i32⟩
  | 104 => ⟨S8x20x128x128, .i32⟩
  | 105 => ⟨S8x20x128x128, .i32⟩
  | 106 => ⟨S_, .i32⟩
  | 107 => ⟨S8x20x128x128, .i32⟩
  | 108 => ⟨S8x20x128x128, .i32⟩
  | 109 => ⟨S8x20x128x128, .f32⟩
  | 110 => ⟨S8x20x128x128, .f32⟩
  | 111 => ⟨S_, .f32⟩
  | 112 => ⟨S8x20x128x128, .f32⟩
  | 113 => ⟨S8x20x128x128, .f32⟩
  | 114 => ⟨S_, .f32⟩
  | 115 => ⟨S8x20x128x128, .f32⟩
  | 116 => ⟨S8x20x128x128, .f32⟩
  | 117 => ⟨S8x20x128x128, .f32⟩
  | 118 => ⟨S8x20x128x128, .f32⟩
  | 119 => ⟨S8x20x128x128, .f32⟩
  | 120 => ⟨S8x20x128x128, .f32⟩
  | 121 => ⟨S10, .i32⟩
  | 122 => ⟨S10x1x1x1x1, .i32⟩
  | 123 => ⟨S1x8x20x128x128, .i32⟩
  | 124 => ⟨S10x8x20x128x128, .i32⟩
  | 125 => ⟨S10x8x20x128x128, .i32⟩
  | 126 => ⟨S10x8x20x128x128, .i1⟩
  | 127 => ⟨S10x8x20x128x128, .f32⟩
  | _ => ⟨S8x20x128x128, .f32⟩

abbrev hbmTy0_2 (i : Nat) : BufTy := match i % 128 with
  | 0 => ⟨S_, .f32⟩
  | 1 => ⟨S10, .f32⟩
  | 2 => ⟨S1x8x20x128x128, .f32⟩
  | 3 => ⟨S10x8x20x128x128, .f32⟩
  | 4 => ⟨S10x8x20x128x128, .f32⟩
  | 5 => ⟨S_, .f32⟩
  | 6 => ⟨S10, .f32⟩
  | 7 => ⟨S_, .f32⟩
  | 8 => ⟨S10, .f32⟩
  | 9 => ⟨S10, .i1⟩
  | 10 => ⟨S10, .f32⟩
  | 11 => ⟨S_, .f32⟩
  | 12 => ⟨S_, .f32⟩
  | 13 => ⟨S_, .f32⟩
  | 14 => ⟨S_, .f32⟩
  | 15 => ⟨S_, .f32⟩
  | 16 => ⟨S10, .f32⟩
  | 17 => ⟨S10, .f32⟩
  | 18 => ⟨S_, .f32⟩
  | 19 => ⟨S10, .f32⟩
  | 20 => ⟨S10, .i1⟩
  | 21 => ⟨S_, .f32⟩
  | 22 => ⟨S10, .f32⟩
  | 23 => ⟨S10, .f32⟩
  | 24 => ⟨S_, .f32⟩
  | 25 => ⟨S10, .f32⟩
  | 26 => ⟨S10, .f32⟩
  | 27 => ⟨S_, .f32⟩
  | 28 => ⟨S_, .f32⟩
  | 29 => ⟨S10, .f32⟩
  | 30 => ⟨S10, .f32⟩
  | 31 => ⟨S10, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S8x2x128x128, .f32⟩
  | 40 => ⟨S8x2x128x128, .f32⟩
  | 41 => ⟨S8x2x128x128, .f32⟩
  | 42 => ⟨S8x1x128x128, .f32⟩
  | 43 => ⟨S8x2x128x128, .f32⟩
  | 44 => ⟨S8x2x128x128, .f32⟩
  | 45 => ⟨S_, .f32⟩
  | 46 => ⟨S_, .f32⟩
  | 47 => ⟨S_, .f32⟩
  | 48 => ⟨S_, .f32⟩
  | 49 => ⟨S_, .f32⟩
  | 50 => ⟨S8x2x128x128, .f32⟩
  | 51 => ⟨S8x2x128x128, .f32⟩
  | 52 => ⟨S8x2x128x128, .f32⟩
  | 53 => ⟨S8x1x128x128, .f32⟩
  | 54 => ⟨S8x2x128x128, .f32⟩
  | 55 => ⟨S8x2x128x128, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S8x20x128x128, .f32⟩

abbrev hbmTy (i : Nat) : BufTy := match i / 128 with
  | 0 => hbmTy0_0 i
  | 1 => hbmTy0_1 i
  | 2 => hbmTy0_2 i
  | _ => ⟨S8x20x128x128, .f32⟩

abbrev bufTy : (tb : Table) → Fin (tcTables nBuf tb) → BufTy
  | .hbm, ⟨i, _⟩ => hbmTy i
  | _, _ => ⟨S8x20x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_8 : Ref sig .tc := ⟨.hbm, 89, rfl⟩
abbrev main_v69 : Ref sig .tc := ⟨.hbm, 90, rfl⟩
abbrev main_v70 : Ref sig .tc := ⟨.hbm, 91, rfl⟩
abbrev main_c_9 : Ref sig .tc := ⟨.hbm, 92, rfl⟩
abbrev main_c_10 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v71 : Ref sig .tc := ⟨.hbm, 99, rfl⟩
abbrev main_c_11 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v72 : Ref sig .tc := ⟨.hbm, 117, rfl⟩
abbrev main_c_12 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_13 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_14 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_15 : Ref sig .tc := ⟨.hbm, 148, rfl⟩
abbrev main_call4_v0 : Ref sig .tc := ⟨.hbm, 149, rfl⟩
abbrev main_call4_v1 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_16 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_v106 : Ref sig .tc := ⟨.hbm, 165, rfl⟩
abbrev main_cst_17 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_c_18 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_cst_19 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_v136 : Ref sig .tc := ⟨.hbm, 202, rfl⟩
abbrev main_cst_20 : Ref sig .tc := ⟨.hbm, 203, rfl⟩
abbrev main_v137 : Ref sig .tc := ⟨.hbm, 204, rfl⟩
abbrev main_cst_21 : Ref sig .tc := ⟨.hbm, 205, rfl⟩
abbrev main_v138 : Ref sig .tc := ⟨.hbm, 206, rfl⟩
abbrev main_cst_22 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_23 : Ref sig .tc := ⟨.hbm, 211, rfl⟩
abbrev main_v142 : Ref sig .tc := ⟨.hbm, 212, rfl⟩
abbrev main_cst_24 : Ref sig .tc := ⟨.hbm, 213, rfl⟩
abbrev main_v143 : Ref sig .tc := ⟨.hbm, 214, rfl⟩
abbrev main_cst_25 : Ref sig .tc := ⟨.hbm, 215, rfl⟩
abbrev main_cst_26 : Ref sig .tc := ⟨.hbm, 216, rfl⟩
abbrev main_call7_v0 : Ref sig .tc := ⟨.hbm, 217, rfl⟩
abbrev main_call7_v1 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_27 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_c_28 : Ref sig .tc := ⟨.hbm, 229, rfl⟩
abbrev main_c_29 : Ref sig .tc := ⟨.hbm, 230, rfl⟩
abbrev main_call8_v0 : Ref sig .tc := ⟨.hbm, 231, rfl⟩
abbrev main_call8_v1 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_cst_30 : Ref sig .tc := ⟨.hbm, 239, rfl⟩
abbrev main_v153 : Ref sig .tc := ⟨.hbm, 240, rfl⟩
abbrev main_v154 : Ref sig .tc := ⟨.hbm, 241, rfl⟩
abbrev main_cst_31 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_32 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_cst_33 : Ref sig .tc := ⟨.hbm, 261, rfl⟩
abbrev main_v172 : Ref sig .tc := ⟨.hbm, 262, rfl⟩
abbrev main_cst_34 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_cst_35 : Ref sig .tc := ⟨.hbm, 267, rfl⟩
abbrev main_v176 : Ref sig .tc := ⟨.hbm, 268, rfl⟩
abbrev main_cst_36 : Ref sig .tc := ⟨.hbm, 269, rfl⟩
abbrev main_v177 : Ref sig .tc := ⟨.hbm, 270, rfl⟩
abbrev main_cst_37 : Ref sig .tc := ⟨.hbm, 271, rfl⟩
abbrev main_v178 : Ref sig .tc := ⟨.hbm, 272, rfl⟩
abbrev main_v179 : Ref sig .tc := ⟨.hbm, 273, rfl⟩
abbrev main_cst_38 : Ref sig .tc := ⟨.hbm, 274, rfl⟩
abbrev main_v180 : Ref sig .tc := ⟨.hbm, 275, rfl⟩
abbrev main_v181 : Ref sig .tc := ⟨.hbm, 276, rfl⟩
abbrev main_cst_39 : Ref sig .tc := ⟨.hbm, 277, rfl⟩
abbrev main_v182 : Ref sig .tc := ⟨.hbm, 278, rfl⟩
abbrev main_v183 : Ref sig .tc := ⟨.hbm, 279, rfl⟩
abbrev main_cst_40 : Ref sig .tc := ⟨.hbm, 280, rfl⟩
abbrev main_v184 : Ref sig .tc := ⟨.hbm, 281, rfl⟩
abbrev main_v185 : Ref sig .tc := ⟨.hbm, 282, rfl⟩
abbrev main_cst_41 : Ref sig .tc := ⟨.hbm, 283, rfl⟩
abbrev main_call9_v0 : Ref sig .tc := ⟨.hbm, 284, rfl⟩
abbrev main_call9_v1 : Ref sig .tc := ⟨.hbm, 285, rfl⟩
abbrev main_v186 : Ref sig .tc := ⟨.hbm, 286, rfl⟩
abbrev main_v187 : Ref sig .tc := ⟨.hbm, 287, rfl⟩
abbrev main_cst_42 : Ref sig .tc := ⟨.hbm, 288, rfl⟩
abbrev main_v188 : Ref sig .tc := ⟨.hbm, 289, rfl⟩
abbrev main_v189 : Ref sig .tc := ⟨.hbm, 290, rfl⟩
abbrev main_cst_43 : Ref sig .tc := ⟨.hbm, 291, rfl⟩
abbrev main_v190 : Ref sig .tc := ⟨.hbm, 292, rfl⟩
abbrev main_cst_44 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_cst_45 : Ref sig .tc := ⟨.hbm, 301, rfl⟩
abbrev main_v198 : Ref sig .tc := ⟨.hbm, 302, rfl⟩
abbrev main_v199 : Ref sig .tc := ⟨.hbm, 303, rfl⟩
abbrev main_cst_46 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_cst_47 : Ref sig .tc := ⟨.hbm, 312, rfl⟩
abbrev main_v207 : Ref sig .tc := ⟨.hbm, 313, rfl⟩
abbrev main_v208 : Ref sig .tc := ⟨.hbm, 314, rfl⟩
abbrev main_cst_48 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩

abbrev nD : Nat := 1
abbrev τ : Topo := Topo.v7x

variable {F : FTy → Type} [FloatOps F]
-- ==== Proof.Pre.lean ====
/-
  What the precondition `in_range` says of the arrays, entry by entry.
-/
module

public import proofs.«01_k».proof.Pre_in_range
public import proofs.«01_k».proof.Proof.Gen.Pre_in_range
public import Idealize.ShloMosaic.Lib.ReduceAll
public import Idealize.ShloMosaic.Lib.Affine

@[expose] public section

noncomputable section

namespace Cert.Pre_in_range

open Idealize.ShloMosaic

variable {F : FTy → Type} [FloatOps F]

/-- The six comparisons hold at every entry: of the heat map's probabilities, of the boxes, of the labels. -/
theorem split (a0 : FVec F S8x20x128x128 .f32) (a1 a2 : FVec F S8x2x128x128 .f32) (a3 : FVec F S8x32x4 .f32)
    (a4 : IVec S8x32 32) (h : fn a0 a1 a2 a3 a4 = fun _ => 1#1) :
    (∀ i, FloatOps.cmpf .oge (a0 i) (FloatOps.ofBits .f32 0x358637BD#32) = 1#1)
    ∧ (∀ i, FloatOps.cmpf .ole (a0 i) (FloatOps.ofBits .f32 0x3F7FFFEF#32) = 1#1)
    ∧ (∀ i, FloatOps.cmpf .ogt (a3 i) (FloatOps.ofBits .f32 0xFF800000#32) = 1#1)
    ∧ (∀ i, FloatOps.cmpf .olt (a3 i) (FloatOps.ofBits .f32 0x7F800000#32) = 1#1)
    ∧ (∀ i, IntOp.cmpi .sge (a4 i) 0#32 = 1#1) ∧ (∀ i, IntOp.cmpi .slt (a4 i) 20#32 = 1#1) := by
  have e := congrFun h (fun a => a.elim0)
  dsimp only [fn, fn_part1, andi] at e
  simp only [IntOp.andi_eq_one] at e
  obtain ⟨⟨⟨⟨⟨e1, e2⟩, e3⟩, e4⟩, e5⟩, e6⟩ := e
  haveI : Subsingleton S_.Idx := ⟨fun _ _ => funext fun a => a.elim0⟩
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i⟩

/-- A word that is at least 0 and below 20 as a signed word is below 20 as a natural number. -/
theorem lt_twenty {w : BitVec 32} (h0 : IntOp.cmpi .sge w 0#32 = 1#1) (h1 : IntOp.cmpi .slt w 20#32 = 1#1) : w.toNat < 20 := by
  rw [IntOp.cmpi_sge] at h0
  rw [IntOp.cmpi_slt] at h1
  rw [show (0#32 : BitVec 32).toInt = 0 from by decide, BitVec.toInt_eq_toNat_cond] at h0
  rw [show (20#32 : BitVec 32).toInt = 20 from by decide, BitVec.toInt_eq_toNat_cond] at h1
  have := w.isLt
  split at h0 <;> simp_all <;> omega

end Cert.Pre_in_range

end
-- ==== Proof.Lib.Runs.lean ====
/-
  A small calculus for straight-line kernel code over owned buffers. A memory reference is held by the contents read
  through it; a load returns those contents on a rectangle, a store overwrites them there (`put`). `Runs own p S a S'`
  says that the program `p`, started with the resources `own S`, ends with the value `a` and the resources `own S'`.
-/
module

public import Idealize.ShloMosaic.Lib.Pipeline.FrameBody
public import Idealize.ShloMosaic.Lib.Memref
public import Idealize.ShloMosaic.Lib.Tactic

@[expose] public section

noncomputable section

namespace Cert.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Overwriting a rectangle -/

open Classical in
/-- The contents `X` with those on the rectangle `r` replaced by `w`. -/
def put {s : Shape} {V : Type} (X : s.Idx → V) (r : Rect s) (w : r.shape.Idx → V) : s.Idx → V := fun y =>
  if h : ∃ x, r.emb x = y then w h.choose else X y

/-- On the rectangle the overwritten contents are the new ones, -/
theorem put_emb {s : Shape} {V : Type} (X : s.Idx → V) (r : Rect s) (w : r.shape.Idx → V) (x : r.shape.Idx) :
    put X r w (r.emb x) = w x := by
  unfold put
  rw [dif_pos ⟨x, rfl⟩]
  exact congrArg w (r.emb.injective (Exists.choose_spec (⟨x, rfl⟩ : ∃ z, r.emb z = r.emb x)))

/-- and off it the old ones. -/
theorem put_off {s : Shape} {V : Type} (X : s.Idx → V) (r : Rect s) (w : r.shape.Idx → V) (y : s.Idx)
    (h : ¬ ∃ x, r.emb x = y) : put X r w y = X y := by
  unfold put; rw [dif_neg h]

/-! ## Loads and stores of owned references -/

variable {nD : Nat} {τ : Topo} {sig : RefSig} {Val : EltTy → Type} {U : Type} [URA U] {Λ : Labels}

local notation "𝕄" => MT nD τ sig Unit Val ℕ U ℕ

variable (defs : Defs nD τ sig Val Λ) (𝒱 : Variants) (c : Thread nD τ)

/-- A load at the head of a program returns the owned contents on its rectangle. -/
theorem wp_ld {α : Type} {Q : α → sProp 𝕄} {cs : CoreSpace} {s : Shape} {e : EltTy} {m : Memref sig c.2.kind cs s e} {r : Rect s}
    {hl : m.view.LoadsAt r.toLoadRect} {k : (r.shape.Idx → Val e) → Prog (TpuEff nD τ sig Val Λ c.2) α} {q : PosShare TreeShare}
    {X : s.Idx → Val e} :
    (owns c m q X : sProp 𝕄)
      ⊢ iprop((owns c m q X -∗ wp frame (wpE defs 𝒱 c none) Set.univ (k fun x => X (r.emb x)) Q)
        -∗ wp frame (wpE defs 𝒱 c none) Set.univ (.op (.load m r.toLoadRect hl) k) Q) := by
  unfold owns
  iintro ⟨%f, %hf, H⟩ K
  iapply (wp_load_rect 𝒱 c none Set.univ (m := m) (r := r) (View.set_slice_subset (v := m.view) r)) $$ H
  iintro H
  have e1 : (m.access r).read Val f = fun x => X (r.emb x) := by
    funext x; rw [← hf]; rfl
  rw [e1]
  iapply K
  iexists f
  isplitr
  · ipureintro; exact hf
  iexact H

/-- A store at the head of a program overwrites the owned contents on its rectangle. -/
theorem wp_st {α : Type} {Q : α → sProp 𝕄} {cs : CoreSpace} {s : Shape} {e : EltTy} {m : Memref sig c.2.kind cs s e} {r : Rect s}
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (put X r w) -∗ wp frame (wpE defs 𝒱 c none) Set.univ (k ⟨⟩) Q)
        -∗ wp frame (wpE defs 𝒱 c none) Set.univ (.op (.store m r w Finset.univ hx hm) k) Q) := by
  unfold owns
  iintro ⟨%f, %hf, H⟩ K
  iapply (wp_store 𝒱 c none Set.univ (m := m) (r := r) (Mk := Finset.univ)
    (by rw [View.setOn_univ]; exact View.set_slice_subset (v := m.view) r)) $$ H
  iintro H
  iapply K
  iexists ((m.access r).write Val f w Finset.univ)
  isplitr
  · ipureintro
    funext y
    by_cases h : ∃ x, r.emb x = y
    · obtain ⟨x, rfl⟩ := h
      rw [put_emb]
      exact View.read_slice_write_emb r f w (Finset.mem_univ x)
    · rw [put_off _ _ _ _ h, View.read_slice_write_of_not_mem r f w Finset.univ
        (fun hm => h (by obtain ⟨x, -, hx⟩ := Finset.mem_map.mp hm; exact ⟨x, hx⟩)), hf]
  iexact H

/-! ## Running a program from one state to another -/

variable {St : Type} (own : St → sProp (MT nD τ sig Unit Val ℕ U ℕ))

/-- `p`, started at `own S`, ends with `a` and `own S'`. -/
def Runs {α : Type} (p : Prog (TpuEff nD τ sig Val Λ c.2) α) (S : St) (a : α) (S' : St) : Prop :=
  ∀ Q : α → sProp 𝕄, iprop(own S ∗ (own S' -∗ Q a)) ⊢ wp frame (wpE defs 𝒱 c none) Set.univ p Q

variable {defs 𝒱 c own}

/-- Returning a value changes nothing. -/
theorem runs_ret {α : Type} (a : α) (S : St) : Runs defs 𝒱 c own (Pure.pure a) S a S := fun Q => by
  rw [wp_pure]
  iintro ⟨H, K⟩
  imodintro
  iapply K; iexact H

/-- One program after another. -/
theorem runs_bind {α β : Type} {p : Prog (TpuEff nD τ sig Val Λ c.2) α} {k : α → Prog (TpuEff nD τ sig Val Λ c.2) β}
    {S S' S'' : St} {a : α} {b : β} (h : Runs defs 𝒱 c own p S a S') (h' : Runs defs 𝒱 c own (k a) S' b S'') :
    Runs defs 𝒱 c own (p >>= k) S b S'' := fun Q => by
  rw [wp_bind]
  iintro ⟨H, K⟩
  iapply (h fun a => wp frame (wpE defs 𝒱 c none) Set.univ (k a) Q)
  isplitl [H]; · iexact H
  iintro H
  iapply (h' Q)
  isplitl [H]; · iexact H
  iexact K

/-- `P` holds `X`, and with `X'` in its place it is `P'`. -/
def Lens (P X P' X' : sProp (MT nD τ sig Unit Val ℕ U ℕ)) : Prop := P ⊢ iprop(X ∗ (X' -∗ P'))

/-- What is held first, -/
theorem Lens.here {X X' R : sProp (MT nD τ sig Unit Val ℕ U ℕ)} : Lens iprop(X ∗ R) X iprop(X' ∗ R) X' := by
  unfold Lens
  iintro ⟨H, R⟩
  isplitl [H]; · iexact H
  iintro H
  isplitl [H]; · iexact H
  iexact R

/-- and what is held later. -/
theorem Lens.next {P X R X' R' : sProp (MT nD τ sig Unit Val ℕ U ℕ)} (h : Lens R X R' X') :
    Lens iprop(P ∗ R) X iprop(P ∗ R') X' := by
  unfold Lens at h ⊢
  iintro ⟨P, R⟩
  ihave R := h $$ R
  icases R with ⟨H, K⟩
  isplitl [H]; · iexact H
  iintro H
  isplitl [P]; · iexact P
  iapply K; iexact H

/-- What alone is held. -/
theorem Lens.last {X X' : sProp (MT nD τ sig Unit Val ℕ U ℕ)} : Lens X X X' X' := by
  unfold Lens
  iintro H
  isplitl [H]; · iexact H
  iintro H
  iexact H

/-- A load of a reference that the resources hold at the contents `X`. -/
theorem runs_load {cs : CoreSpace} {s : Shape} {e : EltTy} {m : Memref sig c.2.kind cs s e} {X : s.Idx → Val e} {S : St}
    (hg : Lens (own S) (owns c m fullShare X) (own S) (owns c m fullShare X)) (r : Rect s) (hl : m.view.LoadsAt r.toLoadRect) :
    Runs defs 𝒱 c own (Prog.lift (.load m r.toLoadRect hl)) S (fun x => X (r.emb x)) S := fun Q => by
  unfold Prog.lift
  iintro ⟨H, K⟩
  unfold Lens at hg
  ihave H := hg $$ H
  icases H with ⟨H, G⟩
  iapply (wp_ld defs 𝒱 c (m := m) (r := r) (X := X)) $$ H
  iintro H
  rw [show (Prog.ret (fun x => X (r.emb x)) : Prog (TpuEff nD τ sig Val Λ c.2) (r.shape.Idx → Val e)) = Pure.pure (fun x => X (r.emb x)) from rfl, wp_pure]
  imodintro
  iapply K
  iapply G; iexact H

/-- The load of one word of a scalar memory. -/
theorem runs_sload {s : Shape} {e : EltTy} {m : Memref sig c.2.kind .smem s e} {X : s.Idx → Val e} {S : St}
    (hg : Lens (own S) (owns c m fullShare X) (own S) (owns c m fullShare X)) (r : Rect s) (h1 : r.shape.numel = 1)
    (hp : e.packing = 1) :
    Runs defs 𝒱 c own (smemLoad m r h1 hp) S (X (r.emb (Shape.Idx.first (h1.symm ▸ Nat.one_pos)))) S := fun Q => by
  unfold smemLoad smemLoadElt
  iintro ⟨H, K⟩
  unfold Lens at hg
  ihave H := hg $$ H
  icases H with ⟨H, G⟩
  iapply (wp_ld defs 𝒱 c (m := m) (r := r) (X := X)) $$ H
  iintro H
  rw [show ∀ a : Val e, (Prog.ret a : Prog (TpuEff nD τ sig Val Λ c.2) (Val e)) = Pure.pure a from fun _ => rfl, wp_pure]
  imodintro
  iapply K
  iapply G; iexact H

/-- A store into a reference that the resources hold. -/
theorem runs_store {cs : CoreSpace} {s : Shape} {e : EltTy} {m : Memref sig c.2.kind cs s e} {X : s.Idx → Val e} {S S' : St}
    {r : Rect s} {w : r.shape.Idx → Val e}
    (hg : Lens (own S) (owns c m fullShare X) (own S') (owns c m fullShare (put X r w)))
    (hx : (m.access r).Stores Finset.univ) (hm : (Finset.univ : Finset r.shape.Idx) = Finset.univ ∨ ∀ a, r.stride a = 1) :
    Runs defs 𝒱 c own (Prog.lift (.store m r w Finset.univ hx hm)) S ⟨⟩ S' := fun Q => by
  unfold Prog.lift
  iintro ⟨H, K⟩
  unfold Lens at hg
  ihave H := hg $$ H
  icases H with ⟨H, G⟩
  iapply (wp_st defs 𝒱 c (m := m) (r := r) (X := X)) $$ H
  iintro H
  rw [show (Prog.ret ⟨⟩ : Prog (TpuEff nD τ sig Val Λ c.2) PUnit) = Pure.pure ⟨⟩ from rfl, wp_pure]
  imodintro
  iapply K
  iapply G; iexact H

/-- An assumption that holds. -/
theorem runs_assume {P : Prop} {d : Decidable P} (h : P) (S : St) :
    Runs defs 𝒱 c own (Prog.lift (.assume P d)) S ⟨h⟩ S := fun Q => by
  unfold Prog.lift
  rw [wp_assume_of 𝒱 c none Set.univ h, show (Prog.ret ⟨h⟩ : Prog (TpuEff nD τ sig Val Λ c.2) (PLift P)) = Pure.pure ⟨h⟩ from rfl, wp_pure]
  iintro ⟨H, K⟩
  imodintro
  iapply K; iexact H

end Cert.Runs

end
-- ==== Proof.PI.Body.lean ====
/-
  The kernel body of one grid point, told as a short program: clear what is carried from point to point at the first
  point, draw the 32 boxes of the image, add up the offset and size errors, sort the cross entropies into bins, and at
  the last point fold the bins into the loss. The printed body is this program (`body_eq`).
-/
module

public import proofs.«01_k».proof.Proof.Gen.KernelIdeal.Skeleton

@[expose] public section

set_option maxRecDepth 16384

noncomputable section

namespace Cert.KernelIdeal.Body

open Idealize.ShloMosaic Idealize.ShloMosaic.TcCoe Idealize.SL.Sem
open Cert.KernelIdeal.Gen

variable {F : FTy → Type} [FloatOps F]

/-- The programs of the kernel's core. -/
abbrev P (F : FTy → Type) (α : Type) := Prog (TpuEff nD τ sig (Elt F) Λ₀ .tc) α

/-- The references that one point reads and writes. -/
structure Args where
  a1 : Memref sig .tc .smem S8x32 .f32
  h1 : a1.IsWhole
  a2 : Memref sig .tc .smem S8x32 .f32
  h2 : a2.IsWhole
  a3 : Memref sig .tc .smem S8x32 .f32
  h3 : a3.IsWhole
  a4 : Memref sig .tc .smem S8x32 .f32
  h4 : a4.IsWhole
  a5 : Memref sig .tc .smem S8x32 .f32
  h5 : a5.IsWhole
  a6 : Memref sig .tc .smem S8x32 .f32
  h6 : a6.IsWhole
  a7 : Memref sig .tc .smem S8x32 .f32
  h7 : a7.IsWhole
  a8 : Memref sig .tc .smem S8x32 .i32
  h8 : a8.IsWhole
  a9 : Memref sig .tc .smem S8x32 .i32
  h9 : a9.IsWhole
  a10 : Memref sig .tc .smem S8x32 .i32
  h10 : a10.IsWhole
  a11 : Memref sig .tc .smem S8x32 .i32
  h11 : a11.IsWhole
  a12 : Memref sig .tc .smem S8x32 .i32
  h12 : a12.IsWhole
  a13 : Memref sig .tc .vmem S1x20x128x128 .f32
  h13 : a13.IsWhole
  a14 : Memref sig .tc .vmem S1x2x128x128 .f32
  h14 : a14.IsWhole
  a15 : Memref sig .tc .vmem S1x2x128x128 .f32
  h15 : a15.IsWhole
  a16 : Memref sig .tc .smem S1x1 .f32
  h16 : a16.IsWhole
  a17 : Memref sig .tc .vmem S20x128x128 .f32
  h17 : a17.IsWhole
  a18 : Memref sig .tc .vmem S4x128x128 .f32
  h18 : a18.IsWhole
  a19 : Memref sig .tc .smem S10 .f32
  h19 : a19.IsWhole
  a20 : Memref sig .tc .smem S10 .f32
  h20 : a20.IsWhole
  a21 : Memref sig .tc .smem S4 .f32
  h21 : a21.IsWhole
  a22 : Memref sig .tc .vmem S16x128 .f32
  h22 : a22.IsWhole
  a23 : Memref sig .tc .vmem S16x128 .f32
  h23 : a23.IsWhole

/-! ## Iteration over a list -/

/-- One program per entry of a list, in order. -/
def each {β : Type} (f : β → P F PUnit) : List β → P F PUnit
  | [] => pure ⟨⟩
  | b :: l => do f b; each f l

/-- The same with a value carried along. -/
def fold {β σ : Type} (f : β → σ → P F σ) : List β → σ → P F σ
  | [], s => pure s
  | b :: l, s => do
    let s' ← f b s
    fold f l s'

/-- The boxes of an image, -/
def boxes : List (Fin 32) :=
  [0, 1, 2, 3, 4, 5, 6, 7, 8, 9, 10, 11, 12, 13, 14, 15, 16, 17, 18, 19, 20, 21, 22, 23, 24, 25, 26, 27, 28, 29, 30, 31]

/-- the ten bins, and the nine whose contents are counted directly. -/
def bins10 : List (Fin 10) := [0, 1, 2, 3, 4, 5, 6, 7, 8, 9]

@[inherit_doc bins10]
def bins9 : List (Fin 9) := [0, 1, 2, 3, 4, 5, 6, 7, 8]

/-! ## Where the accesses lie -/

theorem word10 (j : Fin 10) : ∀ a, ![j.val] a + S1.size a ≤ S10.size a := by revert j; decide +kernel

theorem row16 (j : Fin 10) : ∀ a, ![j.val, 0] a + S1x128.size a ≤ S16x128.size a := by revert j; decide +kernel

/-- The word of box `k` of this point's image. -/
def boxOff (i : grid0.Coords) (k : Fin 32) : Fin 2 → Nat := ![(Scalar.indexCast (BitVec.ofNat 32 (i 0).val)).toNat, k.val]

theorem boxOff_eq (i : grid0.Coords) (k : Fin 32) : boxOff i k = ![(i 0).val, k.val] := by
  have h := k0_off1_eq i
  have h0 : (Scalar.indexCast (BitVec.ofNat 32 (i 0).val)).toNat = (i 0).val := congrFun h 0
  unfold boxOff; rw [h0]

theorem boxOff_inb (i : grid0.Coords) (k : Fin 32) : ∀ a, boxOff i k a + S1x1.size a ≤ S8x32.size a := by
  rw [boxOff_eq]
  intro a
  have h0 : (i 0).val < 8 := (i 0).isLt
  have hk := k.isLt
  fin_cases a <;> simp [S1x1, S8x32] <;> omega

/-- The rectangle of one word of ten, -/
abbrev w10 (j : Fin 10) : Rect S10 := Rect.unit (s := S10) ![j.val] S1.size (word10 j)

/-- of one row of bin counters, -/
abbrev r16 (j : Fin 10) : Rect S16x128 := Rect.unit (s := S16x128) ![j.val, 0] S1x128.size (row16 j)

/-- of one box's word. -/
abbrev wBox (i : grid0.Coords) (k : Fin 32) : Rect S8x32 := Rect.unit (s := S8x32) (boxOff i k) S1x1.size (boxOff_inb i k)

/-- All of the heat map, -/
abbrev all17 : Rect S20x128x128 := Rect.unit (s := S20x128x128) ![0, 0, 0] S20x128x128.size inb_S20x128x128_S20x128x128_0_0_0

/-- all of the regression maps, -/
abbrev all18 : Rect S4x128x128 := Rect.unit (s := S4x128x128) ![0, 0, 0] S4x128x128.size inb_S4x128x128_S4x128x128_0_0_0

/-- all of the bin counters, -/
abbrev all16 : Rect S16x128 := Rect.unit (s := S16x128) ![0, 0] S16x128.size inb_S16x128_S16x128_0_0

/-- the 80 rows of a box's Gaussian, -/
abbrev rG (v27 v31 : BitVec 32) (h : k0_chk1 v27 v31) : Rect S20x128x128 :=
  Rect.unit (s := S20x128x128) (k0_off2 v27 v31) S1x80x128.size (k0_off2_inb v27 v31 h)

/-- the row of its centre, -/
abbrev rC (v25 v27 : BitVec 32) (h : k0_chk2 v25 v27) : Rect S20x128x128 :=
  Rect.unit (s := S20x128x128) (k0_off3 v25 v27) S1x1x128.size (k0_off3_inb v25 v27 h)

/-- and that row of the four regression maps. -/
abbrev rR0 (v25 : BitVec 32) (h : k0_chk3 v25) : Rect S4x128x128 :=
  Rect.unit (s := S4x128x128) (k0_off4 v25) S1x1x128.size (k0_off4_inb v25 h)

@[inherit_doc rR0]
abbrev rR1 (v25 : BitVec 32) (h : k0_chk3 v25) : Rect S4x128x128 :=
  Rect.unit (s := S4x128x128) (k0_off6 v25) S1x1x128.size (k0_off6_inb v25 h)

@[inherit_doc rR0]
abbrev rR2 (v25 : BitVec 32) (h : k0_chk3 v25) : Rect S4x128x128 :=
  Rect.unit (s := S4x128x128) (k0_off7 v25) S1x1x128.size (k0_off7_inb v25 h)

@[inherit_doc rR0]
abbrev rR3 (v25 : BitVec 32) (h : k0_chk3 v25) : Rect S4x128x128 :=
  Rect.unit (s := S4x128x128) (k0_off8 v25) S1x1x128.size (k0_off8_inb v25 h)

/-- One word of four. -/
abbrev w4_0 : Rect S4 := Rect.unit (s := S4) ![0] S1.size inb_S4_S1_0
@[inherit_doc w4_0]
abbrev w4_1 : Rect S4 := Rect.unit (s := S4) ![1] S1.size inb_S4_S1_1
@[inherit_doc w4_0]
abbrev w4_2 : Rect S4 := Rect.unit (s := S4) ![2] S1.size inb_S4_S1_2

/-- One of the four regression maps, -/
abbrev m18_0 : Rect S4x128x128 := Rect.unit (s := S4x128x128) ![0, 0, 0] S1x128x128.size inb_S4x128x128_S1x128x128_0_0_0
@[inherit_doc m18_0]
abbrev m18_1 : Rect S4x128x128 := Rect.unit (s := S4x128x128) ![1, 0, 0] S1x128x128.size inb_S4x128x128_S1x128x128_1_0_0
@[inherit_doc m18_0]
abbrev m18_2 : Rect S4x128x128 := Rect.unit (s := S4x128x128) ![2, 0, 0] S1x128x128.size inb_S4x128x128_S1x128x128_2_0_0
@[inherit_doc m18_0]
abbrev m18_3 : Rect S4x128x128 := Rect.unit (s := S4x128x128) ![3, 0, 0] S1x128x128.size inb_S4x128x128_S1x128x128_3_0_0

/-- one of the two predicted maps, -/
abbrev m2_0 : Rect S1x2x128x128 := Rect.unit (s := S1x2x128x128) ![0, 0, 0, 0] S1x1x128x128.size inb_S1x2x128x128_S1x1x128x128_0_0_0_0
@[inherit_doc m2_0]
abbrev m2_1 : Rect S1x2x128x128 := Rect.unit (s := S1x2x128x128) ![0, 1, 0, 0] S1x1x128x128.size inb_S1x2x128x128_S1x1x128x128_0_1_0_0

/-- all of the predicted heat map, and the one word of the result. -/
abbrev all13 : Rect S1x20x128x128 :=
  Rect.unit (s := S1x20x128x128) ![0, 0, 0, 0] S1x20x128x128.size inb_S1x20x128x128_S1x20x128x128_0_0_0_0
@[inherit_doc all13]
abbrev w1 : Rect S1x1 := Rect.unit (s := S1x1) ![0, 0] S1x1.size inb_S1x1_S1x1_0_0

/-! ## The pieces -/

/-- Zero. -/
abbrev z0 : F .f32 := Scalar.ofBits .f32 0x00000000#32

/-- Clear the two words of bin `j`. -/
def clearBin (A : Args) (j : Fin 10) : P F PUnit := do
  let _ ← smemLoad A.a19 (w10 j) numel1_S1 rfl
  Prog.lift (.store A.a19 (w10 j) (fun _ => z0) Finset.univ (View.stores_smem_one rfl numel1_S1) (.inl rfl))
  let _ ← smemLoad A.a20 (w10 j) numel1_S1 rfl
  Prog.lift (.store A.a20 (w10 j) (fun _ => z0) Finset.univ (View.stores_smem_one rfl numel1_S1) (.inl rfl))

/-- Clear everything carried from one point to the next. -/
def clear (A : Args) : P F PUnit := do
  each (clearBin A) bins10
  let _ ← smemLoad A.a21 w4_0 numel1_S1 rfl
  Prog.lift (.store A.a21 w4_0 (fun _ => z0) Finset.univ (View.stores_smem_one rfl numel1_S1) (.inl rfl))
  let _ ← smemLoad A.a21 w4_1 numel1_S1 rfl
  Prog.lift (.store A.a21 w4_1 (fun _ => z0) Finset.univ (View.stores_smem_one rfl numel1_S1) (.inl rfl))
  let _ ← smemLoad A.a21 w4_2 numel1_S1 rfl
  Prog.lift (.store A.a21 w4_2 (fun _ => z0) Finset.univ (View.stores_smem_one rfl numel1_S1) (.inl rfl))
  let _ ← Prog.lift (.load A.a22 all16.toLoadRect (View.loadsAt_vmem h_S16x128))
  Prog.lift (.store A.a22 all16 (k0_pay39 (F := F)) Finset.univ (View.stores_vmem_bits_univ h_S16x128 rfl) (.inl rfl))
  let _ ← Prog.lift (.load A.a23 all16.toLoadRect (View.loadsAt_vmem h_S16x128))
  Prog.lift (.store A.a23 all16 (k0_pay40 (F := F)) Finset.univ (View.stores_vmem_bits_univ h_S16x128 rfl) (.inl rfl))
  pure ⟨⟩

/-- Clear the heat map and the regression maps. -/
def clearMaps (A : Args) : P F PUnit := do
  let _ ← Prog.lift (.load A.a17 all17.toLoadRect (View.loadsAt_vmem h_S20x128x128))
  Prog.lift (.store A.a17 all17 (k0_pay43 (F := F)) Finset.univ (View.stores_vmem_bits_univ h_S20x128x128 rfl) (.inl rfl))
  let _ ← Prog.lift (.load A.a18 all18.toLoadRect (View.loadsAt_vmem h_S4x128x128))
  Prog.lift (.store A.a18 all18 (k0_pay44 (F := F)) Finset.univ (View.stores_vmem_bits_univ h_S4x128x128 rfl) (.inl rfl))

/-- The column numbers of a row. -/
abbrev lane : IVec S1x128 32 := iota .tc S1x128 32 [1] iota_S1x128_d1_w32

/-- Draw box `k`: its Gaussian into the heat map of its label, a one at its centre, and its offsets and sizes at the
    centre of the regression maps where no later box has the same centre. -/
def oneBox (i : grid0.Coords) (A : Args) (k : Fin 32) : P F PUnit := do
  let v17 : Elt F .f32 ← smemLoad A.a1 (wBox i k) numel1_S1x1 rfl
  let v19 : Elt F .f32 ← smemLoad A.a2 (wBox i k) numel1_S1x1 rfl
  let v21 : Elt F .f32 ← smemLoad A.a3 (wBox i k) numel1_S1x1 rfl
  let v23 : Elt F .i32 ← smemLoad A.a8 (wBox i k) numel1_S1x1 rfl
  let v25 : Elt F .i32 ← smemLoad A.a9 (wBox i k) numel1_S1x1 rfl
  have hw3 : k0_chk3 v25 := (← Prog.lift (TpuEff.assume (k0_chk3 v25) (k0_chk3.dec v25))).down
  let v27 : Elt F .i32 ← smemLoad A.a10 (wBox i k) numel1_S1x1 rfl
  have hw2 : k0_chk2 v25 v27 := (← Prog.lift (TpuEff.assume (k0_chk2 v25 v27) (k0_chk2.dec v25 v27))).down
  let v29 : Elt F .i32 ← smemLoad A.a11 (wBox i k) numel1_S1x1 rfl
  let v31 : Elt F .i32 ← smemLoad A.a12 (wBox i k) numel1_S1x1 rfl
  have hw1 : k0_chk1 v27 v31 := (← Prog.lift (TpuEff.assume (k0_chk1 v27 v31) (k0_chk1.dec v27 v31))).down
  let v49 : Vec F S1x80x128 .f32 ← Prog.lift (.load A.a17 (rG v27 v31 hw1).toLoadRect (View.loadsAt_vmem h_S1x80x128))
  let _ ← Prog.lift (.load A.a17 (rG v27 v31 hw1).toLoadRect (View.loadsAt_vmem h_S1x80x128))
  Prog.lift (.store A.a17 (rG v27 v31 hw1) (k0_pay46 (k0_pay41 (F := F)) (k0_pay42 (F := F)) v17 v21 (k0_pay45 v19 v31) v49) Finset.univ
    (View.stores_vmem_bits_univ h_S1x80x128 rfl) (.inl rfl))
  let v61 : Vec F S1x1x128 .f32 ← Prog.lift (.load A.a17 (rC v25 v27 hw2).toLoadRect (View.loadsAt_vmem h_S1x1x128))
  let _ ← Prog.lift (.load A.a17 (rC v25 v27 hw2).toLoadRect (View.loadsAt_vmem h_S1x1x128))
  Prog.lift (.store A.a17 (rC v25 v27 hw2) (k0_pay48 lane v23 v61) Finset.univ (View.stores_vmem_bits_univ h_S1x1x128 rfl) (.inl rfl))
  let v74 : Vec F S1x1x128 .f32 ← Prog.lift (.load A.a18 (rR0 v25 hw3).toLoadRect (View.loadsAt_vmem h_S1x1x128))
  let v77 : Elt F .f32 ← smemLoad A.a4 (wBox i k) numel1_S1x1 rfl
  let _ ← Prog.lift (.load A.a18 (rR0 v25 hw3).toLoadRect (View.loadsAt_vmem h_S1x1x128))
  Prog.lift (.store A.a18 (rR0 v25 hw3) (k0_pay51 (k0_pay50 lane v23 v29 v74 v77)) Finset.univ (View.stores_vmem_bits_univ h_S1x1x128 rfl) (.inl rfl))
  let v85 : Vec F S1x1x128 .f32 ← Prog.lift (.load A.a18 (rR1 v25 hw3).toLoadRect (View.loadsAt_vmem h_S1x1x128))
  let v88 : Elt F .f32 ← smemLoad A.a5 (wBox i k) numel1_S1x1 rfl
  let _ ← Prog.lift (.load A.a18 (rR1 v25 hw3).toLoadRect (View.loadsAt_vmem h_S1x1x128))
  Prog.lift (.store A.a18 (rR1 v25 hw3) (k0_pay52 (k0_pay49 lane v23 v29) v85 v88) Finset.univ (View.stores_vmem_bits_univ h_S1x1x128 rfl) (.inl rfl))
  let v96 : Vec F S1x1x128 .f32 ← Prog.lift (.load A.a18 (rR2 v25 hw3).toLoadRect (View.loadsAt_vmem h_S1x1x128))
  let v99 : Elt F .f32 ← smemLoad A.a6 (wBox i k) numel1_S1x1 rfl
  let _ ← Prog.lift (.load A.a18 (rR2 v25 hw3).toLoadRect (View.loadsAt_vmem h_S1x1x128))
  Prog.lift (.store A.a18 (rR2 v25 hw3) (k0_pay53 (k0_pay49 lane v23 v29) v96 v99) Finset.univ (View.stores_vmem_bits_univ h_S1x1x128 rfl) (.inl rfl))
  let v107 : Vec F S1x1x128 .f32 ← Prog.lift (.load A.a18 (rR3 v25 hw3).toLoadRect (View.loadsAt_vmem h_S1x1x128))
  let v110 : Elt F .f32 ← smemLoad A.a7 (wBox i k) numel1_S1x1 rfl
  let _ ← Prog.lift (.load A.a18 (rR3 v25 hw3).toLoadRect (View.loadsAt_vmem h_S1x1x128))
  Prog.lift (.store A.a18 (rR3 v25 hw3) (k0_pay54 (k0_pay49 lane v23 v29) v107 v110) Finset.univ (View.stores_vmem_bits_univ h_S1x1x128 rfl) (.inl rfl))

/-- Add this image's offset and size errors and the number of its peaks to what is carried; return the heat map. -/
def errors (A : Args) : P F (Vec F S20x128x128 .f32) := do
  let v3248 : Vec F S20x128x128 .f32 ← Prog.lift (.load A.a17 all17.toLoadRect (View.loadsAt_vmem h_S20x128x128))
  let v3254 : Elt F .f32 ← smemLoad A.a21 w4_0 numel1_S1 rfl
  let _ ← smemLoad A.a21 w4_0 numel1_S1 rfl
  Prog.lift (.store A.a21 w4_0 (fun _ => k0_pay347 v3248 v3254) Finset.univ (View.stores_smem_one rfl numel1_S1) (.inl rfl))
  let v3261 : Vec F S1x1x128x128 .f32 ← Prog.lift (.load A.a15 m2_0.toLoadRect (View.loadsAt_vmem h_S1x1x128x128))
  let v3263 : Vec F S1x128x128 .f32 ← Prog.lift (.load A.a18 m18_0.toLoadRect (View.loadsAt_vmem h_S1x128x128))
  let v3272 : Vec F S1x1x128x128 .f32 ← Prog.lift (.load A.a15 m2_1.toLoadRect (View.loadsAt_vmem h_S1x1x128x128))
  let v3274 : Vec F S1x128x128 .f32 ← Prog.lift (.load A.a18 m18_1.toLoadRect (View.loadsAt_vmem h_S1x128x128))
  let v3284 : Vec F S1x1x128x128 .f32 ← Prog.lift (.load A.a14 m2_0.toLoadRect (View.loadsAt_vmem h_S1x1x128x128))
  let v3286 : Vec F S1x128x128 .f32 ← Prog.lift (.load A.a18 m18_2.toLoadRect (View.loadsAt_vmem h_S1x128x128))
  let v3295 : Vec F S1x1x128x128 .f32 ← Prog.lift (.load A.a14 m2_1.toLoadRect (View.loadsAt_vmem h_S1x1x128x128))
  let v3297 : Vec F S1x128x128 .f32 ← Prog.lift (.load A.a18 m18_3.toLoadRect (View.loadsAt_vmem h_S1x128x128))
  let v3307 : Elt F .f32 ← smemLoad A.a21 w4_1 numel1_S1 rfl
  let _ ← smemLoad A.a21 w4_1 numel1_S1 rfl
  Prog.lift (.store A.a21 w4_1
    (fun _ => k0_pay351 (k0_pay349 (k0_pay346 v3248) (k0_pay348 v3248 v3261 v3263) v3272 v3274) v3307) Finset.univ
    (View.stores_smem_one rfl numel1_S1) (.inl rfl))
  let v3310 : Elt F .f32 ← smemLoad A.a21 w4_2 numel1_S1 rfl
  let _ ← smemLoad A.a21 w4_2 numel1_S1 rfl
  Prog.lift (.store A.a21 w4_2
    (fun _ => k0_pay352 (k0_pay350 (k0_pay346 v3248) v3284 v3286 v3295 v3297) v3310) Finset.univ
    (View.stores_smem_one rfl numel1_S1) (.inl rfl))
  pure v3248

/-- Which entries lie in bin `j`, as ones and zeros. -/
def inBin (idx : IVec S2560x128 32) (j : Nat) : FVec F S2560x128 .bf16 :=
  truncf .bf16 (sitofp .f32 (extui 32 (cmpi .eq idx (broadcast S2560x128 (BitVec.ofNat 32 j))) natLt_1_32)) bitsLt_bf16_f32

/-- The column sums of `x`, added to `old`. -/
def addCols (ones : FVec F S1x2560 .bf16) (x : FVec F S2560x128 .bf16) (old : Vec F S1x128 .f32) : FVec F S1x128 .f32 :=
  shapeCast S1x128 (addf old (matmul dot_S1x2560_S2560x128_S1x128_1_0_0_1_n_n none ones x (constant S1x128 .f32 0x00000000#32)))
    shapeCasts_S1x128_S1x128

/-- Count bin `j` of this image and sum its cross entropies, by columns. -/
def oneBin (A : Args) (bce : FVec F S2560x128 .bf16) (idx : IVec S2560x128 32) (ones : FVec F S1x2560 .bf16) (j : Fin 9) :
    P F PUnit := do
  let old : Vec F S1x128 .f32 ← Prog.lift (.load A.a22 (r16 j.castSucc).toLoadRect (View.loadsAt_vmem h_S1x128))
  let _ ← Prog.lift (.load A.a22 (r16 j.castSucc).toLoadRect (View.loadsAt_vmem h_S1x128))
  Prog.lift (.store A.a22 (r16 j.castSucc) (addCols ones (inBin idx j.val) old) Finset.univ (View.stores_vmem_bits_univ h_S1x128 rfl) (.inl rfl))
  let old' : Vec F S1x128 .f32 ← Prog.lift (.load A.a23 (r16 j.castSucc).toLoadRect (View.loadsAt_vmem h_S1x128))
  let _ ← Prog.lift (.load A.a23 (r16 j.castSucc).toLoadRect (View.loadsAt_vmem h_S1x128))
  Prog.lift (.store A.a23 (r16 j.castSucc) (addCols ones (mulf (inBin idx j.val) bce) old') Finset.univ (View.stores_vmem_bits_univ h_S1x128 rfl) (.inl rfl))

/-- Sort this image's cross entropies into the bins; the last row takes the sum of all of them. -/
def sortBins (A : Args) (v3248 : Vec F S20x128x128 .f32) : P F PUnit := do
  let v3313 : Vec F S1x20x128x128 .f32 ← Prog.lift (.load A.a13 all13.toLoadRect (View.loadsAt_vmem h_S1x20x128x128))
  each (oneBin A (k0_pay354 v3248 v3313) (k0_pay355 v3248 v3313) (k0_pay356 (F := F))) bins9
  let old : Vec F S1x128 .f32 ← Prog.lift (.load A.a23 (r16 9).toLoadRect (View.loadsAt_vmem h_S1x128))
  let _ ← Prog.lift (.load A.a23 (r16 9).toLoadRect (View.loadsAt_vmem h_S1x128))
  Prog.lift (.store A.a23 (r16 9) (addCols (k0_pay356 (F := F)) (k0_pay354 v3248 v3313) old) Finset.univ (View.stores_vmem_bits_univ h_S1x128 rfl) (.inl rfl))

/-- Total bin `j`, and keep the running totals of the bins so far. -/
def totalBin (A : Args) (j : Fin 9) (s : F .f32 × F .f32) : P F (F .f32 × F .f32) := do
  let r : Vec F S1x128 .f32 ← Prog.lift (.load A.a22 (r16 j.castSucc).toLoadRect (View.loadsAt_vmem h_S1x128))
  let r' : Vec F S1x128 .f32 ← Prog.lift (.load A.a23 (r16 j.castSucc).toLoadRect (View.loadsAt_vmem h_S1x128))
  let _ ← smemLoad A.a19 (w10 j.castSucc) numel1_S1 rfl
  Prog.lift (.store A.a19 (w10 j.castSucc) (fun _ => k0_pay2 r) Finset.univ (View.stores_smem_one rfl numel1_S1) (.inl rfl))
  let _ ← smemLoad A.a20 (w10 j.castSucc) numel1_S1 rfl
  Prog.lift (.store A.a20 (w10 j.castSucc) (fun _ => k0_pay2 r') Finset.univ (View.stores_smem_one rfl numel1_S1) (.inl rfl))
  pure (Scalar.addf s.1 (k0_pay2 r), Scalar.addf s.2 (k0_pay2 r'))

/-- Total all bins, the last by what the others leave. -/
def totalBins (A : Args) : P F PUnit := do
  let s ← fold (totalBin A) bins9 (z0, z0)
  let _ ← smemLoad A.a19 (w10 9) numel1_S1 rfl
  Prog.lift (.store A.a19 (w10 9) (fun _ => Scalar.subf (Scalar.ofBits .f32 0x4A200000#32) s.1) Finset.univ (View.stores_smem_one rfl numel1_S1) (.inl rfl))
  let r : Vec F S1x128 .f32 ← Prog.lift (.load A.a23 (r16 9).toLoadRect (View.loadsAt_vmem h_S1x128))
  let _ ← smemLoad A.a20 (w10 9) numel1_S1 rfl
  Prog.lift (.store A.a20 (w10 9) (fun _ => Scalar.subf (k0_pay2 r) s.2) Finset.univ (View.stores_smem_one rfl numel1_S1) (.inl rfl))

/-- The weight of a bin that holds `c` entries. -/
def weight (c : F .f32) : F .f32 :=
  Scalar.select (Scalar.cmpf .ogt c z0)
    (Scalar.divf (Scalar.ofBits .f32 0x4A200000#32)
      (Scalar.maximumf (Scalar.mulf (Scalar.ofBits .f32 0x3F400000#32) c) (Scalar.ofBits .f32 0x2B8CBCCC#32))) z0

/-- Add bin `j`: one to the number of bins in use, and its weighted sum. -/
def weighBin (A : Args) (j : Fin 10) (s : F .f32 × F .f32) : P F (F .f32 × F .f32) := do
  let c : Elt F .f32 ← smemLoad A.a19 (w10 j) numel1_S1 rfl
  let b : Elt F .f32 ← smemLoad A.a20 (w10 j) numel1_S1 rfl
  pure (Scalar.addf s.1 (Scalar.select (Scalar.cmpf .ogt c z0) (Scalar.ofBits .f32 0x3F800000#32) z0),
    Scalar.addf s.2 (Scalar.mulf (weight c) b))

/-- Fold everything that was carried into the loss. -/
def finish (A : Args) : P F PUnit := do
  totalBins A
  let s ← fold (weighBin A) bins10 (z0, z0)
  let n : Elt F .f32 ← smemLoad A.a21 w4_0 numel1_S1 rfl
  let x : Elt F .f32 ← smemLoad A.a21 w4_1 numel1_S1 rfl
  let w : Elt F .f32 ← smemLoad A.a21 w4_2 numel1_S1 rfl
  let _ ← smemLoad A.a16 w1 numel1_S1x1 rfl
  Prog.lift (.store A.a16 w1
    (fun _ => k0_pay1 (Scalar.divf s.2 (Scalar.maximumf s.1 (Scalar.ofBits .f32 0x3F800000#32))) (Scalar.ofBits .f32 0x4A200000#32) n x w)
    Finset.univ (View.stores_smem_one rfl numel1_S1x1) (.inl rfl))
  pure ⟨⟩

/-- The condition of the first point, as the program computes it. -/
def first (i : grid0.Coords) : BitVec 1 := Scalar.cmpi .ne (Scalar.extui (Scalar.cmpi .eq (BitVec.ofNat 32 (i 0).val) 0#32)) 0#32

/-- Clear what is carried, at the first point, -/
def start (i : grid0.Coords) (A : Args) : P F PUnit := if _h : first i = 1#1 then clear A else pure ⟨⟩

/-- and fold it into the loss, at the last. -/
def stop (i : grid0.Coords) (A : Args) : P F PUnit := if _h : k0_cond2 i = 1#1 then finish A else pure ⟨⟩

/-- One point. -/
def body (i : grid0.Coords) (A : Args) : P F PUnit := do
  start i A
  clearMaps A
  each (oneBox i A) boxes
  let g ← errors A
  sortBins A g
  stop i A

/-- What the body's first stretch does after the first point's clearing: clear the maps and read box 0. -/
def headRest (i : grid0.Coords) (A : Args) : P F (Σ' (arg0 : BitVec 32) (v4 : FVec F S80x128 .f32) (v6 : FVec F S1x128 .f32) (v7 : IVec S1x128 32) (v17 : Elt F .f32) (v21 : Elt F .f32) (v23 : Elt F .i32) (v25 : Elt F .i32) (k0_hw3 : k0_chk3 v25) (v27 : Elt F .i32) (k0_hw2 : k0_chk2 v25 v27) (v29 : Elt F .i32) (v31 : Elt F .i32) (k0_hw1 : k0_chk1 v27 v31), FVec F S80x128 .f32) := do
  clearMaps A
  let v17 : Elt F .f32 ← smemLoad A.a1 (wBox i 0) numel1_S1x1 rfl
  let v19 : Elt F .f32 ← smemLoad A.a2 (wBox i 0) numel1_S1x1 rfl
  let v21 : Elt F .f32 ← smemLoad A.a3 (wBox i 0) numel1_S1x1 rfl
  let v23 : Elt F .i32 ← smemLoad A.a8 (wBox i 0) numel1_S1x1 rfl
  let v25 : Elt F .i32 ← smemLoad A.a9 (wBox i 0) numel1_S1x1 rfl
  have hw3 : k0_chk3 v25 := (← Prog.lift (TpuEff.assume (k0_chk3 v25) (k0_chk3.dec v25))).down
  let v27 : Elt F .i32 ← smemLoad A.a10 (wBox i 0) numel1_S1x1 rfl
  have hw2 : k0_chk2 v25 v27 := (← Prog.lift (TpuEff.assume (k0_chk2 v25 v27) (k0_chk2.dec v25 v27))).down
  let v29 : Elt F .i32 ← smemLoad A.a11 (wBox i 0) numel1_S1x1 rfl
  let v31 : Elt F .i32 ← smemLoad A.a12 (wBox i 0) numel1_S1x1 rfl
  have hw1 : k0_chk1 v27 v31 := (← Prog.lift (TpuEff.assume (k0_chk1 v27 v31) (k0_chk1.dec v27 v31))).down
  pure ⟨BitVec.ofNat 32 (i 0).val, k0_pay41 (F := F), k0_pay42 (F := F), lane, v17, v21, v23, v25, hw3, v27, hw2, v29, v31, hw1, k0_pay45 v19 v31⟩

set_option maxHeartbeats 40000000 in
set_option maxRecDepth 65536 in
/-- The first stretch of the printed body. -/
theorem head_eq (i : grid0.Coords) (A : Args) :
    k0_part10 (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23
      = start i A >>= fun _ => headRest i A := by
  have key : k0_part10_skel (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23
      = if _h : first i = 1#1 then (clear A >>= fun _ => headRest i A) else headRest i A := rfl
  rw [k0_part10_eq_skeleton, key]
  unfold start
  split <;> rfl

end Cert.KernelIdeal.Body

end
-- ==== Proof.PI.Run.lean ====
/-
  What one grid point computes, as functions of the contents it starts from, and the proof that the program of
  `Body.lean` computes it.
-/
module

public import proofs.«01_k».proof.Proof.PI.Body
public import proofs.«01_k».proof.Proof.Lib.Runs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Runs

variable {F : FTy → Type} [FloatOps F]

local notation "𝕄" => MT nD τ sig Unit (Elt F) ℕ (UR sig nD τ) ℕ

/-- The contents of a point's inputs. -/
structure Ins (F : FTy → Type) where
  x1 : S8x32.Idx → Elt F .f32
  x2 : S8x32.Idx → Elt F .f32
  x3 : S8x32.Idx → Elt F .f32
  x4 : S8x32.Idx → Elt F .f32
  x5 : S8x32.Idx → Elt F .f32
  x6 : S8x32.Idx → Elt F .f32
  x7 : S8x32.Idx → Elt F .f32
  x8 : S8x32.Idx → Elt F .i32
  x9 : S8x32.Idx → Elt F .i32
  x10 : S8x32.Idx → Elt F .i32
  x11 : S8x32.Idx → Elt F .i32
  x12 : S8x32.Idx → Elt F .i32
  x13 : S1x20x128x128.Idx → Elt F .f32
  x14 : S1x2x128x128.Idx → Elt F .f32
  x15 : S1x2x128x128.Idx → Elt F .f32

/-- The contents of the result and of the scratch buffers: the result, the heat map, the regression maps, the bins'
    counts and sums, the number of peaks and the two errors, and the bins' counters by column. -/
structure Sc (F : FTy → Type) where
  o : S1x1.Idx → Elt F .f32
  g : S20x128x128.Idx → Elt F .f32
  r : S4x128x128.Idx → Elt F .f32
  c : S10.Idx → Elt F .f32
  s : S10.Idx → Elt F .f32
  a : S4.Idx → Elt F .f32
  rc : S16x128.Idx → Elt F .f32
  rb : S16x128.Idx → Elt F .f32

/-- The resources of a point: its inputs, its result and its scratch buffers, each whole. -/
def own (A : Args) (d : Dev nD) (I : Ins F) (S : Sc F) : sProp (MT nD τ sig Unit (Elt F) ℕ (UR sig nD τ) ℕ) :=
  iprop(owns (d.tc : Thread nD τ) A.a1 fullShare I.x1 ∗
    owns (d.tc : Thread nD τ) A.a2 fullShare I.x2 ∗
    owns (d.tc : Thread nD τ) A.a3 fullShare I.x3 ∗
    owns (d.tc : Thread nD τ) A.a4 fullShare I.x4 ∗
    owns (d.tc : Thread nD τ) A.a5 fullShare I.x5 ∗
    owns (d.tc : Thread nD τ) A.a6 fullShare I.x6 ∗
    owns (d.tc : Thread nD τ) A.a7 fullShare I.x7 ∗
    owns (d.tc : Thread nD τ) A.a8 fullShare I.x8 ∗
    owns (d.tc : Thread nD τ) A.a9 fullShare I.x9 ∗
    owns (d.tc : Thread nD τ) A.a10 fullShare I.x10 ∗
    owns (d.tc : Thread nD τ) A.a11 fullShare I.x11 ∗
    owns (d.tc : Thread nD τ) A.a12 fullShare I.x12 ∗
    owns (d.tc : Thread nD τ) A.a13 fullShare I.x13 ∗
    owns (d.tc : Thread nD τ) A.a14 fullShare I.x14 ∗
    owns (d.tc : Thread nD τ) A.a15 fullShare I.x15 ∗
    owns (d.tc : Thread nD τ) A.a16 fullShare S.o ∗
    owns (d.tc : Thread nD τ) A.a17 fullShare S.g ∗
    owns (d.tc : Thread nD τ) A.a18 fullShare S.r ∗
    owns (d.tc : Thread nD τ) A.a19 fullShare S.c ∗
    owns (d.tc : Thread nD τ) A.a20 fullShare S.s ∗
    owns (d.tc : Thread nD τ) A.a21 fullShare S.a ∗
    owns (d.tc : Thread nD τ) A.a22 fullShare S.rc ∗
    owns (d.tc : Thread nD τ) A.a23 fullShare S.rb)

variable (A : Args) (d : Dev nD) (I : Ins F) (S : Sc F)

/-! Each buffer is held. -/

theorem has1 : Lens (own A d I S) (owns (d.tc : Thread nD τ) A.a1 fullShare I.x1) (own A d I S) (owns (d.tc : Thread nD τ) A.a1 fullShare I.x1) := .here
theorem has2 : Lens (own A d I S) (owns (d.tc : Thread nD τ) A.a2 fullShare I.x2) (own A d I S) (owns (d.tc : Thread nD τ) A.a2 fullShare I.x2) := .next .here
theorem has3 : Lens (own A d I S) (owns (d.tc : Thread nD τ) A.a3 fullShare I.x3) (own A d I S) (owns (d.tc : Thread nD τ) A.a3 fullShare I.x3) := .next (.next .here)
theorem has4 : Lens (own A d I S) (owns (d.tc : Thread nD τ) A.a4 fullShare I.x4) (own A d I S) (owns (d.tc : Thread nD τ) A.a4 fullShare I.x4) := .next (.next (.next .here))
theorem has5 : Lens (own A d I S) (owns (d.tc : Thread nD τ) A.a5 fullShare I.x5) (own A d I S) (owns (d.tc : Thread nD τ) A.a5 fullShare I.x5) := .next (.next (.next (.next .here)))
theorem has6 : Lens (own A d I S) (owns (d.tc : Thread nD τ) A.a6 fullShare I.x6) (own A d I S) (owns (d.tc : Thread nD τ) A.a6 fullShare I.x6) := .next (.next (.next (.next (.next .here))))
theorem has7 : Lens (own A d I S) (owns (d.tc : Thread nD τ) A.a7 fullShare I.x7) (own A d I S) (owns (d.tc : Thread nD τ) A.a7 fullShare I.x7) := .next (.next (.next (.next (.next (.next .here)))))
theorem has8 : Lens (own A d I S) (owns (d.tc : Thread nD τ) A.a8 fullShare I.x8) (own A d I S) (owns (d.tc : Thread nD τ) A.a8 fullShare I.x8) := .next (.next (.next (.next (.next (.next (.next .here))))))
theorem has9 : Lens (own A d I S) (owns (d.tc : Thread nD τ) A.a9 fullShare I.x9) (own A d I S) (owns (d.tc : Thread nD τ) A.a9 fullShare I.x9) := .next (.next (.next (.next (.next (.next (.next (.next .here)))))))
theorem has10 : Lens (own A d I S) (owns (d.tc : Thread nD τ) A.a10 fullShare I.x10) (own A d I S) (owns (d.tc : Thread nD τ) A.a10 fullShare I.x10) := .next (.next (.next (.next (.next (.next (.next (.next (.next .here))))))))
theorem has11 : Lens (own A d I S) (owns (d.tc : Thread nD τ) A.a11 fullShare I.x11) (own A d I S) (owns (d.tc : Thread nD τ) A.a11 fullShare I.x11) := .next (.next (.next (.next (.next (.next (.next (.next (.next (.next .here)))))))))
theorem has12 : Lens (own A d I S) (owns (d.tc : Thread nD τ) A.a12 fullShare I.x12) (own A d I S) (owns (d.tc : Thread nD τ) A.a12 fullShare I.x12) := .next (.next (.next (.next (.next (.next (.next (.next (.next (.next (.next .here))))))))))
theorem has13 : Lens (own A d I S) (owns (d.tc : Thread nD τ) A.a13 fullShare I.x13) (own A d I S) (owns (d.tc : Thread nD τ) A.a13 fullShare I.x13) := .next (.next (.next (.next (.next (.next (.next (.next (.next (.next (.next (.next .here)))))))))))
theorem has14 : Lens (own A d I S) (owns (d.tc : Thread nD τ) A.a14 fullShare I.x14) (own A d I S) (owns (d.tc : Thread nD τ) A.a14 fullShare I.x14) := .next (.next (.next (.next (.next (.next (.next (.next (.next (.next (.next (.next (.next .here))))))))))))
theorem has15 : Lens (own A d I S) (owns (d.tc : Thread nD τ) A.a15 fullShare I.x15) (own A d I S) (owns (d.tc : Thread nD τ) A.a15 fullShare I.x15) := .next (.next (.next (.next (.next (.next (.next (.next (.next (.next (.next (.next (.next (.next .here)))))))))))))
theorem has16 (X : S1x1.Idx → Elt F .f32) : Lens (own A d I S) (owns (d.tc : Thread nD τ) A.a16 fullShare S.o) (own A d I { S with o := X }) (owns (d.tc : Thread nD τ) A.a16 fullShare X) :=
  .next (.next (.next (.next (.next (.next (.next (.next (.next (.next (.next (.next (.next (.next (.next .here))))))))))))))
theorem has17 (X : S20x128x128.Idx → Elt F .f32) : Lens (own A d I S) (owns (d.tc : Thread nD τ) A.a17 fullShare S.g) (own A d I { S with g := X }) (owns (d.tc : Thread nD τ) A.a17 fullShare X) :=
  .next (.next (.next (.next (.next (.next (.next (.next (.next (.next (.next (.next (.next (.next (.next (.next .here)))))))))))))))
theorem has18 (X : S4x128x128.Idx → Elt F .f32) : Lens (own A d I S) (owns (d.tc : Thread nD τ) A.a18 fullShare S.r) (own A d I { S with r := X }) (owns (d.tc : Thread nD τ) A.a18 fullShare X) :=
  .next (.next (.next (.next (.next (.next (.next (.next (.next (.next (.next (.next (.next (.next (.next (.next (.next .here))))))))))))))))
theorem has19 (X : S10.Idx → Elt F .f32) : Lens (own A d I S) (owns (d.tc : Thread nD τ) A.a19 fullShare S.c) (own A d I { S with c := X }) (owns (d.tc : Thread nD τ) A.a19 fullShare X) :=
  .next (.next (.next (.next (.next (.next (.next (.next (.next (.next (.next (.next (.next (.next (.next (.next (.next (.next .here)))))))))))))))))
theorem has20 (X : S10.Idx → Elt F .f32) : Lens (own A d I S) (owns (d.tc : Thread nD τ) A.a20 fullShare S.s) (own A d I { S with s := X }) (owns (d.tc : Thread nD τ) A.a20 fullShare X) :=
  .next (.next (.next (.next (.next (.next (.next (.next (.next (.next (.next (.next (.next (.next (.next (.next (.next (.next (.next .here))))))))))))))))))
theorem has21 (X : S4.Idx → Elt F .f32) : Lens (own A d I S) (owns (d.tc : Thread nD τ) A.a21 fullShare S.a) (own A d I { S with a := X }) (owns (d.tc : Thread nD τ) A.a21 fullShare X) :=
  .next (.next (.next (.next (.next (.next (.next (.next (.next (.next (.next (.next (.next (.next (.next (.next (.next (.next (.next (.next .here)))))))))))))))))))
theorem has22 (X : S16x128.Idx → Elt F .f32) : Lens (own A d I S) (owns (d.tc : Thread nD τ) A.a22 fullShare S.rc) (own A d I { S with rc := X }) (owns (d.tc : Thread nD τ) A.a22 fullShare X) :=
  .next (.next (.next (.next (.next (.next (.next (.next (.next (.next (.next (.next (.next (.next (.next (.next (.next (.next (.next (.next (.next .here))))))))))))))))))))
theorem has23 (X : S16x128.Idx → Elt F .f32) : Lens (own A d I S) (owns (d.tc : Thread nD τ) A.a23 fullShare S.rb) (own A d I { S with rb := X }) (owns (d.tc : Thread nD τ) A.a23 fullShare X) :=
  .next (.next (.next (.next (.next (.next (.next (.next (.next (.next (.next (.next (.next (.next (.next (.next (.next (.next (.next (.next (.next (.next .last)))))))))))))))))))))

variable {A d I}

/-- `Runs` over these resources. -/
abbrev Rn {α : Type} (A : Args) (d : Dev nD) (I : Ins F) (p : P F α) (S : Sc F) (a : α) (S' : Sc F) : Prop :=
  ∀ (defs : Defs nD τ sig (Elt F) Λ₀) (𝒱 : Variants), Runs defs 𝒱 (d.tc : Thread nD τ) (own A d I) p S a S'

theorem runs_each {β : Type} {f : β → P F PUnit} {step : Sc F → β → Sc F} (l : List β)
    (h : ∀ b ∈ l, ∀ S, Rn A d I (f b) S ⟨⟩ (step S b)) (S : Sc F) : Rn A d I (each f l) S ⟨⟩ (l.foldl step S) := by
  intro defs 𝒱
  induction l generalizing S with
  | nil => exact runs_ret _ _
  | cons b l ih =>
    exact runs_bind (h b (List.mem_cons_self ..) S defs 𝒱) (ih (fun b hb => h b (List.mem_cons_of_mem _ hb)) _)

theorem runs_fold {β σ : Type} {f : β → σ → P F σ} {step : σ × Sc F → β → σ × Sc F} (l : List β)
    (h : ∀ b s S, Rn A d I (f b s) S (step (s, S) b).1 (step (s, S) b).2) (s : σ) (S : Sc F) :
    Rn A d I (fold f l s) S (l.foldl step (s, S)).1 (l.foldl step (s, S)).2 := by
  intro defs 𝒱
  induction l generalizing s S with
  | nil => exact runs_ret _ _
  | cons b l ih => exact runs_bind (h b s S defs 𝒱) (ih _ _)

/-! ## Clearing -/

/-- The contents after bin `j` is cleared. -/
def clearBinS (S : Sc F) (j : Fin 10) : Sc F :=
  { S with c := put S.c (w10 j) (fun _ => z0), s := put S.s (w10 j) (fun _ => z0) }

theorem runs_clearBin (j : Fin 10) (S : Sc F) : Rn A d I (clearBin A j) S ⟨⟩ (clearBinS S j) := by
  intro defs 𝒱
  unfold clearBin
  refine runs_bind (runs_sload (has19 A d I S _) _ _ _) ?_
  refine runs_bind (runs_store (has19 A d I S _) _ _) ?_
  refine runs_bind (runs_sload (has20 A d I _ _) _ _ _) ?_
  exact runs_store (has20 A d I _ _) _ _

/-- The contents with word `r` of the four carried words cleared, -/
def clearWordS (S : Sc F) (r : Rect S4) : Sc F := { S with a := put S.a r (fun _ => z0) }

/-- with the counters of the bins by column cleared, -/
def clearCountsS (S : Sc F) : Sc F := { S with rc := put S.rc all16 (k0_pay39 (F := F)) }

/-- with the sums of the bins by column cleared, -/
def clearSumsS (S : Sc F) : Sc F := { S with rb := put S.rb all16 (k0_pay40 (F := F)) }

/-- and with everything carried cleared. -/
def clearS (S : Sc F) : Sc F :=
  clearSumsS (clearCountsS (clearWordS (clearWordS (clearWordS (bins10.foldl clearBinS S) w4_0) w4_1) w4_2))

theorem runs_clear (S : Sc F) : Rn A d I (clear A) S ⟨⟩ (clearS S) := by
  intro defs 𝒱
  unfold clear clearS
  refine runs_bind (runs_each bins10 (fun b _ S => runs_clearBin b S) S defs 𝒱) ?_
  generalize bins10.foldl clearBinS S = S
  refine runs_bind (runs_sload (has21 A d I _ _) _ _ _) ?_
  refine runs_bind (S' := clearWordS S w4_0) (runs_store (has21 A d I _ _) _ _) ?_
  generalize clearWordS S w4_0 = S
  refine runs_bind (runs_sload (has21 A d I _ _) _ _ _) ?_
  refine runs_bind (S' := clearWordS S w4_1) (runs_store (has21 A d I _ _) _ _) ?_
  generalize clearWordS S w4_1 = S
  refine runs_bind (runs_sload (has21 A d I _ _) _ _ _) ?_
  refine runs_bind (S' := clearWordS S w4_2) (runs_store (has21 A d I _ _) _ _) ?_
  generalize clearWordS S w4_2 = S
  refine runs_bind (runs_load (has22 A d I _ _) _ _) ?_
  refine runs_bind (S' := clearCountsS S) (runs_store (has22 A d I _ _) _ _) ?_
  generalize clearCountsS S = S
  refine runs_bind (runs_load (has23 A d I _ _) _ _) ?_
  exact runs_store (has23 A d I _ _) _ _

/-- The contents after the maps are cleared. -/
def clearMapsS (S : Sc F) : Sc F :=
  { S with g := put S.g all17 (k0_pay43 (F := F)), r := put S.r all18 (k0_pay44 (F := F)) }

theorem runs_clearMaps (S : Sc F) : Rn A d I (clearMaps A) S ⟨⟩ (clearMapsS S) := by
  intro defs 𝒱
  unfold clearMaps
  refine runs_bind (runs_load (has17 A d I _ _) _ _) ?_
  refine runs_bind (runs_store (has17 A d I _ _) _ _) ?_
  refine runs_bind (runs_load (has18 A d I _ _) _ _) ?_
  exact runs_store (has18 A d I _ _) _ _

/-! ## One box -/

/-- The word of box `k` of a table. -/
def wd {e : EltTy} (X : S8x32.Idx → Elt F e) (i : grid0.Coords) (k : Fin 32) : Elt F e :=
  X ((wBox i k).emb (Shape.Idx.first (numel1_S1x1.symm ▸ Nat.one_pos)))

/-- The rectangles that box `k` addresses lie within the maps. -/
structure OKBox (i : grid0.Coords) (I : Ins F) (k : Fin 32) : Prop where
  reg : k0_chk3 (wd I.x9 i k)
  ctr : k0_chk2 (wd I.x9 i k) (wd I.x10 i k)
  rows : k0_chk1 (wd I.x10 i k) (wd I.x12 i k)

/-- The heat map with the Gaussian of box `k` drawn into it, -/
def gauss (i : grid0.Coords) (I : Ins F) (k : Fin 32) (h : OKBox i I k) (g : S20x128x128.Idx → Elt F .f32) : S20x128x128.Idx → Elt F .f32 :=
  put g (rG (wd I.x10 i k) (wd I.x12 i k) h.rows)
    (k0_pay46 (k0_pay41 (F := F)) (k0_pay42 (F := F)) (wd I.x1 i k) (wd I.x3 i k) (k0_pay45 (wd I.x2 i k) (wd I.x12 i k))
      fun x => g ((rG (wd I.x10 i k) (wd I.x12 i k) h.rows).emb x))

/-- with a one at its centre, -/
def peak (i : grid0.Coords) (I : Ins F) (k : Fin 32) (h : OKBox i I k) (g : S20x128x128.Idx → Elt F .f32) : S20x128x128.Idx → Elt F .f32 :=
  put g (rC (wd I.x9 i k) (wd I.x10 i k) h.ctr)
    (k0_pay48 lane (wd I.x8 i k) fun x => g ((rC (wd I.x9 i k) (wd I.x10 i k) h.ctr).emb x))

/-- and the four regression maps with its offsets and sizes at the centre. -/
def reg0 (i : grid0.Coords) (I : Ins F) (k : Fin 32) (h : OKBox i I k) (r : S4x128x128.Idx → Elt F .f32) : S4x128x128.Idx → Elt F .f32 :=
  put r (rR0 (wd I.x9 i k) h.reg)
    (k0_pay51 (k0_pay50 lane (wd I.x8 i k) (wd I.x11 i k) (fun x => r ((rR0 (wd I.x9 i k) h.reg).emb x)) (wd I.x4 i k)))

@[inherit_doc reg0]
def reg1 (i : grid0.Coords) (I : Ins F) (k : Fin 32) (h : OKBox i I k) (r : S4x128x128.Idx → Elt F .f32) : S4x128x128.Idx → Elt F .f32 :=
  put r (rR1 (wd I.x9 i k) h.reg)
    (k0_pay52 (k0_pay49 lane (wd I.x8 i k) (wd I.x11 i k)) (fun x => r ((rR1 (wd I.x9 i k) h.reg).emb x)) (wd I.x5 i k))

@[inherit_doc reg0]
def reg2 (i : grid0.Coords) (I : Ins F) (k : Fin 32) (h : OKBox i I k) (r : S4x128x128.Idx → Elt F .f32) : S4x128x128.Idx → Elt F .f32 :=
  put r (rR2 (wd I.x9 i k) h.reg)
    (k0_pay53 (k0_pay49 lane (wd I.x8 i k) (wd I.x11 i k)) (fun x => r ((rR2 (wd I.x9 i k) h.reg).emb x)) (wd I.x6 i k))

@[inherit_doc reg0]
def reg3 (i : grid0.Coords) (I : Ins F) (k : Fin 32) (h : OKBox i I k) (r : S4x128x128.Idx → Elt F .f32) : S4x128x128.Idx → Elt F .f32 :=
  put r (rR3 (wd I.x9 i k) h.reg)
    (k0_pay54 (k0_pay49 lane (wd I.x8 i k) (wd I.x11 i k)) (fun x => r ((rR3 (wd I.x9 i k) h.reg).emb x)) (wd I.x7 i k))

/-- The contents after each of these is stored, -/
def gaussS (i : grid0.Coords) (I : Ins F) (k : Fin 32) (h : OKBox i I k) (S : Sc F) : Sc F := { S with g := gauss i I k h S.g }

@[inherit_doc gaussS]
def peakS (i : grid0.Coords) (I : Ins F) (k : Fin 32) (h : OKBox i I k) (S : Sc F) : Sc F := { S with g := peak i I k h S.g }

@[inherit_doc gaussS]
def reg0S (i : grid0.Coords) (I : Ins F) (k : Fin 32) (h : OKBox i I k) (S : Sc F) : Sc F := { S with r := reg0 i I k h S.r }

@[inherit_doc gaussS]
def reg1S (i : grid0.Coords) (I : Ins F) (k : Fin 32) (h : OKBox i I k) (S : Sc F) : Sc F := { S with r := reg1 i I k h S.r }

@[inherit_doc gaussS]
def reg2S (i : grid0.Coords) (I : Ins F) (k : Fin 32) (h : OKBox i I k) (S : Sc F) : Sc F := { S with r := reg2 i I k h S.r }

@[inherit_doc gaussS]
def reg3S (i : grid0.Coords) (I : Ins F) (k : Fin 32) (h : OKBox i I k) (S : Sc F) : Sc F := { S with r := reg3 i I k h S.r }

/-- and after box `k` is drawn. -/
def boxS (i : grid0.Coords) (I : Ins F) (h : ∀ k, OKBox i I k) (S : Sc F) (k : Fin 32) : Sc F :=
  reg3S i I k (h k) (reg2S i I k (h k) (reg1S i I k (h k) (reg0S i I k (h k) (peakS i I k (h k) (gaussS i I k (h k) S)))))

theorem runs_oneBox (i : grid0.Coords) (h : ∀ k, OKBox i I k) (k : Fin 32) (S : Sc F) :
    Rn A d I (oneBox i A k) S ⟨⟩ (boxS i I h S k) := by
  intro defs 𝒱
  unfold oneBox boxS
  generalize h k = hk
  refine runs_bind (runs_sload (has1 A d I S) _ _ _) ?_
  refine runs_bind (runs_sload (has2 A d I S) _ _ _) ?_
  refine runs_bind (runs_sload (has3 A d I S) _ _ _) ?_
  refine runs_bind (runs_sload (has8 A d I S) _ _ _) ?_
  refine runs_bind (runs_sload (has9 A d I S) _ _ _) ?_
  refine runs_bind (runs_assume hk.reg _) ?_
  refine runs_bind (runs_sload (has10 A d I S) _ _ _) ?_
  refine runs_bind (runs_assume hk.ctr _) ?_
  refine runs_bind (runs_sload (has11 A d I S) _ _ _) ?_
  refine runs_bind (runs_sload (has12 A d I S) _ _ _) ?_
  refine runs_bind (runs_assume hk.rows _) ?_
  refine runs_bind (runs_load (has17 A d I _ _) _ _) ?_
  refine runs_bind (runs_load (has17 A d I _ _) _ _) ?_
  refine runs_bind (S' := gaussS i I k hk S) (runs_store (has17 A d I _ _) _ _) ?_
  generalize gaussS i I k hk S = S
  refine runs_bind (runs_load (has17 A d I _ _) _ _) ?_
  refine runs_bind (runs_load (has17 A d I _ _) _ _) ?_
  refine runs_bind (S' := peakS i I k hk S) (runs_store (has17 A d I _ _) _ _) ?_
  generalize peakS i I k hk S = S
  refine runs_bind (runs_load (has18 A d I _ _) _ _) ?_
  refine runs_bind (runs_sload (has4 A d I _) _ _ _) ?_
  refine runs_bind (runs_load (has18 A d I _ _) _ _) ?_
  refine runs_bind (S' := reg0S i I k hk S) (runs_store (has18 A d I _ _) _ _) ?_
  generalize reg0S i I k hk S = S
  refine runs_bind (runs_load (has18 A d I _ _) _ _) ?_
  refine runs_bind (runs_sload (has5 A d I _) _ _ _) ?_
  refine runs_bind (runs_load (has18 A d I _ _) _ _) ?_
  refine runs_bind (S' := reg1S i I k hk S) (runs_store (has18 A d I _ _) _ _) ?_
  generalize reg1S i I k hk S = S
  refine runs_bind (runs_load (has18 A d I _ _) _ _) ?_
  refine runs_bind (runs_sload (has6 A d I _) _ _ _) ?_
  refine runs_bind (runs_load (has18 A d I _ _) _ _) ?_
  refine runs_bind (S' := reg2S i I k hk S) (runs_store (has18 A d I _ _) _ _) ?_
  generalize reg2S i I k hk S = S
  refine runs_bind (runs_load (has18 A d I _ _) _ _) ?_
  refine runs_bind (runs_sload (has7 A d I _) _ _ _) ?_
  refine runs_bind (runs_load (has18 A d I _ _) _ _) ?_
  exact runs_store (has18 A d I _ _) _ _

/-! ## The errors and the bins -/

/-- The word of four that a rectangle of one word reads. -/
def wd4 (X : S4.Idx → Elt F .f32) (r : Rect S4) (h : r.shape.numel = 1) : Elt F .f32 :=
  X (r.emb (Shape.Idx.first (h.symm ▸ Nat.one_pos)))

/-- The words carried after the peaks and errors of an image with heat map `G` are added. -/
def errorsG (I : Ins F) (S : Sc F) (G : Vec F S20x128x128 .f32) : Sc F :=
  let a0 := put S.a w4_0 (fun _ => k0_pay347 G (wd4 S.a w4_0 numel1_S1))
  let a1 := put a0 w4_1 (fun _ => k0_pay351 (k0_pay349 (k0_pay346 G) (k0_pay348 G (fun x => I.x15 (m2_0.emb x)) (fun x => S.r (m18_0.emb x)))
    (fun x => I.x15 (m2_1.emb x)) (fun x => S.r (m18_1.emb x))) (wd4 a0 w4_1 numel1_S1))
  let a2 := put a1 w4_2 (fun _ => k0_pay352 (k0_pay350 (k0_pay346 G) (fun x => I.x14 (m2_0.emb x)) (fun x => S.r (m18_2.emb x))
    (fun x => I.x14 (m2_1.emb x)) (fun x => S.r (m18_3.emb x))) (wd4 a1 w4_2 numel1_S1))
  { S with a := a2 }

/-- The same for the heat map held. -/
def errorsS (I : Ins F) (S : Sc F) : Sc F := errorsG I S fun x => S.g (all17.emb x)

theorem runs_errors (S : Sc F) : Rn A d I (errors A) S (fun x => S.g (all17.emb x)) (errorsS I S) := by
  intro defs 𝒱
  unfold errors errorsS errorsG
  refine runs_bind (runs_load (has17 A d I _ _) _ _) ?_
  refine runs_bind (runs_sload (has21 A d I _ _) _ _ _) ?_
  refine runs_bind (runs_sload (has21 A d I _ _) _ _ _) ?_
  refine runs_bind (runs_store (has21 A d I _ _) _ _) ?_
  refine runs_bind (runs_load (has15 A d I _) _ _) ?_
  refine runs_bind (runs_load (has18 A d I _ _) _ _) ?_
  refine runs_bind (runs_load (has15 A d I _) _ _) ?_
  refine runs_bind (runs_load (has18 A d I _ _) _ _) ?_
  refine runs_bind (runs_load (has14 A d I _) _ _) ?_
  refine runs_bind (runs_load (has18 A d I _ _) _ _) ?_
  refine runs_bind (runs_load (has14 A d I _) _ _) ?_
  refine runs_bind (runs_load (has18 A d I _ _) _ _) ?_
  refine runs_bind (runs_sload (has21 A d I _ _) _ _ _) ?_
  refine runs_bind (runs_sload (has21 A d I _ _) _ _ _) ?_
  refine runs_bind (runs_store (has21 A d I _ _) _ _) ?_
  refine runs_bind (runs_sload (has21 A d I _ _) _ _ _) ?_
  refine runs_bind (runs_sload (has21 A d I _ _) _ _ _) ?_
  refine runs_bind (runs_store (has21 A d I _ _) _ _) ?_
  exact runs_ret _ _

/-- The counters after bin `j` of this image. -/
def oneBinS (bce : FVec F S2560x128 .bf16) (idx : IVec S2560x128 32) (ones : FVec F S1x2560 .bf16) (S : Sc F) (j : Fin 9) : Sc F :=
  { S with
    rc := put S.rc (r16 j.castSucc) (addCols ones (inBin idx j.val) fun x => S.rc ((r16 j.castSucc).emb x))
    rb := put S.rb (r16 j.castSucc) (addCols ones (mulf (inBin idx j.val) bce) fun x => S.rb ((r16 j.castSucc).emb x)) }

theorem runs_oneBin (bce : FVec F S2560x128 .bf16) (idx : IVec S2560x128 32) (ones : FVec F S1x2560 .bf16) (j : Fin 9) (S : Sc F) :
    Rn A d I (oneBin A bce idx ones j) S ⟨⟩ (oneBinS bce idx ones S j) := by
  intro defs 𝒱
  unfold oneBin
  refine runs_bind (runs_load (has22 A d I _ _) _ _) ?_
  refine runs_bind (runs_load (has22 A d I _ _) _ _) ?_
  refine runs_bind (runs_store (has22 A d I _ _) _ _) ?_
  refine runs_bind (runs_load (has23 A d I _ _) _ _) ?_
  refine runs_bind (runs_load (has23 A d I _ _) _ _) ?_
  exact runs_store (has23 A d I _ _) _ _

/-- The counters after this image. -/
def sortBinsS (I : Ins F) (G : Vec F S20x128x128 .f32) (S : Sc F) : Sc F :=
  let p : Vec F S1x20x128x128 .f32 := fun x => I.x13 (all13.emb x)
  let S := bins9.foldl (oneBinS (k0_pay354 G p) (k0_pay355 G p) (k0_pay356 (F := F))) S
  { S with rb := put S.rb (r16 9) (addCols (k0_pay356 (F := F)) (k0_pay354 G p) fun x => S.rb ((r16 9).emb x)) }

theorem runs_sortBins (G : Vec F S20x128x128 .f32) (S : Sc F) : Rn A d I (sortBins A G) S ⟨⟩ (sortBinsS I G S) := by
  intro defs 𝒱
  unfold sortBins
  refine runs_bind (runs_load (has13 A d I _) _ _) ?_
  refine runs_bind (runs_each bins9 (fun b _ S => runs_oneBin _ _ _ b S) S defs 𝒱) ?_
  refine runs_bind (runs_load (has23 A d I _ _) _ _) ?_
  refine runs_bind (runs_load (has23 A d I _ _) _ _) ?_
  exact runs_store (has23 A d I _ _) _ _

/-! ## The last point -/

/-- The word of ten of bin `j`. -/
def wd10 (X : S10.Idx → Elt F .f32) (j : Fin 10) : Elt F .f32 := X ((w10 j).emb (Shape.Idx.first (numel1_S1.symm ▸ Nat.one_pos)))

/-- The running totals, and the bins' words, after bin `j`. -/
def totalBinS (p : (F .f32 × F .f32) × Sc F) (j : Fin 9) : (F .f32 × F .f32) × Sc F :=
  let n : F .f32 := k0_pay2 fun x => p.2.rc ((r16 j.castSucc).emb x)
  let b : F .f32 := k0_pay2 fun x => p.2.rb ((r16 j.castSucc).emb x)
  ((Scalar.addf p.1.1 n, Scalar.addf p.1.2 b),
    { p.2 with c := put p.2.c (w10 j.castSucc) (fun _ => n), s := put p.2.s (w10 j.castSucc) (fun _ => b) })

theorem runs_totalBin (j : Fin 9) (s : F .f32 × F .f32) (S : Sc F) :
    Rn A d I (totalBin A j s) S (totalBinS (s, S) j).1 (totalBinS (s, S) j).2 := by
  intro defs 𝒱
  unfold totalBin
  refine runs_bind (runs_load (has22 A d I _ _) _ _) ?_
  refine runs_bind (runs_load (has23 A d I _ _) _ _) ?_
  refine runs_bind (runs_sload (has19 A d I _ _) _ _ _) ?_
  refine runs_bind (runs_store (has19 A d I _ _) _ _) ?_
  refine runs_bind (runs_sload (has20 A d I _ _) _ _ _) ?_
  refine runs_bind (runs_store (has20 A d I _ _) _ _) ?_
  exact runs_ret _ _

/-- The bins' words, all of them. -/
def totalBinsS (S : Sc F) : Sc F :=
  let p := bins9.foldl totalBinS ((z0, z0), S)
  { p.2 with
    c := put p.2.c (w10 9) (fun _ => Scalar.subf (Scalar.ofBits .f32 0x4A200000#32) p.1.1)
    s := put p.2.s (w10 9) (fun _ => Scalar.subf (k0_pay2 fun x => p.2.rb ((r16 9).emb x)) p.1.2) }

theorem runs_totalBins (S : Sc F) : Rn A d I (totalBins A) S ⟨⟩ (totalBinsS S) := by
  intro defs 𝒱
  unfold totalBins
  refine runs_bind (runs_fold bins9 (fun b s S => runs_totalBin b s S) _ S defs 𝒱) ?_
  refine runs_bind (runs_sload (has19 A d I _ _) _ _ _) ?_
  refine runs_bind (runs_store (has19 A d I _ _) _ _) ?_
  refine runs_bind (runs_load (has23 A d I _ _) _ _) ?_
  refine runs_bind (runs_sload (has20 A d I _ _) _ _ _) ?_
  exact runs_store (has20 A d I _ _) _ _

/-- The number of bins in use and the weighted sum, after bin `j`. -/
def weighBinV (c s : S10.Idx → Elt F .f32) (p : F .f32 × F .f32) (j : Fin 10) : F .f32 × F .f32 :=
  (Scalar.addf p.1 (Scalar.select (Scalar.cmpf .ogt (wd10 c j) z0) (Scalar.ofBits .f32 0x3F800000#32) z0),
    Scalar.addf p.2 (Scalar.mulf (weight (wd10 c j)) (wd10 s j)))

theorem runs_weigh (l : List (Fin 10)) (p : F .f32 × F .f32) (S : Sc F) :
    Rn A d I (fold (weighBin A) l p) S (l.foldl (weighBinV S.c S.s) p) S := by
  intro defs 𝒱
  induction l generalizing p with
  | nil => exact runs_ret _ _
  | cons b l ih =>
    refine runs_bind (S' := S) (a := weighBinV S.c S.s p b) ?_ (ih _)
    unfold weighBin
    refine runs_bind (runs_sload (has19 A d I _ _) _ _ _) ?_
    refine runs_bind (runs_sload (has20 A d I _ _) _ _ _) ?_
    exact runs_ret _ _

/-- The loss, from everything carried. -/
def lossV (S : Sc F) : F .f32 :=
  let p := bins10.foldl (weighBinV S.c S.s) (z0, z0)
  k0_pay1 (Scalar.divf p.2 (Scalar.maximumf p.1 (Scalar.ofBits .f32 0x3F800000#32))) (Scalar.ofBits .f32 0x4A200000#32)
    (wd4 S.a w4_0 numel1_S1) (wd4 S.a w4_1 numel1_S1) (wd4 S.a w4_2 numel1_S1)

/-- The contents at the end. -/
def finishS (S : Sc F) : Sc F :=
  let S := totalBinsS S
  { S with o := put S.o w1 (fun _ => lossV S) }

theorem runs_finish (S : Sc F) : Rn A d I (finish A) S ⟨⟩ (finishS S) := by
  intro defs 𝒱
  unfold finish
  refine runs_bind (runs_totalBins S defs 𝒱) ?_
  refine runs_bind (runs_weigh bins10 _ _ defs 𝒱) ?_
  refine runs_bind (runs_sload (has21 A d I _ _) _ _ _) ?_
  refine runs_bind (runs_sload (has21 A d I _ _) _ _ _) ?_
  refine runs_bind (runs_sload (has21 A d I _ _) _ _ _) ?_
  refine runs_bind (runs_sload (has16 A d I _ _) _ _ _) ?_
  refine runs_bind (runs_store (has16 A d I _ _) _ _) ?_
  exact runs_ret _ _

/-! ## One point -/

/-- The contents after the maps of a point's image are drawn, -/
def drawS (i : grid0.Coords) (I : Ins F) (h : ∀ k, OKBox i I k) (S : Sc F) : Sc F := boxes.foldl (boxS i I h) (clearMapsS S)

/-- after what is carried is brought up to date, -/
def pointS (i : grid0.Coords) (I : Ins F) (h : ∀ k, OKBox i I k) (S : Sc F) : Sc F :=
  let S := drawS i I h (if first i = 1#1 then clearS S else S)
  sortBinsS I (fun x => S.g (all17.emb x)) (errorsS I S)

/-- and after the point. -/
def bodyS (i : grid0.Coords) (I : Ins F) (h : ∀ k, OKBox i I k) (S : Sc F) : Sc F :=
  if k0_cond2 i = 1#1 then finishS (pointS i I h S) else pointS i I h S

theorem runs_start (i : grid0.Coords) (S : Sc F) : Rn A d I (start i A) S ⟨⟩ (if first i = 1#1 then clearS S else S) := by
  intro defs 𝒱
  unfold start
  split
  · exact runs_clear S defs 𝒱
  · exact runs_ret _ _

theorem runs_stop (i : grid0.Coords) (S : Sc F) : Rn A d I (stop i A) S ⟨⟩ (if k0_cond2 i = 1#1 then finishS S else S) := by
  intro defs 𝒱
  unfold stop
  split
  · exact runs_finish S defs 𝒱
  · exact runs_ret _ _

/-- A point runs from any contents, once its boxes lie within the maps, to the contents above. -/
theorem runs_body (i : grid0.Coords) (h : ∀ k, OKBox i I k) (S : Sc F) : Rn A d I (body i A) S ⟨⟩ (bodyS i I h S) := by
  intro defs 𝒱
  unfold body
  refine runs_bind (runs_start i S defs 𝒱) ?_
  refine runs_bind (runs_clearMaps _ defs 𝒱) ?_
  refine runs_bind (runs_each boxes (fun b _ S => runs_oneBox i h b S) _ defs 𝒱) ?_
  refine runs_bind (runs_errors _ defs 𝒱) ?_
  refine runs_bind (runs_sortBins _ _ defs 𝒱) ?_
  exact runs_stop i _ defs 𝒱

end Cert.KernelIdeal.Body

end
-- ==== Proof.PI.State.lean ====
/-
  What one grid point carries to the next, and what the last point leaves in the result, as functions of the points'
  inputs alone.
-/
module

public import proofs.«01_k».proof.Proof.PI.Run

@[expose] public section

set_option maxRecDepth 16384

noncomputable section

namespace Cert.KernelIdeal.Body

open Idealize.ShloMosaic Idealize.ShloMosaic.TcCoe
open Cert.KernelIdeal.Gen Cert.Runs

variable {F : FTy → Type} [FloatOps F]

/-- An overwritten word is unchanged where a coordinate tells it from the rectangle. -/
theorem put_off_coord {s : Shape} {V : Type} (X : s.Idx → V) (r : Rect s) (w : r.shape.Idx → V) (y : s.Idx) (a : Fin s.rank)
    (h : ∀ x, (r.emb x a).val ≠ (y a).val) : put X r w y = X y :=
  put_off X r w y fun ⟨x, hx⟩ => h x (by rw [hx])

/-- Contents overwritten whole are the new contents. -/
theorem put_all {s : Shape} {V : Type} (X : s.Idx → V) (off : Fin s.rank → Nat) (inb) (w : s.Idx → V) (h0 : ∀ a, off a = 0) :
    put X (Rect.unit (s := s) off s.size inb) w = w := by
  funext y
  have e : (Rect.unit (s := s) off s.size inb).emb y = y := by
    funext a
    apply Fin.ext
    show off a + 1 * (y a).val = (y a).val
    rw [h0 a]; omega
  conv_lhs => rw [← e]
  exact put_emb X (Rect.unit (s := s) off s.size inb) w y

theorem emb_all {s : Shape} (off : Fin s.rank → Nat) (inb) (y : s.Idx) (h0 : ∀ a, off a = 0) :
    (Rect.unit (s := s) off s.size inb).emb y = y := by
  funext a
  apply Fin.ext
  show off a + 1 * (y a).val = (y a).val
  rw [h0 a]; omega

theorem zero3 : ∀ a : Fin 3, (![0, 0, 0] : Fin 3 → Nat) a = 0 := by decide

theorem zero2 : ∀ a : Fin 2, (![0, 0] : Fin 2 → Nat) a = 0 := by decide

/-! ## What is carried -/

/-- The number of peaks so far, the two errors so far, and the bins' counters and sums by column. -/
@[ext]
structure Car (F : FTy → Type) where
  n : F .f32
  x : F .f32
  w : F .f32
  rc : S16x128.Idx → F .f32
  rb : S16x128.Idx → F .f32

/-- What `S` carries. -/
def car (S : Sc F) : Car F := ⟨wd4 S.a w4_0 numel1_S1, wd4 S.a w4_1 numel1_S1, wd4 S.a w4_2 numel1_S1, S.rc, S.rb⟩

/-- What is carried at the start. -/
def car0 : Car F := ⟨z0, z0, z0, k0_pay39 (F := F), k0_pay40 (F := F)⟩

theorem wd4_same (X : S4.Idx → F .f32) (r : Rect S4) (h : r.shape.numel = 1) (v : F .f32) :
    wd4 (put X r (fun _ => v)) r h = v := put_emb X r (fun _ => v) _

theorem wd4_ne (X : S4.Idx → F .f32) (r q : Rect S4) (hq : q.shape.numel = 1) (v : r.shape.Idx → F .f32)
    (hne : ∀ x y, (r.emb x 0).val ≠ (q.emb y 0).val) : wd4 (put X r v) q hq = wd4 X q hq :=
  put_off_coord X r v _ 0 fun x => hne x _

theorem word_val (k : Nat) (h : ∀ a, (![k] : Fin 1 → Nat) a + S1.size a ≤ S4.size a) (x : S1.Idx) :
    ((Rect.unit (s := S4) ![k] S1.size h).emb x 0).val = k := by
  have hx : (x 0).val < 1 := (x 0).isLt
  show k + 1 * (x 0).val = k
  omega

theorem ne01 : ∀ x y, ((w4_0).emb x 0).val ≠ ((w4_1).emb y 0).val := fun x y => by rw [word_val 0, word_val 1]; decide
theorem ne02 : ∀ x y, ((w4_0).emb x 0).val ≠ ((w4_2).emb y 0).val := fun x y => by rw [word_val 0, word_val 2]; decide
theorem ne10 : ∀ x y, ((w4_1).emb x 0).val ≠ ((w4_0).emb y 0).val := fun x y => by rw [word_val 1, word_val 0]; decide
theorem ne12 : ∀ x y, ((w4_1).emb x 0).val ≠ ((w4_2).emb y 0).val := fun x y => by rw [word_val 1, word_val 2]; decide
theorem ne20 : ∀ x y, ((w4_2).emb x 0).val ≠ ((w4_0).emb y 0).val := fun x y => by rw [word_val 2, word_val 0]; decide
theorem ne21 : ∀ x y, ((w4_2).emb x 0).val ≠ ((w4_1).emb y 0).val := fun x y => by rw [word_val 2, word_val 1]; decide

theorem car_clearS (S : Sc F) : car (clearS S) = car0 := by
  unfold clearS
  generalize bins10.foldl clearBinS S = S
  refine Car.ext ?_ ?_ ?_ ?_ ?_
  · show wd4 (put (put (put S.a w4_0 (fun _ => z0)) w4_1 (fun _ => z0)) w4_2 (fun _ => z0)) w4_0 numel1_S1 = z0
    rw [wd4_ne _ _ _ _ _ ne20, wd4_ne _ _ _ _ _ ne10, wd4_same]
  · show wd4 (put (put (put S.a w4_0 (fun _ => z0)) w4_1 (fun _ => z0)) w4_2 (fun _ => z0)) w4_1 numel1_S1 = z0
    rw [wd4_ne _ _ _ _ _ ne21, wd4_same]
  · show wd4 (put (put (put S.a w4_0 (fun _ => z0)) w4_1 (fun _ => z0)) w4_2 (fun _ => z0)) w4_2 numel1_S1 = z0
    rw [wd4_same]
  · exact put_all _ _ _ _ zero2
  · exact put_all _ _ _ _ zero2

/-! ## The maps of one point -/

/-- The two maps after box `k`, from those before it. -/
def boxM (i : grid0.Coords) (I : Ins F) (h : ∀ k, OKBox i I k) (p : (S20x128x128.Idx → F .f32) × (S4x128x128.Idx → F .f32)) (k : Fin 32) :
    (S20x128x128.Idx → F .f32) × (S4x128x128.Idx → F .f32) :=
  (peak i I k (h k) (gauss i I k (h k) p.1), reg3 i I k (h k) (reg2 i I k (h k) (reg1 i I k (h k) (reg0 i I k (h k) p.2))))

/-- The heat map and the regression maps of a point's image. -/
def maps (i : grid0.Coords) (I : Ins F) (h : ∀ k, OKBox i I k) : (S20x128x128.Idx → F .f32) × (S4x128x128.Idx → F .f32) :=
  boxes.foldl (boxM i I h) (k0_pay43 (F := F), k0_pay44 (F := F))

attribute [local irreducible] gauss peak reg0 reg1 reg2 reg3 addCols inBin put

theorem boxS_eq (i : grid0.Coords) (I : Ins F) (h : ∀ k, OKBox i I k) (S : Sc F) (k : Fin 32) :
    boxS i I h S k = { S with g := (boxM i I h (S.g, S.r) k).1, r := (boxM i I h (S.g, S.r) k).2 } := rfl

theorem fold_boxS (i : grid0.Coords) (I : Ins F) (h : ∀ k, OKBox i I k) (l : List (Fin 32)) (S : Sc F) :
    l.foldl (boxS i I h) S = { S with g := (l.foldl (boxM i I h) (S.g, S.r)).1, r := (l.foldl (boxM i I h) (S.g, S.r)).2 } := by
  induction l generalizing S with
  | nil => rfl
  | cons k l ih => rw [List.foldl_cons, ih, boxS_eq]; rfl

theorem drawS_eq (i : grid0.Coords) (I : Ins F) (h : ∀ k, OKBox i I k) (S : Sc F) :
    drawS i I h S = { S with g := (maps i I h).1, r := (maps i I h).2 } := by
  unfold drawS maps
  rw [fold_boxS]
  have e1 : (clearMapsS S).g = k0_pay43 (F := F) := put_all _ _ _ _ zero3
  have e2 : (clearMapsS S).r = k0_pay44 (F := F) := put_all _ _ _ _ zero3
  rw [e1, e2]
  rfl

/-! ## What one point adds -/

/-- The counters by column after this image. -/
def binsC (I : Ins F) (G : Vec F S20x128x128 .f32) (rc : S16x128.Idx → F .f32) : S16x128.Idx → F .f32 :=
  bins9.foldl (fun X j => put X (r16 j.castSucc) (addCols (k0_pay356 (F := F)) (inBin (k0_pay355 G (fun x => I.x13 (all13.emb x))) j.val)
    fun x => X ((r16 j.castSucc).emb x))) rc

/-- The sums by column after this image. -/
def binsB (I : Ins F) (G : Vec F S20x128x128 .f32) (rb : S16x128.Idx → F .f32) : S16x128.Idx → F .f32 :=
  let p : Vec F S1x20x128x128 .f32 := fun x => I.x13 (all13.emb x)
  let X := bins9.foldl (fun X j => put X (r16 j.castSucc) (addCols (k0_pay356 (F := F)) (mulf (inBin (k0_pay355 G p) j.val) (k0_pay354 G p))
    fun x => X ((r16 j.castSucc).emb x))) rb
  put X (r16 9) (addCols (k0_pay356 (F := F)) (k0_pay354 G p) fun x => X ((r16 9).emb x))

/-- What is carried after a point with maps `G` and `R`. -/
def addC (I : Ins F) (G : S20x128x128.Idx → F .f32) (R : S4x128x128.Idx → F .f32) (C : Car F) : Car F where
  n := k0_pay347 G C.n
  x := k0_pay351 (k0_pay349 (k0_pay346 G) (k0_pay348 G (fun x => I.x15 (m2_0.emb x)) (fun x => R (m18_0.emb x)))
    (fun x => I.x15 (m2_1.emb x)) (fun x => R (m18_1.emb x))) C.x
  w := k0_pay352 (k0_pay350 (k0_pay346 G) (fun x => I.x14 (m2_0.emb x)) (fun x => R (m18_2.emb x))
    (fun x => I.x14 (m2_1.emb x)) (fun x => R (m18_3.emb x))) C.w
  rc := binsC I G C.rc
  rb := binsB I G C.rb

/-- What is carried after a point. -/
def stepC (i : grid0.Coords) (I : Ins F) (h : ∀ k, OKBox i I k) (C : Car F) : Car F := addC I (maps i I h).1 (maps i I h).2 C

theorem fold_oneBinS (bce : FVec F S2560x128 .bf16) (idx : IVec S2560x128 32) (ones : FVec F S1x2560 .bf16) (l : List (Fin 9)) (S : Sc F) :
    l.foldl (oneBinS bce idx ones) S = { S with
      rc := l.foldl (fun X j => put X (r16 j.castSucc) (addCols ones (inBin idx j.val) fun x => X ((r16 j.castSucc).emb x))) S.rc
      rb := l.foldl (fun X j => put X (r16 j.castSucc) (addCols ones (mulf (inBin idx j.val) bce) fun x => X ((r16 j.castSucc).emb x))) S.rb } := by
  induction l generalizing S with
  | nil => rfl
  | cons k l ih => rw [List.foldl_cons, ih]; unfold oneBinS; rfl

theorem car_sortBinsS (I : Ins F) (G : Vec F S20x128x128 .f32) (S : Sc F) :
    car (sortBinsS I G S) = { car S with rc := binsC I G S.rc, rb := binsB I G S.rb } := by
  unfold sortBinsS
  dsimp only
  rw [fold_oneBinS]
  rfl

theorem car_errorsG (I : Ins F) (S : Sc F) (G : Vec F S20x128x128 .f32) :
    car (errorsG I S G) = { addC I G S.r (car S) with rc := S.rc, rb := S.rb } := by
  unfold errorsG
  dsimp only
  refine Car.ext ?_ ?_ ?_ rfl rfl
  all_goals
    unfold car addC
    dsimp only
  · rw [wd4_ne _ _ _ _ _ ne20, wd4_ne _ _ _ _ _ ne10, wd4_same]
  · rw [wd4_ne _ _ _ _ _ ne21, wd4_same, wd4_ne _ _ _ _ _ ne01]
  · rw [wd4_same, wd4_ne _ _ _ _ _ ne12, wd4_ne _ _ _ _ _ ne02]

theorem car_add (I : Ins F) (S : Sc F) : car (sortBinsS I (fun x => S.g (all17.emb x)) (errorsS I S)) = addC I S.g S.r (car S) := by
  have e : (fun x => S.g (all17.emb x)) = S.g := funext fun x => congrArg S.g (emb_all _ _ x zero3)
  refine (congrArg (fun G => car (sortBinsS I G (errorsG I S G))) e).trans ?_
  rw [car_sortBinsS, car_errorsG]
  rfl

theorem car_pointS (i : grid0.Coords) (I : Ins F) (h : ∀ k, OKBox i I k) (S : Sc F) :
    car (pointS i I h S) = stepC i I h (if first i = 1#1 then car0 else car S) := by
  have hs : (if first i = 1#1 then car0 else car S) = car (if first i = 1#1 then clearS S else S) := by
    split
    · exact (car_clearS S).symm
    · rfl
  refine (car_add I _).trans ?_
  rw [drawS_eq, hs]
  rfl

/-! ## The last point -/

/-- The sum of a row of counters. -/
def rowSum (X : S16x128.Idx → F .f32) (j : Fin 10) : F .f32 := k0_pay2 fun x => X ((r16 j).emb x)

/-- The sum of the first nine rows. -/
def rest9 (X : S16x128.Idx → F .f32) : F .f32 := bins9.foldl (fun s j => Scalar.addf s (rowSum X j.castSucc)) z0

/-- The ten bins' counts: the last is what the first nine leave of all, -/
def counts (X : S16x128.Idx → F .f32) (k : Fin 10) : F .f32 :=
  if k = 9 then Scalar.subf (Scalar.ofBits .f32 0x4A200000#32) (rest9 X) else rowSum X k

/-- and so are their sums. -/
def sums (X : S16x128.Idx → F .f32) (k : Fin 10) : F .f32 :=
  if k = 9 then Scalar.subf (rowSum X 9) (rest9 X) else rowSum X k

/-- The loss, from what is carried. -/
def lossC (C : Car F) : F .f32 :=
  let p := bins10.foldl (fun p j =>
    (Scalar.addf p.1 (Scalar.select (Scalar.cmpf .ogt (counts C.rc j) z0) (Scalar.ofBits .f32 0x3F800000#32) z0),
      Scalar.addf p.2 (Scalar.mulf (weight (counts C.rc j)) (sums C.rb j)))) ((z0 : F .f32), (z0 : F .f32))
  k0_pay1 (Scalar.divf p.2 (Scalar.maximumf p.1 (Scalar.ofBits .f32 0x3F800000#32))) (Scalar.ofBits .f32 0x4A200000#32) C.n C.x C.w

theorem wd10_put (X : S10.Idx → F .f32) (j k : Fin 10) (v : F .f32) :
    wd10 (put X (w10 j) (fun _ => v)) k = if k = j then v else wd10 X k := by
  split
  · next h => subst h; exact put_emb X (w10 k) (fun _ => v) _
  · next h =>
    refine put_off_coord X (w10 j) _ _ 0 fun x => ?_
    have hx : (x 0).val < 1 := (x 0).isLt
    have hz : ((Shape.Idx.first (s := S1) (numel1_S1.symm ▸ Nat.one_pos)) 0).val < 1 := Fin.isLt _
    have hv : k.val ≠ j.val := fun e => h (Fin.ext e)
    show j.val + 1 * (x 0).val ≠ k.val + 1 * ((Shape.Idx.first (s := S1) (numel1_S1.symm ▸ Nat.one_pos)) 0).val
    omega

theorem fold_totalBinS (l : List (Fin 9)) (p : (F .f32 × F .f32) × Sc F) :
    let q := l.foldl totalBinS p
    q.2.rc = p.2.rc ∧ q.2.rb = p.2.rb ∧ q.2.a = p.2.a ∧ q.2.o = p.2.o
      ∧ q.1.1 = l.foldl (fun s j => Scalar.addf s (rowSum p.2.rc j.castSucc)) p.1.1
      ∧ q.1.2 = l.foldl (fun s j => Scalar.addf s (rowSum p.2.rb j.castSucc)) p.1.2
      ∧ (∀ k, wd10 q.2.c k = if k ∈ l.map Fin.castSucc then rowSum p.2.rc k else wd10 p.2.c k)
      ∧ (∀ k, wd10 q.2.s k = if k ∈ l.map Fin.castSucc then rowSum p.2.rb k else wd10 p.2.s k) := by
  induction l generalizing p with
  | nil => refine ⟨rfl, rfl, rfl, rfl, rfl, rfl, fun k => by simp, fun k => by simp⟩
  | cons j l ih =>
    obtain ⟨h1, h2, h3, h4, h5, h6, h7, h8⟩ := ih (totalBinS p j)
    refine ⟨h1, h2, h3, h4, h5, h6, fun k => ?_, fun k => ?_⟩
    · refine (h7 k).trans ?_
      have e : wd10 (totalBinS p j).2.c k = if k = j.castSucc then rowSum p.2.rc j.castSucc else wd10 p.2.c k := wd10_put _ _ _ _
      have e' : (totalBinS p j).2.rc = p.2.rc := rfl
      rw [e, e', List.map_cons]
      by_cases h : k = j.castSucc
      · subst h; simp
      · simp [h]
    · refine (h8 k).trans ?_
      have e : wd10 (totalBinS p j).2.s k = if k = j.castSucc then rowSum p.2.rb j.castSucc else wd10 p.2.s k := wd10_put _ _ _ _
      have e' : (totalBinS p j).2.rb = p.2.rb := rfl
      rw [e, e', List.map_cons]
      by_cases h : k = j.castSucc
      · subst h; simp
      · simp [h]

theorem mem_bins9 : ∀ k : Fin 10, k ≠ 9 → k ∈ bins9.map Fin.castSucc := by decide

theorem finishS_eq (S : Sc F) : car (finishS S) = car S ∧ (finishS S).o = fun _ => lossC (car S) := by
  obtain ⟨h1, h2, h3, h4, h5, h6, h7, h8⟩ := fold_totalBinS bins9 ((z0, z0), S)
  have hc : ∀ k, wd10 (totalBinsS S).c k = counts S.rc k := fun k => by
    refine (wd10_put _ _ _ _).trans ?_
    unfold counts rest9
    by_cases h : k = 9
    · rw [if_pos h, if_pos h, h5]
    · rw [if_neg h, if_neg h, h7 k, if_pos (mem_bins9 k h)]
  have hs : ∀ k, wd10 (totalBinsS S).s k = sums S.rb k := fun k => by
    refine (wd10_put _ _ _ _).trans ?_
    unfold sums rest9
    by_cases h : k = 9
    · rw [if_pos h, if_pos h, h6, h2]; rfl
    · rw [if_neg h, if_neg h, h8 k, if_pos (mem_bins9 k h)]
  have ha : (totalBinsS S).a = S.a := h3
  have hrc : (totalBinsS S).rc = S.rc := h1
  have hrb : (totalBinsS S).rb = S.rb := h2
  refine ⟨?_, ?_⟩
  · unfold finishS car
    dsimp only
    rw [ha, hrc, hrb]
  · unfold finishS
    dsimp only
    rw [put_all _ _ _ _ zero2]
    funext _
    unfold lossV lossC weighBinV car
    dsimp only
    simp only [hc, hs, ha]

theorem car_bodyS (i : grid0.Coords) (I : Ins F) (h : ∀ k, OKBox i I k) (S : Sc F) :
    car (bodyS i I h S) = stepC i I h (if first i = 1#1 then car0 else car S) := by
  unfold bodyS
  split
  · rw [(finishS_eq _).1, car_pointS]
  · exact car_pointS i I h S

theorem out_bodyS (i : grid0.Coords) (I : Ins F) (h : ∀ k, OKBox i I k) (S : Sc F) (hc : k0_cond2 i = 1#1) :
    (bodyS i I h S).o = fun _ => lossC (car (bodyS i I h S)) := by
  unfold bodyS
  rw [if_pos hc, (finishS_eq _).2, (finishS_eq _).1]

theorem out_bodyS_ne (i : grid0.Coords) (I : Ins F) (h : ∀ k, OKBox i I k) (S : Sc F) (hc : ¬ k0_cond2 i = 1#1) :
    (bodyS i I h S).o = S.o := by
  unfold bodyS
  rw [if_neg hc]
  unfold pointS
  dsimp only
  rw [drawS_eq]
  unfold sortBinsS
  dsimp only
  rw [fold_oneBinS]
  have hf : ∀ (l : List (Fin 10)) (S : Sc F), (l.foldl clearBinS S).o = S.o := fun l => by
    induction l with
    | nil => exact fun _ => rfl
    | cons k l ih => exact fun S => (ih _).trans rfl
  have hc' : (if first i = 1#1 then clearS S else S).o = S.o := by
    split
    · exact hf bins10 S
    · rfl
  exact hc'

end Cert.KernelIdeal.Body

end
-- ==== Proof.PI.BodyEq.lean ====
/-
  The printed body is the body of `Body.lean`: both are trees of the same effects, compared effect by effect.
-/
module

public import proofs.«01_k».proof.Proof.PI.Body

@[expose] public section

noncomputable section

namespace Cert.KernelIdeal.Body

open Idealize.ShloMosaic Idealize.ShloMosaic.TcCoe Idealize.SL.Sem
open Cert.KernelIdeal.Gen

variable {F : FTy → Type} [FloatOps F]

/-- Two programs that begin with the same effect are the same once they go on alike. -/
theorem op_congr.{v} {E : Type → Type v} {α β : Type} {e : E β} {k k' : β → Prog E α} (h : ∀ x, k x = k' x) :
    Prog.op e k = Prog.op e k' := congrArg _ (funext h)

set_option maxHeartbeats 40000000 in
set_option maxRecDepth 1000000 in
theorem body_eq (i : grid0.Coords) (A : Args) :
    cc0__loss_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 = body i A := by
  rw [cc0__loss_body_eq_skeleton]
  unfold cc0__loss_body_skel
  rw [k0_part94_eq_skeleton]
  unfold k0_part94_skel
  rw [head_eq]
  rw [Prog.bind_assoc, Prog.bind_assoc]
  unfold body
  refine congrArg (fun k => start i A >>= k) (funext fun _ => ?_)
  repeat (refine op_congr fun _ => ?_)
  dsimp only [Prog.bind]
  clear * - i A
  unfold stop
  by_cases hc : k0_cond2 i = 1#1
  · rw [dif_pos hc, dif_pos hc]
    repeat (refine op_congr fun _ => ?_)
    rfl
  · rw [dif_neg hc, dif_neg hc]
    rfl

end Cert.KernelIdeal.Body

end
-- ==== Proof.PI.Launch.lean ====
/-
  The launch of the kernel: what each grid point finds and leaves, and the run of the whole program.
-/
module

public import proofs.«01_k».proof.Proof.PI.State
public import proofs.«01_k».proof.Proof.PI.BodyEq
public import proofs.«01_k».proof.Proof.Gen.KernelIdeal.Frame
public import proofs.«01_k».proof.Proof.Gen.KernelIdeal.Points
public import Idealize.ShloMosaic.Lib.Tactic

@[expose] public section

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen Cert.KernelIdeal.Body Cert.Runs

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- The references of point `t`. -/
def argsAt (t : Fin cfg0.N) : Args where
  a1 := stage0_0 (cfg0.slots t 0)
  h1 := hstage0_0 (cfg0.slots t 0)
  a2 := stage0_1 (cfg0.slots t 1)
  h2 := hstage0_1 (cfg0.slots t 1)
  a3 := stage0_2 (cfg0.slots t 2)
  h3 := hstage0_2 (cfg0.slots t 2)
  a4 := stage0_3 (cfg0.slots t 3)
  h4 := hstage0_3 (cfg0.slots t 3)
  a5 := stage0_4 (cfg0.slots t 4)
  h5 := hstage0_4 (cfg0.slots t 4)
  a6 := stage0_5 (cfg0.slots t 5)
  h6 := hstage0_5 (cfg0.slots t 5)
  a7 := stage0_6 (cfg0.slots t 6)
  h7 := hstage0_6 (cfg0.slots t 6)
  a8 := stage0_7 (cfg0.slots t 7)
  h8 := hstage0_7 (cfg0.slots t 7)
  a9 := stage0_8 (cfg0.slots t 8)
  h9 := hstage0_8 (cfg0.slots t 8)
  a10 := stage0_9 (cfg0.slots t 9)
  h10 := hstage0_9 (cfg0.slots t 9)
  a11 := stage0_10 (cfg0.slots t 10)
  h11 := hstage0_10 (cfg0.slots t 10)
  a12 := stage0_11 (cfg0.slots t 11)
  h12 := hstage0_11 (cfg0.slots t 11)
  a13 := stage0_12 (cfg0.slots t 12)
  h13 := hstage0_12 (cfg0.slots t 12)
  a14 := stage0_13 (cfg0.slots t 13)
  h14 := hstage0_13 (cfg0.slots t 13)
  a15 := stage0_14 (cfg0.slots t 14)
  h15 := hstage0_14 (cfg0.slots t 14)
  a16 := stage0_15 (cfg0.slots t 15)
  h16 := hstage0_15 (cfg0.slots t 15)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _
  a22 := Memref.whole cc0_scratch5
  h22 := Memref.isWhole_whole _
  a23 := Memref.whole cc0_scratch6
  h23 := Memref.isWhole_whole _

/-- The inputs of point `t`. -/
def insAt (d : Dev nD) (t : Fin cfg0.N) : Ins F := ⟨iblk m d 0 t, iblk m d 1 t, iblk m d 2 t, iblk m d 3 t, iblk m d 4 t, iblk m d 5 t, iblk m d 6 t, iblk m d 7 t, iblk m d 8 t, iblk m d 9 t, iblk m d 10 t, iblk m d 11 t, iblk m d 12 t, iblk m d 13 t, iblk m d 14 t⟩

/-- Every box of every image lies within the maps. -/
def AllOK : Prop := ∀ (d : Dev nD) (t : Fin cfg0.N) (k : Fin 32), OKBox (grid0.coords t) (insAt m d t) k

variable (hOK : AllOK m)

/-- What is carried after `n` points. -/
def carN (d : Dev nD) : (n : ℕ) → n ≤ cfg0.N → Car F
  | 0, _ => car0
  | n + 1, h => stepC (grid0.coords ⟨n, h⟩) (insAt m d ⟨n, h⟩) (hOK d ⟨n, h⟩) (carN d n (Nat.le_of_succ_le h))

/-- The loss. -/
def loss (d : Dev nD) : F .f32 := lossC (carN m hOK d cfg0.N le_rfl)

/-- The scratch buffers, at the contents `S` names. -/
def scr (d : Dev nD) (S : Sc F) : sProp (MT nD τ sig Unit (Elt F) ℕ (UR sig nD τ) ℕ) :=
  iprop(owns (d.tc : Thread nD τ) (Memref.whole cc0_scratch0) fullShare S.g ∗
    owns (d.tc : Thread nD τ) (Memref.whole cc0_scratch1) fullShare S.r ∗
    owns (d.tc : Thread nD τ) (Memref.whole cc0_scratch2) fullShare S.c ∗
    owns (d.tc : Thread nD τ) (Memref.whole cc0_scratch3) fullShare S.s ∗
    owns (d.tc : Thread nD τ) (Memref.whole cc0_scratch4) fullShare S.a ∗
    owns (d.tc : Thread nD τ) (Memref.whole cc0_scratch5) fullShare S.rc ∗
    owns (d.tc : Thread nD τ) (Memref.whole cc0_scratch6) fullShare S.rb)

/-- What holds before point `n`: the scratch buffers, carrying what the points before leave. -/
def PhiS (d : Dev nD) (n : ℕ) (h : n ≤ cfg0.N) : sProp (MT nD τ sig Unit (Elt F) ℕ (UR sig nD τ) ℕ) :=
  iprop(∃ S : Sc F, ⌜n ≠ 0 → car S = carN m hOK d n h⌝ ∗ scr d S ∗ ∃ r, prngReg d r)

/-- The proof data: the arrays as the region finds them, after each point the inputs' blocks as they were and the result
    at the loss. -/
def dats (_ : Fin 1) (d : Dev nD) : Dat τ (Elt F) Unit ℕ (UR sig nD τ) ℕ cfg0 d where
  A w := V m d (Pipeline.arrRef spec0 w)
  after w t := match w with
    | ⟨0, _⟩ => iblk m d 0 t
    | ⟨1, _⟩ => iblk m d 1 t
    | ⟨2, _⟩ => iblk m d 2 t
    | ⟨3, _⟩ => iblk m d 3 t
    | ⟨4, _⟩ => iblk m d 4 t
    | ⟨5, _⟩ => iblk m d 5 t
    | ⟨6, _⟩ => iblk m d 6 t
    | ⟨7, _⟩ => iblk m d 7 t
    | ⟨8, _⟩ => iblk m d 8 t
    | ⟨9, _⟩ => iblk m d 9 t
    | ⟨10, _⟩ => iblk m d 10 t
    | ⟨11, _⟩ => iblk m d 11 t
    | ⟨12, _⟩ => iblk m d 12 t
    | ⟨13, _⟩ => iblk m d 13 t
    | ⟨14, _⟩ => iblk m d 14 t
    | ⟨15, _⟩ => fun _ => loss m hOK d
    | ⟨_ + 16, h⟩ => absurd h (Nat.not_lt.2 (Nat.le_add_left _ _))
  Φ t := PhiS m hOK d t.val (Nat.le_of_lt_succ t.isLt)
  q _ := fullShare
  owed _ := 0

theorem A_eq (d : Dev nD) (w : Fin cfg0.W) : (dats m hOK 0 d).A w = V m d (Pipeline.arrRef spec0 w) := rfl
theorem after0_0 (d : Dev nD) (t : Fin cfg0.N) : (dats m hOK 0 d).after 0 t = iblk m d 0 t := by dsimp only [dats]
theorem after0_1 (d : Dev nD) (t : Fin cfg0.N) : (dats m hOK 0 d).after 1 t = iblk m d 1 t := by dsimp only [dats]
theorem after0_2 (d : Dev nD) (t : Fin cfg0.N) : (dats m hOK 0 d).after 2 t = iblk m d 2 t := by dsimp only [dats]
theorem after0_3 (d : Dev nD) (t : Fin cfg0.N) : (dats m hOK 0 d).after 3 t = iblk m d 3 t := by dsimp only [dats]
theorem after0_4 (d : Dev nD) (t : Fin cfg0.N) : (dats m hOK 0 d).after 4 t = iblk m d 4 t := by dsimp only [dats]
theorem after0_5 (d : Dev nD) (t : Fin cfg0.N) : (dats m hOK 0 d).after 5 t = iblk m d 5 t := by dsimp only [dats]
theorem after0_6 (d : Dev nD) (t : Fin cfg0.N) : (dats m hOK 0 d).after 6 t = iblk m d 6 t := by dsimp only [dats]
theorem after0_7 (d : Dev nD) (t : Fin cfg0.N) : (dats m hOK 0 d).after 7 t = iblk m d 7 t := by dsimp only [dats]
theorem after0_8 (d : Dev nD) (t : Fin cfg0.N) : (dats m hOK 0 d).after 8 t = iblk m d 8 t := by dsimp only [dats]
theorem after0_9 (d : Dev nD) (t : Fin cfg0.N) : (dats m hOK 0 d).after 9 t = iblk m d 9 t := by dsimp only [dats]
theorem after0_10 (d : Dev nD) (t : Fin cfg0.N) : (dats m hOK 0 d).after 10 t = iblk m d 10 t := by dsimp only [dats]
theorem after0_11 (d : Dev nD) (t : Fin cfg0.N) : (dats m hOK 0 d).after 11 t = iblk m d 11 t := by dsimp only [dats]
theorem after0_12 (d : Dev nD) (t : Fin cfg0.N) : (dats m hOK 0 d).after 12 t = iblk m d 12 t := by dsimp only [dats]
theorem after0_13 (d : Dev nD) (t : Fin cfg0.N) : (dats m hOK 0 d).after 13 t = iblk m d 13 t := by dsimp only [dats]
theorem after0_14 (d : Dev nD) (t : Fin cfg0.N) : (dats m hOK 0 d).after 14 t = iblk m d 14 t := by dsimp only [dats]
theorem after0_15 (d : Dev nD) (t : Fin cfg0.N) : (dats m hOK 0 d).after 15 t = fun _ => loss m hOK d := by dsimp only [dats]

theorem before0_0 (d : Dev nD) (t : Fin cfg0.N) (e) : (dats m hOK 0 d).before 0 t e = iblk m d 0 t :=
  before0_0_of m (dats m hOK 0 d) (A_eq m hOK d 0) (after0_0 m hOK d) t e
theorem before0_1 (d : Dev nD) (t : Fin cfg0.N) (e) : (dats m hOK 0 d).before 1 t e = iblk m d 1 t :=
  before0_1_of m (dats m hOK 0 d) (A_eq m hOK d 1) (after0_1 m hOK d) t e
theorem before0_2 (d : Dev nD) (t : Fin cfg0.N) (e) : (dats m hOK 0 d).before 2 t e = iblk m d 2 t :=
  before0_2_of m (dats m hOK 0 d) (A_eq m hOK d 2) (after0_2 m hOK d) t e
theorem before0_3 (d : Dev nD) (t : Fin cfg0.N) (e) : (dats m hOK 0 d).before 3 t e = iblk m d 3 t :=
  before0_3_of m (dats m hOK 0 d) (A_eq m hOK d 3) (after0_3 m hOK d) t e
theorem before0_4 (d : Dev nD) (t : Fin cfg0.N) (e) : (dats m hOK 0 d).before 4 t e = iblk m d 4 t :=
  before0_4_of m (dats m hOK 0 d) (A_eq m hOK d 4) (after0_4 m hOK d) t e
theorem before0_5 (d : Dev nD) (t : Fin cfg0.N) (e) : (dats m hOK 0 d).before 5 t e = iblk m d 5 t :=
  before0_5_of m (dats m hOK 0 d) (A_eq m hOK d 5) (after0_5 m hOK d) t e
theorem before0_6 (d : Dev nD) (t : Fin cfg0.N) (e) : (dats m hOK 0 d).before 6 t e = iblk m d 6 t :=
  before0_6_of m (dats m hOK 0 d) (A_eq m hOK d 6) (after0_6 m hOK d) t e
theorem before0_7 (d : Dev nD) (t : Fin cfg0.N) (e) : (dats m hOK 0 d).before 7 t e = iblk m d 7 t :=
  before0_7_of m (dats m hOK 0 d) (A_eq m hOK d 7) (after0_7 m hOK d) t e
theorem before0_8 (d : Dev nD) (t : Fin cfg0.N) (e) : (dats m hOK 0 d).before 8 t e = iblk m d 8 t :=
  before0_8_of m (dats m hOK 0 d) (A_eq m hOK d 8) (after0_8 m hOK d) t e
theorem before0_9 (d : Dev nD) (t : Fin cfg0.N) (e) : (dats m hOK 0 d).before 9 t e = iblk m d 9 t :=
  before0_9_of m (dats m hOK 0 d) (A_eq m hOK d 9) (after0_9 m hOK d) t e
theorem before0_10 (d : Dev nD) (t : Fin cfg0.N) (e) : (dats m hOK 0 d).before 10 t e = iblk m d 10 t :=
  before0_10_of m (dats m hOK 0 d) (A_eq m hOK d 10) (after0_10 m hOK d) t e
theorem before0_11 (d : Dev nD) (t : Fin cfg0.N) (e) : (dats m hOK 0 d).before 11 t e = iblk m d 11 t :=
  before0_11_of m (dats m hOK 0 d) (A_eq m hOK d 11) (after0_11 m hOK d) t e
theorem before0_12 (d : Dev nD) (t : Fin cfg0.N) (e) : (dats m hOK 0 d).before 12 t e = iblk m d 12 t :=
  before0_12_of m (dats m hOK 0 d) (A_eq m hOK d 12) (after0_12 m hOK d) t e
theorem before0_13 (d : Dev nD) (t : Fin cfg0.N) (e) : (dats m hOK 0 d).before 13 t e = iblk m d 13 t :=
  before0_13_of m (dats m hOK 0 d) (A_eq m hOK d 13) (after0_13 m hOK d) t e
theorem before0_14 (d : Dev nD) (t : Fin cfg0.N) (e) : (dats m hOK 0 d).before 14 t e = iblk m d 14 t :=
  before0_14_of m (dats m hOK 0 d) (A_eq m hOK d 14) (after0_14 m hOK d) t e

theorem Phi_castSucc (d : Dev nD) (t : Fin cfg0.N) : (dats m hOK 0 d).Φ t.castSucc = PhiS m hOK d t.val (Nat.le_of_lt t.isLt) := by
  dsimp only [dats]; exact Pipeline.Dat.Φ_castSucc (PhiS m hOK d) t

theorem Phi_succ (d : Dev nD) (t : Fin cfg0.N) : (dats m hOK 0 d).Φ t.succ = PhiS m hOK d (t.val + 1) t.isLt := rfl

/-! ## The points -/

theorem first_iff : ∀ t : Fin cfg0.N, first (grid0.coords t) = 1#1 ↔ t.val = 0 := by
  decide +kernel

theorem last_iff : ∀ t : Fin cfg0.N, k0_cond2 (grid0.coords t) = 1#1 ↔ t.val + 1 = cfg0.N := by
  decide +kernel

theorem car_step (d : Dev nD) (t : Fin cfg0.N) (S : Sc F) (hS : t.val ≠ 0 → car S = carN m hOK d t.val (Nat.le_of_lt t.isLt)) :
    car (bodyS (grid0.coords t) (insAt m d t) (hOK d t) S) = carN m hOK d (t.val + 1) t.isLt := by
  rw [car_bodyS]
  show _ = stepC (grid0.coords t) (insAt m d t) (hOK d t) (carN m hOK d t.val (Nat.le_of_lt t.isLt))
  congr 1
  by_cases h : t.val = 0
  · rw [if_pos ((first_iff t).mpr h)]
    obtain ⟨n, hn⟩ := t
    dsimp only at h
    subst h
    rfl
  · rw [if_neg fun e => h ((first_iff t).mp e)]
    exact hS h

theorem prog_eq (t : Fin cfg0.N) :
    (defs₀ (F := F)) .tc cfg0.body (cfg0.bodyArgs t (cfg0.slots t)) = body (grid0.coords t) (argsAt t) :=
  (show _ = bodyAt0 t from rfl).trans (body_eq (grid0.coords t) (argsAt t))

end Cert.KernelIdeal.Launch

end
-- ==== Proof.PI.Point.lean ====
/-
  Each grid point leaves what `Launch.lean` says, and the run of the whole program.
-/
module

public import proofs.«01_k».proof.Proof.PI.Launch
public import Idealize.ShloMosaic.Lib.Tactic

@[expose] public section

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen Cert.KernelIdeal.Body Cert.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hOK : AllOK m)

/-! ## The obligation of a point -/

theorem before_own (d : Dev nD) (t : Fin cfg0.N) (S : Sc F) :
    iprop(owns (d.tc : Thread nD τ) (stage0_0 (cfg0.slots t 0)) fullShare (iblk m d 0 t) ∗ owns (d.tc : Thread nD τ) (stage0_1 (cfg0.slots t 1)) fullShare (iblk m d 1 t) ∗ owns (d.tc : Thread nD τ) (stage0_2 (cfg0.slots t 2)) fullShare (iblk m d 2 t) ∗ owns (d.tc : Thread nD τ) (stage0_3 (cfg0.slots t 3)) fullShare (iblk m d 3 t) ∗ owns (d.tc : Thread nD τ) (stage0_4 (cfg0.slots t 4)) fullShare (iblk m d 4 t) ∗ owns (d.tc : Thread nD τ) (stage0_5 (cfg0.slots t 5)) fullShare (iblk m d 5 t) ∗ owns (d.tc : Thread nD τ) (stage0_6 (cfg0.slots t 6)) fullShare (iblk m d 6 t) ∗ owns (d.tc : Thread nD τ) (stage0_7 (cfg0.slots t 7)) fullShare (iblk m d 7 t) ∗ owns (d.tc : Thread nD τ) (stage0_8 (cfg0.slots t 8)) fullShare (iblk m d 8 t) ∗ owns (d.tc : Thread nD τ) (stage0_9 (cfg0.slots t 9)) fullShare (iblk m d 9 t) ∗ owns (d.tc : Thread nD τ) (stage0_10 (cfg0.slots t 10)) fullShare (iblk m d 10 t) ∗ owns (d.tc : Thread nD τ) (stage0_11 (cfg0.slots t 11)) fullShare (iblk m d 11 t) ∗ owns (d.tc : Thread nD τ) (stage0_12 (cfg0.slots t 12)) fullShare (iblk m d 12 t) ∗ owns (d.tc : Thread nD τ) (stage0_13 (cfg0.slots t 13)) fullShare (iblk m d 13 t) ∗ owns (d.tc : Thread nD τ) (stage0_14 (cfg0.slots t 14)) fullShare (iblk m d 14 t)
      ∗ owns (d.tc : Thread nD τ) (stage0_15 (cfg0.slots t 15)) fullShare S.o ∗ scr d S)
    = Body.own (argsAt t) d (insAt m d t) S := by
  unfold Body.own scr
  dsimp only [argsAt, insAt]

set_option maxHeartbeats 4000000 in
/-- One point, from what it finds to what it leaves. -/
theorem body_obligation (d : Dev nD) : BodyObligation (dats m hOK 0 d) (defs₀ (F := F)) 𝒱₀ () Set.univ := fun t => by
  rw [bigSep_W0, bigSep_W0, prog_eq]
  simp only [before0_0, before0_1, before0_2, before0_3, before0_4, before0_5, before0_6, before0_7, before0_8, before0_9, before0_10, before0_11, before0_12, before0_13, before0_14]
  rw [Phi_castSucc, Phi_succ, show (dats m hOK 0 d).owesAt () t.succ = (dats m hOK 0 d).owesAt () t.castSucc from rfl,
    after0_0, after0_1, after0_2, after0_3, after0_4, after0_5, after0_6, after0_7, after0_8, after0_9, after0_10, after0_11, after0_12, after0_13, after0_14, after0_15]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  icases HΦ with ⟨%S, %hS, Hs, Hr⟩
  iapply (runs_body (A := argsAt t) (d := d) (I := insAt m d t) (grid0.coords t) (hOK d t)
    { S with o := (dats m hOK 0 d).before 15 t d15 } (defs₀ (F := F)) 𝒱₀ _)
  isplitl [Hs H0 H1 H2 H3 H4 H5 H6 H7 H8 H9 H10 H11 H12 H13 H14 H15]
  · rw [← before_own]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact Hs
  rw [← before_own]
  iintro ⟨H0, H1, H2, H3, H4, H5, H6, H7, H8, H9, H10, H11, H12, H13, H14, H15, Hs⟩
  isplitl [Hs Hr]
  · iexists (bodyS (grid0.coords t) (insAt m d t) (hOK d t) { S with o := (dats m hOK 0 d).before 15 t d15 })
    isplitr
    · ipureintro
      exact fun _ => car_step m hOK d t _ hS
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  by_cases hc : k0_cond2 (grid0.coords t) = 1#1
  · rw [out_bodyS _ _ _ _ hc, car_step m hOK d t { S with o := (dats m hOK 0 d).before 15 t d15 } hS]
    have hl := (last_iff t).mp hc
    have hi : idle0 15 (grid0.coords t) = false := by
      show (!(k0_cond2 (grid0.coords t) == 1#1)) = false
      rw [hc]; rfl
    rw [hi]
    have e : carN m hOK d (t.val + 1) t.isLt = carN m hOK d cfg0.N le_rfl := by
      congr 1
    rw [e]
    iexact H15
  · rw [out_bodyS_ne _ _ _ _ hc]
    have hi : idle0 15 (grid0.coords t) = true := by
      show (!(k0_cond2 (grid0.coords t) == 1#1)) = true
      rw [beq_false_of_ne hc]; rfl
    have hf : (win0 15).flush t = false := by
      show (cfg0.win 15).flush t = false
      rw [Bool.eq_false_iff]
      intro h
      have h7 := (flush0_15 t).mp h
      have hlt : t.val < 8 := t.isLt
      exact hc ((last_iff t).mpr (show t.val + 1 = 8 by omega))
    rw [hi, hf]
    iexists d15
    iexact H15

/-! ## The run -/

/-- The scratch buffers, at any contents, are those the region allots. -/
theorem scr_in (d : Dev nD) : (Pipeline.scopedRest (Ix := Unit) (Name := ℕ) (U := UR sig nD τ) (Lvl := ℕ) (Val := Elt F) spec0 d : sProp 𝕄)
    ⊢ iprop(∃ S : Sc F, scr d S) := by
  rw [scopedRest0_eq]
  iintro ⟨⟨%f0, H0⟩, ⟨%f1, H1⟩, ⟨%f5, H5⟩, ⟨%f6, H6⟩, ⟨%f2, H2⟩, ⟨%f3, H3⟩, ⟨%f4, H4⟩⟩
  iexists (⟨fun _ => z0, f0, f1, f2, f3, f4, f5, f6⟩ : Sc F)
  unfold scr
  rw [owns_whole, owns_whole, owns_whole, owns_whole, owns_whole, owns_whole, owns_whole]
  isplitl [H0]; · iexact H0
  isplitl [H1]; · iexact H1
  isplitl [H2]; · iexact H2
  isplitl [H3]; · iexact H3
  isplitl [H4]; · iexact H4
  isplitl [H5]; · iexact H5
  iexact H6

theorem scr_out (d : Dev nD) (S : Sc F) :
    scr d S ⊢ (Pipeline.scopedRest (Ix := Unit) (Name := ℕ) (U := UR sig nD τ) (Lvl := ℕ) (Val := Elt F) spec0 d : sProp 𝕄) := by
  rw [scopedRest0_eq]
  unfold scr
  rw [owns_whole, owns_whole, owns_whole, owns_whole, owns_whole, owns_whole, owns_whole]
  iintro ⟨H0, H1, H2, H3, H4, H5, H6⟩
  isplitl [H0]; · iexists _; iexact H0
  isplitl [H1]; · iexists _; iexact H1
  isplitl [H5]; · iexists _; iexact H5
  isplitl [H6]; · iexists _; iexact H6
  isplitl [H2]; · iexists _; iexact H2
  isplitl [H3]; · iexists _; iexact H3
  iexists _; iexact H4

theorem phi_in (d : Dev nD) : ΦA spec0 d ⊢ (dats m hOK 0 d).Φ 0 := by
  show _ ⊢ PhiS m hOK d 0 _
  unfold ΦA PhiS
  iintro ⟨Hs, Hr⟩
  ihave H := scr_in d $$ Hs
  icases H with ⟨%S, Hs⟩
  iexists S
  isplitr
  · ipureintro; exact fun h => absurd rfl h
  isplitl [Hs]; · iexact Hs
  iexact Hr

theorem phi_out (d : Dev nD) : (dats m hOK 0 d).Φ (Fin.last cfg0.N) ⊢ ΦA spec0 d := by
  show PhiS m hOK d _ _ ⊢ _
  unfold ΦA PhiS
  iintro ⟨%S, -, Hs, Hr⟩
  isplitl [Hs]
  · iapply (scr_out d S) $$ Hs
  iexact Hr

set_option backward.isDefEq.respectTransparency.types false in
/-- The whole program runs to the end: every array as the proof data leave it, every counter at zero. -/
theorem run_main : θ_run defs (onTc (τ := τ) (main (F := F))) (s₀ m ρ)
    (fun r => Pipeline.FramePost cfgs (dats m hOK) 0 (Pipeline.afterTail₀ cfgs (dats m hOK) 0 (V0 m) [hostOps1]) r ∧ r.2.sem = fun _ => 0) :=
  Pipeline.θ_run_frame_around_track (Q' := _) cfgs (dats m hOK) (0 : Fin 1) launch0 defs₀ 𝒱₀ m ρ main
    (hbody := fun c => (body_obligation m hOK c).loose) (hshare := fun c => (dats m hOK 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := phi_in m hOK) (hout := phi_out m hOK)
    (hQ' := fun _ h => h)

end Cert.KernelIdeal.Launch

end
-- ==== Proof.PI.Host.lean ====
/-
  The arrays the host operations before the launch leave for the kernel, as functions of the boxes, and what the kernel
  assumes of the words in them: the rows and labels it addresses lie inside the scratch maps.
-/
module

public import proofs.«01_k».proof.Proof.PI.Point
public import Idealize.ShloMosaic.Lib.StableHlo.RunRead
public import Idealize.ShloMosaic.Lib.ReduceAll
public import Idealize.ShloMosaic.Lib.Affine
public import Idealize.ShloMosaic.Lib.WordArith
public import Idealize.ShloMosaic.Lib.Pipeline.ValueKit.Point
public import Idealize.ShloMosaic.Lib.Claim

@[expose] public section

set_option maxRecDepth 16384

noncomputable section

namespace Cert.KernelIdeal.Before

open Cert.KernelIdeal Cert.KernelIdeal.Gen Idealize.ShloMosaic Idealize.ShloMosaic.TcCoe
open Idealize.ShloMosaic.Tactic Idealize.ShloMosaic.StableHlo Idealize.SL.Sem Cert.KernelIdeal.Body Cert.KernelIdeal.Launch

variable {F : FTy → Type} [FloatOps F]

/-- The centre of each box, in cells of the 128 × 128 map: x, then y. -/
def mid (X : FVec F S8x32x4 .f32) : FVec F S8x32x2 .f32 :=
  mulf (mulf (addf (extractStridedSlice S8x32x2 ![0, 0, 0] X slices_S8x32x4_S8x32x2_0_0_0)
      (extractStridedSlice S8x32x2 ![0, 0, 2] X slices_S8x32x4_S8x32x2_0_0_2))
      (broadcastInDim S8x32x2 ![] bcast_S_S8x32x2 (constant S_ .f32 0x3F000000#32)))
    (broadcastInDim S8x32x2 ![0, 1, 2] bcast_S1x1x2_S8x32x2_0_1_2
      (broadcastInDim S1x1x2 ![2] bcast_S2_S1x1x2_2 (constant S2 .f32 0x43000000#32)))

/-- The width and the height of each box. -/
def ext (X : FVec F S8x32x4 .f32) : FVec F S8x32x2 .f32 :=
  Host.absf (subf (extractStridedSlice S8x32x2 ![0, 0, 2] X slices_S8x32x4_S8x32x2_0_0_2)
    (extractStridedSlice S8x32x2 ![0, 0, 0] X slices_S8x32x4_S8x32x2_0_0_0))

/-- The cell each centre lies in, kept inside the map. -/
def cell (X : FVec F S8x32x4 .f32) : IVec S8x32x2 32 :=
  minsi (broadcastInDim S8x32x2 ![0, 1, 2] bcast_S1x1x2_S8x32x2_0_1_2
      (broadcastInDim S1x1x2 ![2] bcast_S2_S1x1x2_2 (constantI S2 32 127#32)))
    (maxsi (broadcastInDim S8x32x2 ![0, 1, 2] bcast_S1x1x2_S8x32x2_0_1_2
      (broadcastInDim S1x1x2 ![2] bcast_S2_S1x1x2_2 (constantI S2 32 0#32))) (fptosi 32 (Host.floor (mid X))))

/-- The first and the second of the two columns of an array of pairs. -/
def fst' {α : Type} (A : S8x32x2.Idx → α) : S8x32.Idx → α :=
  shapeCast S8x32 (extractStridedSlice S8x32x1 ![0, 0, 0] A slices_S8x32x2_S8x32x1_0_0_0) shapeCasts_S8x32x1_S8x32
def snd' {α : Type} (A : S8x32x2.Idx → α) : S8x32.Idx → α :=
  shapeCast S8x32 (extractStridedSlice S8x32x1 ![0, 0, 1] A slices_S8x32x2_S8x32x1_0_0_1) shapeCasts_S8x32x1_S8x32

/-- The column and the row of the cell of each centre. -/
def colC (X : FVec F S8x32x4 .f32) : IVec S8x32 32 := fst' (cell X)
@[inherit_doc colC]
def rowC (X : FVec F S8x32x4 .f32) : IVec S8x32 32 := snd' (cell X)

/-- A word on all of the boxes. -/
def all (w : BitVec 32) : IVec S8x32 32 := broadcastInDim S8x32 ![] bcast_S_S8x32 (constantI S_ 32 w)

/-- The first of the 80 rows a box is drawn on, before it is rounded down to a multiple of 8. -/
def row (X : FVec F S8x32x4 .f32) : IVec S8x32 32 :=
  minsi (all 48#32) (maxsi (all 0#32) (subi (rowC X) (all 36#32)))

/-- `floor (R / 8)`. -/
def eighth (R : IVec S8x32 32) : IVec S8x32 32 :=
  select (andi (cmpi .ne (signi R) (broadcastInDim S8x32 ![] bcast_S_S8x32 (signi (constantI S_ 32 8#32))))
      (cmpi .ne (Host.remsi R (all 8#32)) (all 0#32)))
    (subi (Host.divsi R (all 8#32)) (all 1#32)) (Host.divsi R (all 8#32))

/-- The first of the 80 rows a box is drawn on. -/
def top (X : FVec F S8x32x4 .f32) : IVec S8x32 32 := muli (eighth (row X)) (all 8#32)

variable (m : (ℓ : Loc nD τ sig) → Buf (Elt F) ℓ) (c : Dev nD)

theorem V_cy : V m c main_v40 = rowC (m ((c : Thread nD τ).loc main_arg3)) := by
  unfold_abbrev_sides
  after_reads_simp
  rfl

theorem V_top : V m c main_v69 = top (m ((c : Thread nD τ).loc main_arg3)) := by
  unfold_abbrev_sides
  after_reads_simp
  simp only [TRef.toBuf, TRef.ofBuf, cast_eq, id_eq]
  rfl

theorem iblk_cy (t : Fin cfg0.N) : (iblk m c 8 t : S8x32.Idx → Elt F .i32) = V m c main_v40 := by
  funext j
  blk_ext [iblk]
  · show 0 * 8 + (j 0 : ℕ) = _; omega
  · show 0 * 32 + (j 1 : ℕ) = _; omega

theorem iblk_lab (t : Fin cfg0.N) : (iblk m c 9 t : S8x32.Idx → Elt F .i32) = V m c main_arg4 := by
  funext j
  blk_ext [iblk]
  · show 0 * 8 + (j 0 : ℕ) = _; omega
  · show 0 * 32 + (j 1 : ℕ) = _; omega

theorem iblk_top (t : Fin cfg0.N) : (iblk m c 11 t : S8x32.Idx → Elt F .i32) = V m c main_v69 := by
  funext j
  blk_ext [iblk]
  · show 0 * 8 + (j 0 : ℕ) = _; omega
  · show 0 * 32 + (j 1 : ℕ) = _; omega

/-! ## The words -/

/-- The sign of a word, `floor (r / 8)`, and the first row of the 80 of the row of the centre. -/
def signW (w : BitVec 32) : BitVec 32 := if w = 0 then 0 else if w.msb then -1 else 1

@[inherit_doc signW]
def eighthW (r : BitVec 32) : BitVec 32 :=
  if IntOp.andi (IntOp.cmpi .ne (signW r) (signW 8#32)) (IntOp.cmpi .ne (IntOp.remsi .host r 8#32) 0#32) = 1
    then IntOp.subi (IntOp.divsi .host r 8#32) 1#32 else IntOp.divsi .host r 8#32

@[inherit_doc signW]
def topW (w : BitVec 32) : BitVec 32 :=
  IntOp.muli (eighthW (IntOp.minsi 48#32 (IntOp.maxsi 0#32 (IntOp.subi w 36#32)))) 8#32

theorem cell_at (X : FVec F S8x32x4 .f32) (j : S8x32x2.Idx) : ∃ w, cell X j = IntOp.minsi 127#32 (IntOp.maxsi 0#32 w) :=
  ⟨_, rfl⟩

theorem cell_le (X : FVec F S8x32x4 .f32) (j : S8x32x2.Idx) : (cell X j).toNat ≤ 127 := by
  obtain ⟨w, e⟩ := cell_at X j
  rw [e]
  generalize h : IntOp.maxsi 0#32 w = x
  have h2 := WordArith.two_mul_toNat_maxsi_zero_lt w
  rw [Scalar.maxsi, h] at h2
  rw [WordArith.toNat_minsi_of_lt _ _ (by decide) (by omega)]
  exact min_le_left _ _

theorem snd_cell_le (X : FVec F S8x32x4 .f32) (j : S8x32.Idx) : (rowC X j).toNat ≤ 127 := cell_le X _

theorem topW_le : ∀ n : Fin 128, (topW (BitVec.ofNat 32 n)).toNat ≤ 48 := by decide +kernel

theorem eighth_at (R : IVec S8x32 32) (j : S8x32.Idx) : eighth R j = eighthW (R j) := rfl

theorem row_at (X : FVec F S8x32x4 .f32) (j : S8x32.Idx) :
    row X j = IntOp.minsi 48#32 (IntOp.maxsi 0#32 (IntOp.subi (rowC X j) 36#32)) := rfl

theorem top_at (X : FVec F S8x32x4 .f32) (j : S8x32.Idx) : top X j = topW (rowC X j) := by
  rw [topW, ← row_at, ← eighth_at]
  rfl

theorem toNat_cast {w : BitVec 32} : (Scalar.indexCast w : Index).toNat = w.toNat := rfl

theorem top_le (X : FVec F S8x32x4 .f32) (j : S8x32.Idx) : (top X j).toNat ≤ 48 := by
  have h : (rowC X j).toNat ≤ 127 := cell_le X _
  have e := topW_le ⟨(rowC X j).toNat, by omega⟩
  rwa [BitVec.ofNat_toNat, BitVec.setWidth_eq, ← top_at] at e

theorem chk1_of {l t : BitVec 32} (hl : l.toNat < 20) (ht : t.toNat ≤ 48) : k0_chk1 l t := by
  intro a
  fin_cases a
  · show l.toNat + 1 ≤ 20; omega
  · show t.toNat + 80 ≤ 128; omega
  · show 0 + 128 ≤ 128; omega

theorem chk2_of {y l : BitVec 32} (hy : y.toNat ≤ 127) (hl : l.toNat < 20) : k0_chk2 y l := by
  intro a
  fin_cases a
  · show l.toNat + 1 ≤ 20; omega
  · show y.toNat + 1 ≤ 128; omega
  · show 0 + 128 ≤ 128; omega

theorem chk3_of {y : BitVec 32} (hy : y.toNat ≤ 127) : k0_chk3 y := by
  refine ⟨?_, ?_, ?_, ?_⟩ <;> intro a <;> fin_cases a
  all_goals first
    | (show y.toNat + 1 ≤ 128; omega)
    | (show 0 + 1 ≤ 4; decide)
    | (show 1 + 1 ≤ 4; decide)
    | (show 2 + 1 ≤ 4; decide)
    | (show 3 + 1 ≤ 4; decide)
    | (show 0 + 128 ≤ 128; omega)

theorem okBox_of (i : grid0.Coords) (I : Ins F) (k : Fin 32) (hy : ∀ j, (I.x9 j : BitVec 32).toNat ≤ 127)
    (hl : ∀ j, (I.x10 j : BitVec 32).toNat < 20) (ht : ∀ j, (I.x12 j : BitVec 32).toNat ≤ 48) : OKBox i I k :=
  ⟨chk3_of (hy _), chk2_of (hy _) (hl _), chk1_of (hl _) (ht _)⟩

/-- Every label is one of the 20 classes. -/
def Labels (L : S8x32.Idx → BitVec 32) : Prop := ∀ j, (L j).toNat < 20

/-- What the kernel assumes holds where every label is one of the 20 classes. -/
theorem allOK (hl : ∀ d : Dev nD, Labels (m ((d : Thread nD τ).loc main_arg4))) : AllOK m := by
  intro d t k
  refine okBox_of _ _ _ ?_ ?_ ?_ <;> unfold insAt <;> dsimp only
  · rw [iblk_cy, V_cy]
    exact snd_cell_le _
  · rw [iblk_lab, V_main_arg4]
    exact hl d
  · rw [iblk_top, V_top]
    exact top_le _

end Cert.KernelIdeal.Before

end
-- ==== Proof.Frames.lean ====
/-
  The frames of the kernel, at both readings, and of the reference.
-/
module

public import proofs.«01_k».proof.Defs
public import proofs.«01_k».proof.Proof.Pre
public import proofs.«01_k».proof.Proof.P.Host
public import proofs.«01_k».proof.Proof.PI.Host
public import proofs.«01_k».proof.Proof.Gen.ReferenceIdeal.Run
public import Idealize.ShloMosaic.Lib.Pipeline.Quiescent

@[expose] public section

noncomputable section

namespace Cert.Proof

open Idealize.ShloMosaic Idealize.SL.Sem

theorem ok_kernel (m : (ℓ : Loc Cert.Kernel.nD Cert.Kernel.τ Cert.Kernel.sig) → Buf (Elt Bits) ℓ) (h : Cert.Pre_Kernel m) :
    Cert.Kernel.Launch.AllOK m :=
  Cert.Kernel.Before.allOK m fun d j =>
    have e := (Cert.Pre_in_range.split _ _ _ _ _ (h d)).2.2.2.2
    Cert.Pre_in_range.lt_twenty (e.1 j) (e.2 j)

theorem ok_ideal (m : (ℓ : Loc Cert.KernelIdeal.nD Cert.KernelIdeal.τ Cert.KernelIdeal.sig) → Buf (Elt Ideal) ℓ)
    (h : Cert.Pre_KernelIdeal m) : Cert.KernelIdeal.Launch.AllOK m :=
  Cert.KernelIdeal.Before.allOK m fun d j =>
    have e := (Cert.Pre_in_range.split _ _ _ _ _ (h d)).2.2.2.2
    Cert.Pre_in_range.lt_twenty (e.1 j) (e.2 j)

theorem frame_kernel : Cert.quiescent_Kernel := fun m ρ h =>
  θ_run_with_sems (Cert.Kernel.Gen.frame_of m ρ (Cert.Kernel.Launch.dats m (ok_kernel m h)) fun _ _ => rfl)
    (Cert.Kernel.Launch.run_main m ρ (ok_kernel m h))

theorem frame_ideal : Cert.quiescent_KernelIdeal := fun m ρ h =>
  θ_run_with_sems (Cert.KernelIdeal.Gen.frame_of m ρ (Cert.KernelIdeal.Launch.dats m (ok_ideal m h)) fun _ _ => rfl)
    (Cert.KernelIdeal.Launch.run_main m ρ (ok_ideal m h))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.PI.Signs.lean ====
/-
  The kernel's loss over the extended reals is not below zero: the heat map lies between zero and one, so each entry's
  cross-entropy is a real number not below zero, and the sums of the first nine bins stay below the sum of all entries.
-/
module

public import proofs.«01_k».proof.Proof.PI.State
public import Idealize.ShloMosaic.Lib.Pointwise

@[expose] public section

set_option maxRecDepth 16384

noncomputable section

namespace Cert.KernelIdeal.Signs

open Idealize.ShloMosaic Idealize.ShloMosaic.TcCoe
open Cert.KernelIdeal.Gen Cert.KernelIdeal.Body Cert.Runs

/-! ## Extended reals -/

theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

theorem mul_nonpos' {x y : EReal} (hx : 0 ≤ x) (hy : y ≤ 0) : x * y ≤ 0 := by
  have h' : 0 ≤ -y := EReal.neg_nonneg.mpr hy
  have := mul_nonneg hx h'
  rw [mul_comm, EReal.neg_mul] at this
  rw [mul_comm]
  exact EReal.neg_nonneg.mp this

theorem div_nonneg' {x y : EReal} (hx : 0 ≤ x) (hy : 0 < y) : 0 ≤ Ideal.div x y := by
  unfold Ideal.div
  rw [if_neg hy.ne']
  exact mul_nonneg hx (EReal.inv_nonneg_of_nonneg hy.le)

theorem div_neg_one {y : EReal} (hy : 0 ≤ y) : Ideal.div (-1) y ≤ 0 := by
  unfold Ideal.div
  split
  · rw [if_neg (by norm_num)]; exact bot_le
  · rw [mul_comm]
    exact mul_nonpos' (EReal.inv_nonneg_of_nonneg hy) (by norm_num)

theorem exp_unit {x : EReal} (hx : x ≤ 0) : 0 ≤ Ideal.exp x ∧ Ideal.exp x ≤ 1 := by
  induction x using EReal.rec with
  | bot => exact ⟨le_rfl, zero_le_one⟩
  | top => exact absurd hx (by simp)
  | coe r =>
    have hr : r ≤ 0 := by exact_mod_cast hx
    refine ⟨?_, ?_⟩
    · show (0 : EReal) ≤ ((Real.exp r : ℝ) : EReal)
      exact_mod_cast (Real.exp_pos r).le
    · show ((Real.exp r : ℝ) : EReal) ≤ 1
      exact_mod_cast Real.exp_le_one_iff.mpr hr

theorem abs_nonneg' (x : EReal) : 0 ≤ max x (-x) := by
  rcases le_total 0 x with h | h
  · exact le_max_of_le_left h
  · exact le_max_of_le_right (EReal.neg_nonneg.mpr h)

/-- A bit widened and made a float is zero or one. -/
theorem bit_val (b : BitVec 1) : (FloatOps.sitofp .f32 (BitVec.setWidth 32 b) : Ideal .f32) = ((if b = 1#1 then 1 else 0 : ℝ) : EReal) := by
  show (((BitVec.setWidth 32 b).toInt : ℝ) : EReal) = _
  have : b = 0#1 ∨ b = 1#1 := by
    have := b.isLt
    rcases Nat.lt_succ_iff_lt_or_eq.mp (show b.toNat < 1 + 1 by omega) with h | h
    · left; apply BitVec.eq_of_toNat_eq; simp; omega
    · right; apply BitVec.eq_of_toNat_eq; simp; omega
  rcases this with h | h <;> subst h <;> simp

theorem bit_nonneg (b : BitVec 1) : (0 : EReal) ≤ (FloatOps.sitofp .f32 (BitVec.setWidth 32 b) : Ideal .f32) := by
  rw [bit_val]; split <;> norm_num

theorem one_eq : Ideal.ofBits .f32 0x3F800000#32 = 1 := Ideal.ofBits_one_f32

theorem total_pos : (0 : EReal) < Ideal.ofBits .f32 0x4A200000#32 := by
  simp [Ideal.ofBits, Ideal.ieee]
  rw [← EReal.coe_mul]
  exact EReal.coe_pos.mpr (by norm_num)

theorem eps_pos : (0 : EReal) < Ideal.ofBits .f32 0x34000000#32 := by
  simp [Ideal.ofBits, Ideal.ieee]
  rw [← EReal.coe_mul]
  exact EReal.coe_pos.mpr (by norm_num)

theorem tiny_pos : (0 : EReal) < Ideal.ofBits .f32 0x2B8CBCCC#32 := by
  simp [Ideal.ofBits, Ideal.ieee]
  rw [← EReal.coe_mul]
  exact EReal.coe_pos.mpr (by norm_num)

theorem tenth_pos : (0 : EReal) < Ideal.ofBits .f32 0x3DCCCCCD#32 := by
  simp [Ideal.ofBits, Ideal.ieee]
  rw [← EReal.coe_mul]
  exact EReal.coe_pos.mpr (by norm_num)

/-! ## Payloads at an index -/

theorem addCols_at (x : FVec Ideal S2560x128 .bf16) (old : Vec Ideal S1x128 .f32) (y : S1x128.Idx) :
    addCols (k0_pay356 (F := Ideal)) x old y = old y + ∑ k : Fin 2560, x (ix2 k (y 1)) := by
  pointwise [addCols, k0_pay356]

theorem pay2_at (v : Vec Ideal S1x128 .f32) : k0_pay2 v = ∑ c : Fin 128, v (ix2 0 c) := by
  pointwise [k0_pay2]

theorem inBin_at (idx : IVec S2560x128 32) (j : Nat) (y : S2560x128.Idx) :
    inBin (F := Ideal) idx j y = ((if idx y = BitVec.ofNat 32 j then 1 else 0 : ℝ) : EReal) := by
  pointwise [inBin]
  rw [bit_val]
  congr 1
  by_cases h : idx y = BitVec.ofNat 32 j
  · rw [if_pos h, h]; simp [IntOp.cmpi]
  · have hb : (idx y == BitVec.ofNat 32 j) = false := by simpa using h
    rw [if_neg h, if_neg]
    simp only [IntOp.cmpi]
    rw [hb]; decide

theorem n_nonneg (G : Vec Ideal S20x128x128 .f32) (p : Ideal .f32) (hp : (0 : EReal) ≤ p) : (0 : EReal) ≤ k0_pay347 G p := by
  pointwise [k0_pay347, k0_pay346]
  exact add_nonneg hp (Finset.sum_nonneg fun _ _ => Finset.sum_nonneg fun _ _ => bit_nonneg _)

theorem mask_nonneg (G : Vec Ideal S20x128x128 .f32) (y : S128x128.Idx) : (0 : EReal) ≤ k0_pay346 G y := by
  pointwise [k0_pay346]
  exact bit_nonneg _

theorem pay348_nonneg (G : Vec Ideal S20x128x128 .f32) (a b) : (0 : EReal) ≤ (k0_pay348 G a b : Ideal .f32) := by
  pointwise [k0_pay348, k0_pay346]
  exact Finset.sum_nonneg fun _ _ => Finset.sum_nonneg fun _ _ => mul_nonneg (abs_nonneg' _) (bit_nonneg _)

theorem pay349_nonneg (M : FVec Ideal S128x128 .f32) (hM : ∀ y, (0 : EReal) ≤ M y) (s : Ideal .f32) (hs : (0 : EReal) ≤ s) (a b) :
    (0 : EReal) ≤ (k0_pay349 M s a b : Ideal .f32) := by
  pointwise [k0_pay349]
  exact add_nonneg hs (Finset.sum_nonneg fun _ _ => Finset.sum_nonneg fun _ _ => mul_nonneg (abs_nonneg' _) (hM _))

theorem pay350_nonneg (M : FVec Ideal S128x128 .f32) (hM : ∀ y, (0 : EReal) ≤ M y) (a b a' b') :
    (0 : EReal) ≤ (k0_pay350 M a b a' b' : Ideal .f32) := by
  pointwise [k0_pay350]
  exact add_nonneg (Finset.sum_nonneg fun _ _ => Finset.sum_nonneg fun _ _ => mul_nonneg (abs_nonneg' _) (hM _))
    (Finset.sum_nonneg fun _ _ => Finset.sum_nonneg fun _ _ => mul_nonneg (abs_nonneg' _) (hM _))

/-! ## The heat map lies between zero and one -/

/-- Between zero and one. -/
def Unit01 (x : EReal) : Prop := 0 ≤ x ∧ x ≤ 1

theorem put_forall {s : Shape} {V : Type} (Q : V → Prop) (X : s.Idx → V) (r : Rect s) (w : r.shape.Idx → V) (hX : ∀ y, Q (X y))
    (hw : ∀ x, Q (w x)) (y : s.Idx) : Q (put X r w y) := by
  by_cases h : ∃ x, r.emb x = y
  · obtain ⟨x, rfl⟩ := h
    rw [put_emb]; exact hw x
  · rw [put_off _ _ _ _ h]; exact hX y

theorem pay46_unit (u : FVec Ideal S80x128 .f32) (l : FVec Ideal S1x128 .f32) (cx nri : Elt Ideal .f32) (v : FVec Ideal S80x128 .f32)
    (g : Vec Ideal S1x80x128 .f32) (hn : (nri : EReal) ≤ 0) (hg : ∀ y, Unit01 (g y)) (y) : Unit01 (k0_pay46 u l cx nri v g y) := by
  pointwise [k0_pay46]
  have e := exp_unit (add_nonpos (mul_nonpos' (sq_nonneg' (u (ix2 (y 1) (y 2)) - v (ix2 (y 1) (y 2)))) hn)
    (mul_nonpos' (sq_nonneg' (l (ix2 0 (y 2)) - cx)) hn))
  exact ⟨le_max_of_le_right e.1, max_le (hg _).2 e.2⟩

theorem pay48_unit (l : IVec S1x128 32) (cx : Elt Ideal .i32) (g : Vec Ideal S1x1x128 .f32) (hg : ∀ y, Unit01 (g y)) (y) :
    Unit01 (k0_pay48 l cx g y) := by
  have h1 : Unit01 (Ideal.ofBits .f32 0x3F800000#32) := by rw [one_eq]; exact ⟨zero_le_one, le_rfl⟩
  pointwise [k0_pay48]
  rw [one_eq] at h1
  unfold Scalar.select
  split
  · exact h1
  · exact hg y

end Cert.KernelIdeal.Signs
end
-- ==== Proof.PI.Bins.lean ====
/-
  The bins of the kernel over the extended reals: the heat map lies between zero and one, so each entry's cross-entropy is
  a real number not below zero, and the sums of the first nine bins stay below the sum of all entries; the loss is then
  not below zero.
-/
module

public import proofs.«01_k».proof.Proof.PI.Signs
public import Idealize.ShloMosaic.Lib.Pointwise

@[expose] public section

set_option maxRecDepth 16384

noncomputable section

namespace Cert.KernelIdeal.Signs

open Idealize.ShloMosaic Idealize.ShloMosaic.TcCoe
open Cert.KernelIdeal.Gen Cert.KernelIdeal.Body Cert.Runs

attribute [local irreducible] put k0_pay46 k0_pay48 k0_pay45

/-! ## The maps of a point -/

theorem gauss_unit (i : grid0.Coords) (I : Ins Ideal) (k : Fin 32) (h : OKBox i I k) (g : S20x128x128.Idx → Ideal .f32)
    (hn : (wd I.x3 i k : EReal) ≤ 0) (hg : ∀ y, Unit01 (g y)) (y) : Unit01 (gauss i I k h g y) := by
  unfold gauss
  refine put_forall Unit01 g (rG (wd I.x10 i k) (wd I.x12 i k) h.rows) _ hg ?_ y
  intro x
  refine pay46_unit _ _ _ _ _ _ hn ?_ x
  intro z
  exact hg ((rG (wd I.x10 i k) (wd I.x12 i k) h.rows).emb z)

theorem peak_unit (i : grid0.Coords) (I : Ins Ideal) (k : Fin 32) (h : OKBox i I k) (g : S20x128x128.Idx → Ideal .f32)
    (hg : ∀ y, Unit01 (g y)) (y) : Unit01 (peak i I k h g y) := by
  unfold peak
  refine put_forall Unit01 g (rC (wd I.x9 i k) (wd I.x10 i k) h.ctr) _ hg ?_ y
  intro x
  refine pay48_unit _ _ _ ?_ x
  intro z
  exact hg ((rC (wd I.x9 i k) (wd I.x10 i k) h.ctr).emb z)

theorem zero_unit (y : S20x128x128.Idx) : Unit01 (k0_pay43 (F := Ideal) y) := by
  pointwise [k0_pay43]
  exact ⟨le_rfl, zero_le_one⟩

attribute [local irreducible] gauss peak reg0 reg1 reg2 reg3

theorem boxM_fst (i : grid0.Coords) (I : Ins Ideal) (h : ∀ k, OKBox i I k) (p : (S20x128x128.Idx → Ideal .f32) × (S4x128x128.Idx → Ideal .f32))
    (k : Fin 32) : (boxM i I h p k).1 = peak i I k (h k) (gauss i I k (h k) p.1) := by
  unfold boxM
  rfl

theorem fold_unit (i : grid0.Coords) (I : Ins Ideal) (h : ∀ k, OKBox i I k) (hn : ∀ k, (wd I.x3 i k : EReal) ≤ 0) (l : List (Fin 32)) :
    ∀ p : (S20x128x128.Idx → Ideal .f32) × (S4x128x128.Idx → Ideal .f32), (∀ y, Unit01 (p.1 y)) → ∀ y, Unit01 ((l.foldl (boxM i I h) p).1 y) := by
  induction l with
  | nil => intro p hp; exact hp
  | cons k l ih =>
    intro p hp
    rw [List.foldl_cons]
    refine ih (boxM i I h p k) ?_
    intro y
    rw [boxM_fst]
    exact peak_unit i I k (h k) _ (gauss_unit i I k (h k) _ (hn k) hp) y

/-- Where no box's scale is above zero, the heat map lies between zero and one. -/
theorem maps_unit (i : grid0.Coords) (I : Ins Ideal) (h : ∀ k, OKBox i I k) (hn : ∀ k, (wd I.x3 i k : EReal) ≤ 0) (y) :
    Unit01 ((maps i I h).1 y) := by
  unfold maps
  exact fold_unit i I h hn boxes (k0_pay43 (F := Ideal), k0_pay44 (F := Ideal)) zero_unit y

/-! ## The cross-entropy -/

/-- The cross-entropy of a target in the unit interval and a probability inside it is a real number not below zero. -/
theorem ce_real {g p : EReal} (hg : Unit01 g) (hp : 0 < p ∧ p < 1) :
    ∃ r : ℝ, 0 ≤ r ∧ 0 - (Ideal.log (1 - p) + g * (Ideal.log p - Ideal.log (1 - p))) = (r : EReal) := by
  obtain ⟨h0, h1⟩ := hg
  obtain ⟨hp0, hp1⟩ := hp
  lift g to ℝ using ⟨ne_of_lt (lt_of_le_of_lt h1 (by exact EReal.coe_lt_top 1)), ne_of_gt (lt_of_lt_of_le (by exact EReal.bot_lt_zero) h0)⟩
  lift p to ℝ using ⟨ne_of_lt (hp1.trans (by exact EReal.coe_lt_top 1)), ne_of_gt (EReal.bot_lt_zero.trans hp0)⟩
  have g0 : (0 : ℝ) ≤ g := by exact_mod_cast h0
  have g1 : g ≤ (1 : ℝ) := by exact_mod_cast h1
  have p0 : (0 : ℝ) < p := by exact_mod_cast hp0
  have p1 : p < (1 : ℝ) := by exact_mod_cast hp1
  have e1 : Ideal.log (p : EReal) = ((Real.log p : ℝ) : EReal) := by
    show (if p ≤ 0 then ⊥ else ((Real.log p : ℝ) : EReal)) = _
    rw [if_neg (not_le.mpr p0)]
  have e2 : Ideal.log (1 - (p : EReal)) = ((Real.log (1 - p) : ℝ) : EReal) := by
    have : (1 : EReal) - (p : EReal) = ((1 - p : ℝ) : EReal) := by push_cast; rfl
    rw [this]
    show (if 1 - p ≤ 0 then ⊥ else ((Real.log (1 - p) : ℝ) : EReal)) = _
    rw [if_neg (by linarith)]
  refine ⟨0 - (Real.log (1 - p) + g * (Real.log p - Real.log (1 - p))), ?_, ?_⟩
  · have l1 : Real.log p ≤ 0 := Real.log_nonpos p0.le p1.le
    have l2 : Real.log (1 - p) ≤ 0 := Real.log_nonpos (by linarith) (by linarith)
    nlinarith [mul_nonneg g0 (neg_nonneg.mpr l1), mul_nonneg (sub_nonneg.mpr g1) (neg_nonneg.mpr l2)]
  · rw [e1, e2]; push_cast; rfl

theorem bce_real (G : Vec Ideal S20x128x128 .f32) (p : Vec Ideal S1x20x128x128 .f32) (hG : ∀ y, Unit01 (G y))
    (hp : ∀ y, (0 : EReal) < p y ∧ (p y : EReal) < 1) : ∃ b : S2560x128.Idx → ℝ, (∀ y, 0 ≤ b y) ∧ ∀ y, k0_pay354 G p y = ((b y : ℝ) : EReal) := by
  have : ∀ y : S2560x128.Idx, ∃ r : ℝ, 0 ≤ r ∧ k0_pay354 G p y = ((r : ℝ) : EReal) := fun y => by
    obtain ⟨r, hr, e⟩ := ce_real (hG (ix3 (⟨(y 0).val / 128, by have := (y 0).isLt; change _ < 2560 at this; omega⟩ : Fin 20) (⟨(y 0).val % 128, by omega⟩ : Fin 128) (y 1)))
      (hp (ix4 0 (⟨(y 0).val / 128, by have := (y 0).isLt; change _ < 2560 at this; omega⟩ : Fin 20) (⟨(y 0).val % 128, by omega⟩ : Fin 128) (y 1)))
    refine ⟨r, hr, ?_⟩
    rw [← e]
    pointwise [k0_pay354, k0_pay353]
  choose b hb using this
  exact ⟨b, fun y => (hb y).1, fun y => (hb y).2⟩

/-! ## The sums of the bins -/

/-- Row `j` of the sums is real and not below zero, and the first nine rows together stay below the last. -/
def Below (X : S16x128.Idx → Ideal .f32) : Prop :=
  ∃ M : Fin 10 → S1x128.Idx → ℝ, (∀ j x, X ((r16 j).emb x) = ((M j x : ℝ) : EReal)) ∧ (∀ j x, 0 ≤ M j x)
    ∧ ∀ x, ∑ j : Fin 9, M j.castSucc x ≤ M 9 x

theorem row_val (j : Fin 10) (x : S1x128.Idx) : ((r16 j).emb x 0).val = j.val := by
  have hx : (x 0).val < 1 := (x 0).isLt
  show j.val + 1 * (x 0).val = j.val
  omega

theorem put_row (X : S16x128.Idx → Ideal .f32) (j k : Fin 10) (w : S1x128.Idx → Ideal .f32) (x : S1x128.Idx) :
    put X (r16 j) w ((r16 k).emb x) = if k = j then w x else X ((r16 k).emb x) := by
  split
  · next h => subst h; exact put_emb X (r16 k) w x
  · next h =>
    exact put_off_coord X (r16 j) w _ 0 fun z e => h (Fin.ext (by rw [row_val, row_val] at e; exact e.symm))

/-- Adding to each of the first nine rows in turn adds to each of them. -/
theorem fold_rows (v : Fin 9 → FVec Ideal S2560x128 .bf16) (l : List (Fin 9)) (hl : l.Nodup) (X : S16x128.Idx → Ideal .f32) (k : Fin 10)
    (x : S1x128.Idx) :
    (l.foldl (fun X j => put X (r16 j.castSucc) (addCols (k0_pay356 (F := Ideal)) (v j) fun x => X ((r16 j.castSucc).emb x))) X) ((r16 k).emb x)
      = X ((r16 k).emb x) + ∑ j : Fin 9, if j ∈ l ∧ k = j.castSucc then ∑ r : Fin 2560, v j (ix2 r (x 1)) else 0 := by
  induction l generalizing X with
  | nil => simp
  | cons a l ih =>
    obtain ⟨ha, hl⟩ := List.nodup_cons.mp hl
    rw [List.foldl_cons, ih hl, put_row]
    by_cases h : k = a.castSucc
    · subst h
      have e1 : (∑ j : Fin 9, if j ∈ l ∧ a.castSucc = j.castSucc then ∑ r : Fin 2560, v j (ix2 r (x 1)) else 0) = 0 := by
        refine Finset.sum_eq_zero fun b _ => if_neg ?_
        rintro ⟨hb, e⟩
        exact ha ((Fin.castSucc_injective _ e) ▸ hb)
      have e2 : (∑ j : Fin 9, if j ∈ a :: l ∧ a.castSucc = j.castSucc then ∑ r : Fin 2560, v j (ix2 r (x 1)) else 0)
          = ∑ r : Fin 2560, v a (ix2 r (x 1)) := by
        refine (Finset.sum_eq_single a ?_ fun h' => absurd (Finset.mem_univ _) h').trans (if_pos ⟨List.mem_cons_self .., rfl⟩)
        intro b _ hb
        refine if_neg ?_
        rintro ⟨_, e⟩
        exact hb (Fin.castSucc_injective _ e).symm
      rw [if_pos rfl, addCols_at, e1, e2, add_zero]
    · rw [if_neg h]
      congr 1
      refine Finset.sum_congr rfl fun b _ => ?_
      by_cases hb : k = b.castSucc
      · have : b ≠ a := fun e => h (e ▸ hb)
        simp [hb, this]
      · simp [hb]

/-- A real sum of extended reals that are real. -/
theorem sum_real {ι : Type} [Fintype ι] (f : ι → EReal) (g : ι → ℝ) (h : ∀ i, f i = ((g i : ℝ) : EReal)) :
    ∑ i, f i = ((∑ i, g i : ℝ) : EReal) := by
  rw [Finset.sum_congr rfl fun i _ => h i]
  induction (Finset.univ : Finset ι) using Finset.cons_induction with
  | empty => simp
  | cons a s ha ih => rw [Finset.sum_cons, Finset.sum_cons, ih, EReal.coe_add]

/-- At most one bin holds an entry. -/
theorem one_bin (w : BitVec 32) (b : ℝ) (hb : 0 ≤ b) : (∑ j : Fin 9, (if w = BitVec.ofNat 32 j.val then 1 else 0 : ℝ) * b) ≤ b := by
  by_cases h : ∃ j : Fin 9, w = BitVec.ofNat 32 j.val
  · obtain ⟨j, rfl⟩ := h
    rw [Finset.sum_eq_single j]
    · simp
    · intro k _ hk
      rw [if_neg, zero_mul]
      intro e
      have := congrArg BitVec.toNat e
      simp only [BitVec.toNat_ofNat] at this
      have := j.isLt; have := k.isLt
      exact hk (Fin.ext (by omega))
    · intro h; exact absurd (Finset.mem_univ _) h
  · rw [Finset.sum_eq_zero]
    · exact hb
    · intro j _
      rw [if_neg fun e => h ⟨j, e⟩, zero_mul]

theorem nine : (9 : Fin 10) = Fin.last 9 := rfl

theorem below_zero : Below (k0_pay40 (F := Ideal)) := by
  refine ⟨fun _ _ => 0, fun j x => ?_, fun _ _ => le_rfl, fun x => by simp⟩
  pointwise [k0_pay40]
  rfl

/-- One image keeps the sums of the first nine bins below the last. -/
theorem below_binsB (I : Ins Ideal) (G : Vec Ideal S20x128x128 .f32) (X : S16x128.Idx → Ideal .f32) (hG : ∀ y, Unit01 (G y))
    (hp : ∀ y, (0 : EReal) < I.x13 y ∧ (I.x13 y : EReal) < 1) (hX : Below X) : Below (binsB I G X) := by
  obtain ⟨M, hM, h0, hs⟩ := hX
  obtain ⟨b, hb, e⟩ := bce_real G (fun x => I.x13 (all13.emb x)) hG fun y => hp _
  unfold binsB
  dsimp only
  generalize k0_pay355 G (fun x => I.x13 (all13.emb x)) = idx
  generalize k0_pay354 G (fun x => I.x13 (all13.emb x)) = B at e
  have ev : ∀ (j : Fin 9) (y : S2560x128.Idx), mulf (inBin (F := Ideal) idx j.val) B y
      = (((if idx y = BitVec.ofNat 32 j.val then 1 else 0) * b y : ℝ) : EReal) := fun j y => by
    show (inBin (F := Ideal) idx j.val y : EReal) * B y = _
    rw [inBin_at, e, EReal.coe_mul]
  have hnd : bins9.Nodup := by decide
  have hmem : ∀ j : Fin 9, j ∈ bins9 := by decide
  refine ⟨fun k x => if k = 9 then M 9 x + ∑ r : Fin 2560, b (ix2 r (x 1)) else
      M k x + ∑ j : Fin 9, if k = j.castSucc then ∑ r : Fin 2560, (if idx (ix2 r (x 1)) = BitVec.ofNat 32 j.val then 1 else 0) * b (ix2 r (x 1)) else 0,
    fun k x => ?_, fun k x => ?_, fun x => ?_⟩
  · rw [put_row]
    beta_reduce
    by_cases h : k = 9
    · subst h
      rw [if_pos rfl, if_pos rfl, addCols_at, fold_rows _ _ hnd, hM, sum_real _ _ fun r => e _, Finset.sum_eq_zero, add_zero, EReal.coe_add]
      intro j _
      refine if_neg ?_
      rintro ⟨_, e⟩
      have := congrArg Fin.val e
      have hj := j.isLt
      change 9 = j.val at this
      omega
    · rw [if_neg h, if_neg h, fold_rows _ _ hnd, hM, EReal.coe_add]
      congr 1
      refine sum_real _ _ fun j => ?_
      by_cases hj : k = j.castSucc
      · rw [if_pos ⟨hmem j, hj⟩, if_pos hj]
        exact sum_real _ _ fun r => ev j _
      · rw [if_neg fun h => hj h.2, if_neg hj]; rfl
  · dsimp only
    split
    · exact add_nonneg (h0 _ _) (Finset.sum_nonneg fun _ _ => hb _)
    · refine add_nonneg (h0 _ _) (Finset.sum_nonneg fun j _ => ?_)
      split
      · refine Finset.sum_nonneg fun r _ => mul_nonneg ?_ (hb _)
        split <;> norm_num
      · exact le_rfl
  · dsimp only
    rw [if_pos rfl]
    have e1 : ∀ j : Fin 9, (if j.castSucc = (9 : Fin 10) then M 9 x + ∑ r : Fin 2560, b (ix2 r (x 1)) else
        M j.castSucc x + ∑ i : Fin 9, if j.castSucc = i.castSucc then ∑ r : Fin 2560, (if idx (ix2 r (x 1)) = BitVec.ofNat 32 i.val then 1 else 0) * b (ix2 r (x 1)) else 0)
        = M j.castSucc x + ∑ r : Fin 2560, (if idx (ix2 r (x 1)) = BitVec.ofNat 32 j.val then 1 else 0) * b (ix2 r (x 1)) := fun j => by
      rw [if_neg (by rw [nine]; exact (Fin.castSucc_lt_last j).ne)]
      congr 1
      refine (Finset.sum_eq_single j ?_ fun h' => absurd (Finset.mem_univ _) h').trans (if_pos rfl)
      intro i _ hi
      exact if_neg fun e => hi (Fin.castSucc_injective _ e).symm
    rw [Finset.sum_congr rfl fun j _ => e1 j, Finset.sum_add_distrib, Finset.sum_comm]
    exact add_le_add (hs x) (Finset.sum_le_sum fun r _ => one_bin _ _ (hb _))

/-! ## The loss -/

theorem rowSum_real (X : S16x128.Idx → Ideal .f32) (M : Fin 10 → S1x128.Idx → ℝ) (hM : ∀ j x, X ((r16 j).emb x) = ((M j x : ℝ) : EReal))
    (j : Fin 10) : rowSum X j = ((∑ c : Fin 128, M j (ix2 0 c) : ℝ) : EReal) := by
  unfold rowSum
  rw [pay2_at]
  exact sum_real _ _ fun c => hM j _

theorem rest9_real (X : S16x128.Idx → Ideal .f32) (M : Fin 10 → S1x128.Idx → ℝ) (hM : ∀ j x, X ((r16 j).emb x) = ((M j x : ℝ) : EReal)) :
    rest9 X = ((∑ j : Fin 9, ∑ c : Fin 128, M j.castSucc (ix2 0 c) : ℝ) : EReal) := by
  have : ∀ (l : List (Fin 9)) (s : ℝ), l.foldl (fun (s : Ideal .f32) j => Scalar.addf s (rowSum X j.castSucc)) ((s : ℝ) : EReal)
      = ((s + (l.map fun j => ∑ c : Fin 128, M j.castSucc (ix2 0 c)).sum : ℝ) : EReal) := fun l => by
    induction l with
    | nil => intro s; simp
    | cons j l ih =>
      intro s
      have e : Scalar.addf (((s : ℝ) : EReal) : Ideal .f32) (rowSum X j.castSucc) = ((s + ∑ c : Fin 128, M j.castSucc (ix2 0 c) : ℝ) : EReal) := by
        rw [rowSum_real X M hM, EReal.coe_add]; rfl
      rw [List.foldl_cons, e, ih, List.map_cons, List.sum_cons, add_assoc]
  have hz : (z0 : Ideal .f32) = ((0 : ℝ) : EReal) := by
    show Ideal.ofBits .f32 0#32 = _
    rw [Ideal.ofBits_zero_f32]; rfl
  unfold rest9
  rw [hz, this bins9 0, zero_add]
  congr 1

theorem sums_nonneg (X : S16x128.Idx → Ideal .f32) (hX : Below X) (k : Fin 10) : (0 : EReal) ≤ sums X k := by
  obtain ⟨M, hM, h0, hs⟩ := hX
  unfold sums
  split
  · rw [rest9_real X M hM, rowSum_real X M hM]
    show (0 : EReal) ≤ ((_ : ℝ) : EReal) - ((_ : ℝ) : EReal)
    rw [← EReal.coe_sub, Finset.sum_comm]
    exact EReal.coe_nonneg.mpr (sub_nonneg.mpr (Finset.sum_le_sum fun c _ => hs _))
  · rw [rowSum_real X M hM]
    exact EReal.coe_nonneg.mpr (Finset.sum_nonneg fun c _ => h0 _ _)

theorem weight_nonneg (c : Ideal .f32) : (0 : EReal) ≤ weight c := by
  unfold weight
  rw [show (z0 : Ideal .f32) = (0 : EReal) from Ideal.ofBits_zero_f32]
  unfold Scalar.select
  split
  · exact div_nonneg' total_pos.le (lt_max_of_lt_right tiny_pos)
  · exact le_rfl

theorem pay1_nonneg (a t n x w : Ideal .f32) (ha : (0 : EReal) ≤ a) (ht : (0 : EReal) < t) (hx : (0 : EReal) ≤ x) (hw : (0 : EReal) ≤ w) :
    (0 : EReal) ≤ k0_pay1 a t n x w := by
  have hn : (0 : EReal) < max n (Ideal.ofBits .f32 0x34000000#32) := lt_max_of_lt_right eps_pos
  have h1 : (0 : EReal) ≤ Ideal.ofBits .f32 0x3F800000#32 := by rw [one_eq]; exact zero_le_one
  exact add_nonneg (add_nonneg (mul_nonneg (div_nonneg' ha ht) h1) (mul_nonneg (div_nonneg' hx hn) h1))
    (mul_nonneg (div_nonneg' hw hn) tenth_pos.le)

/-- What the loss needs of what is carried. -/
structure Fine (C : Car Ideal) : Prop where
  x : (0 : EReal) ≤ C.x
  w : (0 : EReal) ≤ C.w
  rb : Below C.rb

theorem lossC_nonneg (C : Car Ideal) (h : Fine C) : (0 : EReal) ≤ lossC C := by
  have : ∀ (l : List (Fin 10)) (p : Ideal .f32 × Ideal .f32), (0 : EReal) ≤ p.2 → (0 : EReal) ≤ (l.foldl (fun p j =>
    (Scalar.addf p.1 (Scalar.select (Scalar.cmpf .ogt (counts C.rc j) z0) (Scalar.ofBits .f32 0x3F800000#32) z0),
      Scalar.addf p.2 (Scalar.mulf (weight (counts C.rc j)) (sums C.rb j)))) p).2 := fun l => by
    induction l with
    | nil => exact fun _ hp => hp
    | cons j l ih => exact fun p hp => ih _ (add_nonneg hp (mul_nonneg (weight_nonneg _) (sums_nonneg _ h.rb _)))
  unfold lossC
  dsimp only
  refine pay1_nonneg _ _ _ _ _ (div_nonneg' (this _ _ ?_) ?_) total_pos h.x h.w
  · exact le_of_eq Ideal.ofBits_zero_f32.symm
  · refine lt_max_of_lt_right ?_
    show (0 : EReal) < Ideal.ofBits .f32 0x3F800000#32
    rw [one_eq]; exact zero_lt_one

theorem fine_car0 : Fine (car0 (F := Ideal)) :=
  ⟨le_of_eq Ideal.ofBits_zero_f32.symm, le_of_eq Ideal.ofBits_zero_f32.symm, below_zero⟩

theorem fine_step (i : grid0.Coords) (I : Ins Ideal) (h : ∀ k, OKBox i I k) (C : Car Ideal) (hC : Fine C)
    (hn : ∀ k, (wd I.x3 i k : EReal) ≤ 0) (hp : ∀ y, (0 : EReal) < I.x13 y ∧ (I.x13 y : EReal) < 1) : Fine (stepC i I h C) := by
  have hG := maps_unit i I h hn
  unfold stepC
  generalize (maps i I h).1 = G at hG ⊢
  generalize (maps i I h).2 = R
  refine ⟨?_, ?_, below_binsB I G _ hG hp hC.rb⟩
  · exact add_nonneg hC.x (pay349_nonneg _ (mask_nonneg G) _ (pay348_nonneg _ _ _) _ _)
  · exact add_nonneg hC.w (pay350_nonneg _ (mask_nonneg G) _ _ _ _)

end Cert.KernelIdeal.Signs
end
-- ==== Proof.PI.Result.lean ====
/-
  The result of the run: the loss, reshaped to a scalar.
-/
module

public import proofs.«01_k».proof.Proof.PI.Point
public import Idealize.ShloMosaic.Lib.Pipeline.ValueKit
public import Idealize.ShloMosaic.Lib.StableHlo.RunRead
public import Idealize.ShloMosaic.Lib.Claim

@[expose] public section

set_option maxRecDepth 16384

noncomputable section

namespace Cert.KernelIdeal.Launch

open Idealize.ShloMosaic Idealize.ShloMosaic.TcCoe
open Idealize.SL Idealize.SL.Sem
open Idealize.ShloMosaic.Pipeline (Dat)
open Cert.KernelIdeal.Gen Cert.KernelIdeal.Body Cert.Runs

variable {F : FTy → Type} [FloatOps F]

variable (m : (ℓ : Loc nD τ sig) → Buf (Elt F) ℓ) (ρ : Dev nD → PrngReg)

variable (hOK : AllOK m)

/-- The array that the region leaves holds the loss. -/
theorem final (d : Dev nD) : (dats m hOK 0 d).arrAt 15 cfg0.N = fun _ => loss m hOK d := by
  refine (dats m hOK 0 d).arrAt_eq_of_after_last 15 ⟨7, by decide⟩ (by decide +kernel) _ fun j => ?_
  rw [after0_15]
  rfl

/-- The program's result holds it too. -/
theorem result (d : Dev nD) : Pipeline.afterTail₀ cfgs (dats m hOK) 0 (V0 m) [hostOps1] d main_v83 = fun _ => loss m hOK d := by
  unfold Pipeline.afterTail₀
  simp only [hostOps1, List.flatten_cons, List.flatten_nil, List.append_nil]
  after_reads_simp
  rw [show Pipeline.withArrays (cfgs 0).spec d (V0 m d) (fun w => (dats m hOK 0 d).arrAt w (cfgs 0).N) (Proc.tc.devRef main_v82)
    = fun _ => loss m hOK d from
      (Pipeline.withArrays_arr spec0 (by decide) d (V0 m d) (fun w => (dats m hOK 0 d).arrAt w (cfgs 0).N) 15).trans (final m hOK d)]
  rfl

end Cert.KernelIdeal.Launch
end
-- ==== Proof.PI.Scale.lean ====
/-
  The scale of a box's Gaussian is not above zero, and the heat map that a point reads is its image.
-/
module

public import proofs.«01_k».proof.Proof.PI.Host
public import proofs.«01_k».proof.Proof.PI.Bins
public import proofs.«01_k».proof.Proof.PI.Result
public import Idealize.ShloMosaic.Lib.StableHlo.RunRead
public import Idealize.ShloMosaic.Lib.Claim

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.Runs

variable (m : (ℓ : Loc nD τ sig) → Buf (Elt Ideal) ℓ) (c : Dev nD)

/-- A float on all of the boxes. -/
def allF (w : BitVec 32) : FVec Ideal S8x32 .f32 := broadcastInDim S8x32 ![] bcast_S_S8x32 (constant S_ .f32 w)

/-- The radius of each box's Gaussian, -/
def radius (X : FVec Ideal S8x32x4 .f32) : FVec Ideal S8x32 .f32 :=
  maximumf (Host.divf (mulf (addf (mulf (Before.fst' (Before.ext X)) (allF 0x43000000#32)) (mulf (Before.snd' (Before.ext X)) (allF 0x43000000#32)))
    (allF 0x3F000000#32)) (allF 0x40C00000#32)) (allF 0x3F333333#32)

/-- and its scale: minus one by twice the square. -/
def scale (X : FVec Ideal S8x32x4 .f32) : FVec Ideal S8x32 .f32 :=
  Host.divf (allF 0xBF800000#32) (mulf (allF 0x40000000#32) (mulf (radius X) (radius X)))

theorem V_scale : V m c main_v36 = scale (m ((c : Thread nD τ).loc main_arg3)) := by
  unfold_abbrev_sides
  after_reads_simp
  rfl

theorem minus_one : Ideal.ofBits .f32 0xBF800000#32 = -1 := by
  simp [Ideal.ofBits, Ideal.ieee]
  rw [← EReal.coe_mul]
  norm_num

theorem two_pos' : (0 : EReal) < Ideal.ofBits .f32 0x40000000#32 := by
  simp [Ideal.ofBits, Ideal.ieee]
  rw [← EReal.coe_mul]
  exact EReal.coe_pos.mpr (by norm_num)

theorem scale_nonpos (X : FVec Ideal S8x32x4 .f32) (j : S8x32.Idx) : (scale X j : EReal) ≤ 0 := by
  show Ideal.div (Ideal.ofBits .f32 0xBF800000#32) (Ideal.ofBits .f32 0x40000000#32 * ((radius X j : EReal) * radius X j)) ≤ 0
  rw [minus_one]
  exact div_neg_one (mul_nonneg two_pos'.le (sq_nonneg' _))

theorem iblk_scale (t : Fin cfg0.N) : (iblk m c 2 t : S8x32.Idx → Ideal .f32) = V m c main_v36 := by
  funext j
  blk_ext [iblk]
  · show 0 * 8 + (j 0 : ℕ) = _; omega
  · show 0 * 32 + (j 1 : ℕ) = _; omega

theorem img_mem (t : Fin cfg0.N) (y : S1x20x128x128.Idx) : ∃ i, (iblk m c 12 t : S1x20x128x128.Idx → Ideal .f32) y = m ((c : Thread nD τ).loc main_arg0) i := by
  unfold iblk
  exact ⟨_, rfl⟩

/-- The probabilities. -/
def probs (d : Dev nD) : S8x20x128x128.Idx → EReal := m ((d : Thread nD τ).loc main_arg0)

/-- They lie inside the unit interval. -/
def Inside : Prop := ∀ (d : Dev nD) i, 0 < probs m d i ∧ probs m d i < 1

theorem fine_car (hOK : AllOK m) (hI : Inside m) (d : Dev nD) : ∀ (n : ℕ) (h : n ≤ cfg0.N), Fine (carN m hOK d n h)
  | 0, _ => fine_car0
  | n + 1, h => by
    unfold carN
    refine fine_step _ _ _ _ (fine_car hOK hI d n (Nat.le_of_succ_le h)) (fun k => ?_) fun y => ?_
    · unfold wd insAt
      dsimp only
      rw [iblk_scale, V_scale]
      exact scale_nonpos _ _
    · unfold insAt
      dsimp only
      obtain ⟨i, e⟩ := img_mem m d ⟨n, h⟩ y
      rw [e]
      exact hI d i

/-- The loss is not below zero. -/
theorem loss_nonneg (hOK : AllOK m) (hI : Inside m) (d : Dev nD) : (0 : EReal) ≤ loss m hOK d :=
  lossC_nonneg _ (fine_car m hOK hI d _ _)

end Cert.KernelIdeal.Signs
end
-- ==== Proof.Holds.lean ====
/-
  The result of the kernel over the extended reals is not below zero.
-/
module

public import proofs.«01_k».proof.Proof.Frames
public import proofs.«01_k».proof.Proof.PI.Scale
public import Idealize.ShloMosaic.Lib.Pointwise

@[expose] public section

noncomputable section

namespace Cert.Proof

open Idealize.ShloMosaic Idealize.SL.Sem Idealize.ShloMosaic.TcCoe
open Cert.KernelIdeal.Launch Cert.KernelIdeal.Signs

theorem post_facts : Cert.Post_nonneg.Facts := ⟨⟩

theorem low_pos : (0 : EReal) < Ideal.ofBits .f32 0x358637BD#32 := by
  simp [Ideal.ofBits, Ideal.ieee]
  rw [← EReal.coe_mul]
  exact EReal.coe_pos.mpr (by norm_num)

theorem high_lt : Ideal.ofBits .f32 0x3F7FFFEF#32 < (1 : EReal) := by
  simp [Ideal.ofBits, Ideal.ieee]
  rw [← EReal.coe_mul]
  exact EReal.coe_lt_coe_iff.mpr (by norm_num : _ < (1 : ℝ))

theorem of_ofBool {p : Prop} [Decidable p] (h : BitVec.ofBool (decide p) = 1#1) : p := by
  by_contra hn
  rw [decide_eq_false hn] at h
  exact absurd h (by decide)

theorem inside (m : (ℓ : Loc Cert.KernelIdeal.nD Cert.KernelIdeal.τ Cert.KernelIdeal.sig) → Buf (Elt Ideal) ℓ)
    (h : Cert.Pre_KernelIdeal m) : Inside m := fun d i => by
  have e := Cert.Pre_in_range.split _ _ _ _ _ (h d)
  exact ⟨low_pos.trans_le (of_ofBool (e.1 i)), (of_ofBool (e.2.1 i) : probs m d i ≤ Ideal.ofBits .f32 0x3F7FFFEF#32).trans_lt high_lt⟩

/-- Cert.holds_KernelIdeal_nonneg: the frame, and the loss not below zero. -/
theorem holds : Cert.holds_KernelIdeal_nonneg (hPost_nonneg := post_facts) := fun m ρ h =>
  (θ_run Cert.KernelIdeal.defs _ _).mono (fun r hr c => by
    obtain ⟨⟨hq, -⟩, hp, -⟩ := hr
    refine ⟨(hq c).1, (hq c).2.1, (hq c).2.2.1, (hq c).2.2.2.1, (hq c).2.2.2.2, ?_⟩
    have e := ((hp c).2 Cert.KernelIdeal.main_v83 (Pipeline.mem_restRefs_of Cert.KernelIdeal.main_v83 (by decide) (by decide))).trans (result m (ok_ideal m h) c)
    rw [e]
    funext i
    show BitVec.ofBool (decide (Ideal.ofBits .f32 0x00000000#32 ≤ loss m (ok_ideal m h) c)) = 1#1
    rw [Ideal.ofBits_zero_f32, decide_eq_true (loss_nonneg m (ok_ideal m h) (inside m h) c)]
    rfl)
    (θ_run_and (frame_ideal m ρ h) (run_main m ρ (ok_ideal m h)))

end Cert.Proof

end
-- ==== Proof.PI.Drawn.lean ====
/-
  The two maps of an image at one cell: the heat map holds the largest of what the boxes put there, and a regression map
  what the last box at the cell puts there.
-/
module

public import proofs.«01_k».proof.Proof.PI.Bins

@[expose] public section

set_option maxRecDepth 16384

noncomputable section

namespace Cert.KernelIdeal.Signs

open Idealize.ShloMosaic Idealize.ShloMosaic.TcCoe
open Cert.KernelIdeal.Gen Cert.KernelIdeal.Body Cert.Runs

/-! ## A rectangle at one index -/

theorem put_in {s : Shape} {V : Type} (X : s.Idx → V) (off size : Fin s.rank → ℕ) (inb) (w) (y : s.Idx)
    (x : (Rect.unit (s := s) off size inb).shape.Idx) (hx : ∀ a, (y a).val = off a + (x a).val) :
    put X (Rect.unit (s := s) off size inb) w y = w x := by
  have e : (Rect.unit (s := s) off size inb).emb x = y := by
    funext a
    apply Fin.ext
    show off a + 1 * (x a).val = (y a).val
    rw [hx a, one_mul]
  rw [← e]
  exact put_emb X (Rect.unit (s := s) off size inb) w x

theorem put_out {s : Shape} {V : Type} (X : s.Idx → V) (off size : Fin s.rank → ℕ) (inb) (w) (y : s.Idx) (a : Fin s.rank)
    (h : (y a).val < off a ∨ off a + size a ≤ (y a).val) : put X (Rect.unit (s := s) off size inb) w y = X y := by
  refine put_off X _ w y ?_
  rintro ⟨x, rfl⟩
  have h1 : ((Rect.unit (s := s) off size inb).emb x a).val = off a + 1 * (x a).val := rfl
  have h2 : (x a).val < size a := (x a).isLt
  omega

/-! ## The payloads at one index -/

/-- A natural number made a word and then a float. -/
theorem sitofp_nat (n : ℕ) (h : n < 128) : (FloatOps.sitofp .f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_eq_toNat_of_lt] <;> simp only [BitVec.toNat_ofNat] <;> omega
  rw [this]; norm_cast

theorem cmpi_eq_one (a b : BitVec 32) : IntOp.cmpi .eq a b = 1#1 ↔ a = b := by
  simp only [IntOp.cmpi]
  by_cases h : a = b
  · subst h; simp
  · have : (a == b) = false := by simpa using h
    rw [this]; simp [h]

theorem cmpi_ne_one (a b : BitVec 32) : IntOp.cmpi .ne a b = 1#1 ↔ a ≠ b := by
  simp only [IntOp.cmpi]
  by_cases h : a = b
  · subst h; simp
  · have : (a != b) = true := by simpa using h
    rw [this]; simp [h]

theorem andi_one (a b : BitVec 1) : IntOp.andi a b = 1#1 ↔ a = 1#1 ∧ b = 1#1 := by
  revert a b; decide

theorem select_if {α : Type} (b : BitVec 1) (P : Prop) [Decidable P] (h : b = 1#1 ↔ P) (x y : α) : Scalar.select b x y = if P then x else y := by
  show (if b = 1#1 then x else y) = _
  by_cases hp : P
  · rw [if_pos hp, if_pos (h.mpr hp)]
  · rw [if_neg hp, if_neg fun e => hp (h.mp e)]

/-- The Gaussian of a box in row `r` of its 80 rows and column `x`. -/
def bellRow (cxf cyf nri : EReal) (top : BitVec 32) (r x : ℕ) : EReal :=
  Ideal.exp ((((r : ℝ) : EReal) - (cyf - ((top.toInt : ℝ) : EReal))) * (((r : ℝ) : EReal) - (cyf - ((top.toInt : ℝ) : EReal))) * nri
    + (((x : ℝ) : EReal) - cxf) * (((x : ℝ) : EReal) - cxf) * nri)

theorem pay46_at (cx nri cy : Elt Ideal .f32) (top : Elt Ideal .i32) (g : Vec Ideal S1x80x128 .f32) (y) :
    k0_pay46 (k0_pay41 (F := Ideal)) (k0_pay42 (F := Ideal)) cx nri (k0_pay45 cy top) g y
      = max (g y) (bellRow cx cy nri top (y 1).val (y 2).val) := by
  have h1 : (y 1).val < 80 := (y 1).isLt
  have h2 : (y 2).val < 128 := (y 2).isLt
  unfold bellRow
  rw [← sitofp_nat _ (show (y 1).val < 128 by omega), ← sitofp_nat _ h2]
  pointwise [k0_pay46, k0_pay41, k0_pay42, k0_pay45]

theorem pay48_at (cx : Elt Ideal .i32) (g : Vec Ideal S1x1x128 .f32) (y) :
    k0_pay48 lane cx g y = if BitVec.ofNat 32 (y 2).val = cx then 1 else g y := by
  rw [← select_if (IntOp.cmpi .eq (BitVec.ofNat 32 (y 2).val) cx) _ (cmpi_eq_one _ _), ← one_eq]
  pointwise [k0_pay48, lane, k0_pay47]

theorem setter (a cx win : BitVec 32) :
    IntOp.andi (IntOp.cmpi .eq a cx) (Scalar.cmpi .ne win 0#32) = 1#1 ↔ a = cx ∧ win ≠ 0#32 := by
  rw [andi_one, cmpi_eq_one]
  exact and_congr_right fun _ => cmpi_ne_one _ _

theorem pay51_at (cx win : Elt Ideal .i32) (g : Vec Ideal S1x1x128 .f32) (v : Elt Ideal .f32) (y) :
    k0_pay51 (k0_pay50 lane cx win g v) y = if BitVec.ofNat 32 (y 2).val = cx ∧ win ≠ 0#32 then v else g y := by
  rw [← select_if _ _ (setter _ _ _)]
  pointwise [k0_pay51, k0_pay50, k0_pay49, lane, k0_pay47]

theorem pay52_at (cx win : Elt Ideal .i32) (g : Vec Ideal S1x1x128 .f32) (v : Elt Ideal .f32) (y) :
    k0_pay52 (k0_pay49 lane cx win) g v y = if BitVec.ofNat 32 (y 2).val = cx ∧ win ≠ 0#32 then v else g y := by
  rw [← select_if _ _ (setter _ _ _)]
  pointwise [k0_pay52, k0_pay49, lane, k0_pay47]

theorem pay53_at (cx win : Elt Ideal .i32) (g : Vec Ideal S1x1x128 .f32) (v : Elt Ideal .f32) (y) :
    k0_pay53 (k0_pay49 lane cx win) g v y = if BitVec.ofNat 32 (y 2).val = cx ∧ win ≠ 0#32 then v else g y := by
  rw [← select_if _ _ (setter _ _ _)]
  pointwise [k0_pay53, k0_pay49, lane, k0_pay47]

theorem pay54_at (cx win : Elt Ideal .i32) (g : Vec Ideal S1x1x128 .f32) (v : Elt Ideal .f32) (y) :
    k0_pay54 (k0_pay49 lane cx win) g v y = if BitVec.ofNat 32 (y 2).val = cx ∧ win ≠ 0#32 then v else g y := by
  rw [← select_if _ _ (setter _ _ _)]
  pointwise [k0_pay54, k0_pay49, lane, k0_pay47]

/-! ## One box -/

theorem word_eq (a : BitVec 32) (n : ℕ) (h : n < 128) : a = BitVec.ofNat 32 n ↔ a.toNat = n := by
  constructor
  · rintro rfl; simp only [BitVec.toNat_ofNat]; omega
  · rintro rfl; simp

attribute [local irreducible] put k0_pay46 k0_pay48 k0_pay45 k0_pay49 k0_pay50 k0_pay51 k0_pay52 k0_pay53 k0_pay54 k0_pay41 k0_pay42

theorem gauss_at (i : grid0.Coords) (I : Ins Ideal) (k : Fin 32) (h : OKBox i I k) (g : S20x128x128.Idx → Ideal .f32) (y : S20x128x128.Idx) :
    gauss i I k h g y = if (wd I.x10 i k).toNat = (y 0).val ∧ (wd I.x12 i k).toNat ≤ (y 1).val ∧ (y 1).val < (wd I.x12 i k).toNat + 80
      then max (g y) (bellRow (wd I.x1 i k) (wd I.x2 i k) (wd I.x3 i k) (wd I.x12 i k) ((y 1).val - (wd I.x12 i k).toNat) (y 2).val) else g y := by
  have y0 : (y 0).val < 20 := (y 0).isLt
  have y2 : (y 2).val < 128 := (y 2).isLt
  unfold gauss
  split
  · next hc =>
    obtain ⟨h0, h1, h2⟩ := hc
    let x : S1x80x128.Idx := ix3 (0 : Fin 1) (⟨(y 1).val - (wd I.x12 i k).toNat, by omega⟩ : Fin 80) (⟨(y 2).val, y2⟩ : Fin 128)
    have hx : ∀ a, (y a).val = k0_off2 (wd I.x10 i k) (wd I.x12 i k) a + (x a).val := by
      intro a
      fin_cases a
      · show (y 0).val = (wd I.x10 i k).toNat + 0; omega
      · show (y 1).val = (wd I.x12 i k).toNat + ((y 1).val - (wd I.x12 i k).toNat); omega
      · show (y 2).val = 0 + (y 2).val; omega
    have he : (rG (wd I.x10 i k) (wd I.x12 i k) h.rows).emb x = y := by
      funext a
      apply Fin.ext
      show k0_off2 (wd I.x10 i k) (wd I.x12 i k) a + 1 * (x a).val = (y a).val
      rw [hx a, one_mul]
    refine (put_in _ _ _ _ _ y x hx).trans ?_
    rw [pay46_at, he]
    rfl
  · next hc =>
    by_cases h0 : (wd I.x10 i k).toNat = (y 0).val
    · refine put_out _ _ _ _ _ y 1 ?_
      show (y 1).val < (wd I.x12 i k).toNat ∨ (wd I.x12 i k).toNat + 80 ≤ (y 1).val
      by_contra hh
      exact hc ⟨h0, by omega, by omega⟩
    · refine put_out _ _ _ _ _ y 0 ?_
      show (y 0).val < (wd I.x10 i k).toNat ∨ (wd I.x10 i k).toNat + 1 ≤ (y 0).val
      omega

theorem peak_at (i : grid0.Coords) (I : Ins Ideal) (k : Fin 32) (h : OKBox i I k) (g : S20x128x128.Idx → Ideal .f32) (y : S20x128x128.Idx) :
    peak i I k h g y = if (wd I.x10 i k).toNat = (y 0).val ∧ (wd I.x9 i k).toNat = (y 1).val ∧ BitVec.ofNat 32 (y 2).val = wd I.x8 i k
      then 1 else g y := by
  have y0 : (y 0).val < 20 := (y 0).isLt
  have y2 : (y 2).val < 128 := (y 2).isLt
  unfold peak
  by_cases hc : (wd I.x10 i k).toNat = (y 0).val ∧ (wd I.x9 i k).toNat = (y 1).val
  · obtain ⟨h0, h1⟩ := hc
    let x : S1x1x128.Idx := ix3 (0 : Fin 1) (0 : Fin 1) (⟨(y 2).val, y2⟩ : Fin 128)
    have hx : ∀ a, (y a).val = k0_off3 (wd I.x9 i k) (wd I.x10 i k) a + (x a).val := by
      intro a
      fin_cases a
      · show (y 0).val = (wd I.x10 i k).toNat + 0; omega
      · show (y 1).val = (wd I.x9 i k).toNat + 0; omega
      · show (y 2).val = 0 + (y 2).val; omega
    have he : (rC (wd I.x9 i k) (wd I.x10 i k) h.ctr).emb x = y := by
      funext a
      apply Fin.ext
      show k0_off3 (wd I.x9 i k) (wd I.x10 i k) a + 1 * (x a).val = (y a).val
      rw [hx a, one_mul]
    refine (put_in _ _ _ _ _ y x hx).trans ?_
    rw [pay48_at, he]
    refine if_congr ?_ rfl rfl
    exact ⟨fun e => ⟨h0, h1, e⟩, fun e => e.2.2⟩
  · rw [if_neg fun e => hc ⟨e.1, e.2.1⟩]
    by_cases h0 : (wd I.x10 i k).toNat = (y 0).val
    · refine put_out _ _ _ _ _ y 1 ?_
      show (y 1).val < (wd I.x9 i k).toNat ∨ (wd I.x9 i k).toNat + 1 ≤ (y 1).val
      by_contra hh
      exact hc ⟨h0, by omega⟩
    · refine put_out _ _ _ _ _ y 0 ?_
      show (y 0).val < (wd I.x10 i k).toNat ∨ (wd I.x10 i k).toNat + 1 ≤ (y 0).val
      omega

/-- What a box puts into the heat map at class `c`, row `y` and column `x`; `e` is its Gaussian there. -/
def mark (lab cx cy top : BitVec 32) (e : EReal) (c y x : ℕ) : EReal :=
  if lab = BitVec.ofNat 32 c then
    if BitVec.ofNat 32 y = cy ∧ BitVec.ofNat 32 x = cx then 1
    else if top.toNat ≤ y ∧ y < top.toNat + 80 then e else 0
  else 0

/-- The same of box `k` of a point. -/
def markI (i : grid0.Coords) (I : Ins Ideal) (y : S20x128x128.Idx) (k : Fin 32) : EReal :=
  mark (wd I.x10 i k) (wd I.x8 i k) (wd I.x9 i k) (wd I.x12 i k)
    (bellRow (wd I.x1 i k) (wd I.x2 i k) (wd I.x3 i k) (wd I.x12 i k) ((y 1).val - (wd I.x12 i k).toNat) (y 2).val) (y 0).val (y 1).val (y 2).val

theorem bellRow_unit (cxf cyf nri : EReal) (top : BitVec 32) (r x : ℕ) (hn : nri ≤ 0) : Unit01 (bellRow cxf cyf nri top r x) := by
  unfold bellRow
  exact exp_unit (add_nonpos (mul_nonpos' (sq_nonneg' _) hn) (mul_nonpos' (sq_nonneg' _) hn))

theorem mark_unit (lab cx cy top : BitVec 32) (e : EReal) (he : Unit01 e) (c y x : ℕ) : Unit01 (mark lab cx cy top e c y x) := by
  unfold mark
  split
  · split
    · exact ⟨zero_le_one, le_rfl⟩
    · split
      · exact he
      · exact ⟨le_rfl, zero_le_one⟩
  · exact ⟨le_rfl, zero_le_one⟩

theorem box_heat (i : grid0.Coords) (I : Ins Ideal) (k : Fin 32) (h : OKBox i I k) (hn : (wd I.x3 i k : EReal) ≤ 0)
    (g : S20x128x128.Idx → Ideal .f32) (hg : ∀ y, Unit01 (g y)) (y : S20x128x128.Idx) :
    (peak i I k h (gauss i I k h g) y : EReal) = max (g y) (markI i I y k) := by
  have y0 : (y 0).val < 20 := (y 0).isLt
  have y1 : (y 1).val < 128 := (y 1).isLt
  have hb := bellRow_unit (wd I.x1 i k) (wd I.x2 i k) (wd I.x3 i k) (wd I.x12 i k) ((y 1).val - (wd I.x12 i k).toNat) (y 2).val hn
  rw [peak_at, gauss_at]
  unfold markI mark
  generalize bellRow (wd I.x1 i k) (wd I.x2 i k) (wd I.x3 i k) (wd I.x12 i k) ((y 1).val - (wd I.x12 i k).toNat) (y 2).val = e at hb ⊢
  have el : (wd I.x10 i k = BitVec.ofNat 32 (y 0).val) ↔ (wd I.x10 i k).toNat = (y 0).val := word_eq _ _ (by omega)
  have er : (BitVec.ofNat 32 (y 1).val = wd I.x9 i k) ↔ (wd I.x9 i k).toNat = (y 1).val := eq_comm.trans (word_eq _ _ y1)
  by_cases h0 : (wd I.x10 i k).toNat = (y 0).val
  · rw [if_pos (el.mpr h0)]
    by_cases h1 : (wd I.x9 i k).toNat = (y 1).val ∧ BitVec.ofNat 32 (y 2).val = wd I.x8 i k
    · rw [if_pos ⟨h0, h1⟩, if_pos ⟨er.mpr h1.1, h1.2⟩]
      exact (max_eq_right (hg y).2).symm
    · have h3 : ¬ (BitVec.ofNat 32 (y 1).val = wd I.x9 i k ∧ BitVec.ofNat 32 (y 2).val = wd I.x8 i k) := fun e => h1 ⟨er.mp e.1, e.2⟩
      rw [if_neg fun e => h1 e.2, if_neg h3]
      by_cases h2 : (wd I.x12 i k).toNat ≤ (y 1).val ∧ (y 1).val < (wd I.x12 i k).toNat + 80
      · rw [if_pos ⟨h0, h2⟩, if_pos h2]
      · have h4 : ¬ ((wd I.x10 i k).toNat = (y 0).val ∧ (wd I.x12 i k).toNat ≤ (y 1).val ∧ (y 1).val < (wd I.x12 i k).toNat + 80) := fun e => h2 e.2
        rw [if_neg h4, if_neg h2]
        exact (max_eq_left (hg y).1).symm
  · have h5 : ¬ wd I.x10 i k = BitVec.ofNat 32 (y 0).val := fun e => h0 (el.mp e)
    have h6 : ¬ ((wd I.x10 i k).toNat = (y 0).val ∧ (wd I.x12 i k).toNat ≤ (y 1).val ∧ (y 1).val < (wd I.x12 i k).toNat + 80) := fun e => h0 e.1
    rw [if_neg fun e => h0 e.1, if_neg h6, if_neg h5]
    exact (max_eq_left (hg y).1).symm

/-! ## All boxes -/

theorem foldl_max_le {ι : Type} (f : ι → EReal) (l : List ι) (s b : EReal) :
    l.foldl (fun s k => max s (f k)) s ≤ b ↔ s ≤ b ∧ ∀ k ∈ l, f k ≤ b := by
  induction l generalizing s with
  | nil => simp
  | cons k l ih =>
    rw [List.foldl_cons, ih]
    simp only [max_le_iff, List.mem_cons, forall_eq_or_imp]
    tauto

theorem mem_boxes : ∀ k : Fin 32, k ∈ boxes := by decide

attribute [local irreducible] gauss peak reg0 reg1 reg2 reg3

theorem fold_heat (i : grid0.Coords) (I : Ins Ideal) (h : ∀ k, OKBox i I k) (hn : ∀ k, (wd I.x3 i k : EReal) ≤ 0) (l : List (Fin 32)) :
    ∀ p : (S20x128x128.Idx → Ideal .f32) × (S4x128x128.Idx → Ideal .f32), (∀ y, Unit01 (p.1 y)) → ∀ y,
      ((l.foldl (boxM i I h) p).1 y : EReal) = l.foldl (fun s k => max s (markI i I y k)) (p.1 y) := by
  induction l with
  | nil => intro p hp y; rfl
  | cons k l ih =>
    intro p hp y
    rw [List.foldl_cons, List.foldl_cons]
    refine (ih (boxM i I h p k) ?_ y).trans ?_
    · intro y
      rw [boxM_fst]
      exact peak_unit i I k (h k) _ (gauss_unit i I k (h k) _ (hn k) hp) y
    · rw [boxM_fst, box_heat i I k (h k) (hn k) p.1 hp y]

/-- The heat map at one cell: the largest of what the boxes put there. -/
theorem heat_at (i : grid0.Coords) (I : Ins Ideal) (h : ∀ k, OKBox i I k) (hn : ∀ k, (wd I.x3 i k : EReal) ≤ 0) (y : S20x128x128.Idx) :
    ((maps i I h).1 y : EReal) = Finset.fold max ⊥ (markI i I y) Finset.univ := by
  unfold maps
  rw [fold_heat i I h hn boxes _ zero_unit y]
  have hz : (k0_pay43 (F := Ideal) y : EReal) = 0 := by pointwise [k0_pay43]
  refine eq_of_forall_ge_iff fun b => ?_
  show boxes.foldl (fun s k => max s (markI i I y k)) (k0_pay43 (F := Ideal) y : EReal) ≤ b ↔ _
  rw [foldl_max_le, Finset.fold_max_le, hz]
  constructor
  · exact fun e => ⟨bot_le, fun k _ => e.2 k (mem_boxes k)⟩
  · intro e
    refine ⟨le_trans ?_ (e.2 0 (Finset.mem_univ _)), fun k _ => e.2 k (Finset.mem_univ _)⟩
    exact (mark_unit _ _ _ _ _ (bellRow_unit _ _ _ _ _ _ (hn 0)) _ _ _).1

/-! ## The regression maps -/

theorem put_reg (off : Fin 3 → ℕ) (ch : Fin 4) (cy : BitVec 32) (hoff : off = ![ch.val, cy.toNat, 0]) (inb) (r : S4x128x128.Idx → Ideal .f32)
    (w : (S1x1x128.Idx → Ideal .f32)) (C : ℕ → Prop) [DecidablePred C] (v : Ideal .f32)
    (hw : ∀ y : S1x1x128.Idx, w y = if C (y 2).val then v else r ((Rect.unit (s := S4x128x128) off S1x1x128.size inb).emb y)) (y : S4x128x128.Idx) :
    put r (Rect.unit (s := S4x128x128) off S1x1x128.size inb) w y
      = if (y 0).val = ch.val ∧ BitVec.ofNat 32 (y 1).val = cy ∧ C (y 2).val then v else r y := by
  subst hoff
  have y0 : (y 0).val < 4 := (y 0).isLt
  have y1 : (y 1).val < 128 := (y 1).isLt
  have y2 : (y 2).val < 128 := (y 2).isLt
  have er : (BitVec.ofNat 32 (y 1).val = cy) ↔ cy.toNat = (y 1).val := eq_comm.trans (word_eq _ _ y1)
  by_cases hc : (y 0).val = ch.val ∧ cy.toNat = (y 1).val
  · obtain ⟨h0, h1⟩ := hc
    let x : S1x1x128.Idx := ix3 (0 : Fin 1) (0 : Fin 1) (⟨(y 2).val, y2⟩ : Fin 128)
    have hx : ∀ a, (y a).val = (![ch.val, cy.toNat, 0] : Fin 3 → ℕ) a + (x a).val := by
      intro a
      fin_cases a
      · show (y 0).val = ch.val + 0; omega
      · show (y 1).val = cy.toNat + 0; omega
      · show (y 2).val = 0 + (y 2).val; omega
    have he : (Rect.unit (s := S4x128x128) ![ch.val, cy.toNat, 0] S1x1x128.size inb).emb x = y := by
      funext a
      apply Fin.ext
      show (![ch.val, cy.toNat, 0] : Fin 3 → ℕ) a + 1 * (x a).val = (y a).val
      rw [hx a, one_mul]
    refine (put_in _ _ _ _ w y x hx).trans ?_
    rw [hw, he]
    refine if_congr ?_ rfl rfl
    exact ⟨fun e => ⟨h0, er.mpr h1, e⟩, fun e => e.2.2⟩
  · rw [if_neg fun e => hc ⟨e.1, er.mp e.2.1⟩]
    by_cases h0 : (y 0).val = ch.val
    · refine put_out _ _ _ _ _ y 1 ?_
      show (y 1).val < cy.toNat ∨ cy.toNat + 1 ≤ (y 1).val
      by_contra hh
      exact hc ⟨h0, by omega⟩
    · refine put_out _ _ _ _ _ y 0 ?_
      show (y 0).val < ch.val ∨ ch.val + 1 ≤ (y 0).val
      omega

attribute [local semireducible] reg0 reg1 reg2 reg3

/-- Box `k` sets the cell. -/
def Sets (i : grid0.Coords) (I : Ins Ideal) (y : S4x128x128.Idx) (k : Fin 32) : Prop :=
  BitVec.ofNat 32 (y 1).val = wd I.x9 i k ∧ BitVec.ofNat 32 (y 2).val = wd I.x8 i k ∧ wd I.x11 i k ≠ 0#32

instance (i : grid0.Coords) (I : Ins Ideal) (y : S4x128x128.Idx) : DecidablePred (Sets i I y) := fun k => by unfold Sets; infer_instance

/-- The four targets of box `k`. -/
def targetsI (i : grid0.Coords) (I : Ins Ideal) (k : Fin 32) (c : Fin 4) : EReal :=
  ![(wd I.x4 i k : EReal), wd I.x5 i k, wd I.x6 i k, wd I.x7 i k] c

variable (i : grid0.Coords) (I : Ins Ideal) (k : Fin 32) (h : OKBox i I k) (r : S4x128x128.Idx → Ideal .f32) (y : S4x128x128.Idx)

theorem reg0_at : reg0 i I k h r y = if (y 0).val = 0 ∧ Sets i I y k then wd I.x4 i k else r y := by
  unfold reg0
  exact put_reg _ 0 _ rfl _ r _ (fun n => BitVec.ofNat 32 n = wd I.x8 i k ∧ wd I.x11 i k ≠ 0#32) _ (fun x => pay51_at _ _ _ _ x) y
theorem reg1_at : reg1 i I k h r y = if (y 0).val = 1 ∧ Sets i I y k then wd I.x5 i k else r y := by
  unfold reg1
  exact put_reg _ 1 _ rfl _ r _ (fun n => BitVec.ofNat 32 n = wd I.x8 i k ∧ wd I.x11 i k ≠ 0#32) _ (fun x => pay52_at _ _ _ _ x) y
theorem reg2_at : reg2 i I k h r y = if (y 0).val = 2 ∧ Sets i I y k then wd I.x6 i k else r y := by
  unfold reg2
  exact put_reg _ 2 _ rfl _ r _ (fun n => BitVec.ofNat 32 n = wd I.x8 i k ∧ wd I.x11 i k ≠ 0#32) _ (fun x => pay53_at _ _ _ _ x) y
theorem reg3_at : reg3 i I k h r y = if (y 0).val = 3 ∧ Sets i I y k then wd I.x7 i k else r y := by
  unfold reg3
  exact put_reg _ 3 _ rfl _ r _ (fun n => BitVec.ofNat 32 n = wd I.x8 i k ∧ wd I.x11 i k ≠ 0#32) _ (fun x => pay54_at _ _ _ _ x) y

attribute [local irreducible] reg0 reg1 reg2 reg3

theorem box_reg : (reg3 i I k h (reg2 i I k h (reg1 i I k h (reg0 i I k h r))) y : EReal)
    = if Sets i I y k then targetsI i I k ⟨(y 0).val, (y 0).isLt⟩ else r y := by
  rw [reg3_at, reg2_at, reg1_at, reg0_at]
  unfold targetsI
  by_cases hs : Sets i I y k
  · simp only [hs, and_true, if_true]
    obtain ⟨c, hc⟩ : ∃ c : Fin 4, (y 0).val = c.val := ⟨⟨(y 0).val, (y 0).isLt⟩, rfl⟩
    have : (⟨(y 0).val, (y 0).isLt⟩ : Fin 4) = c := Fin.ext hc
    rw [this, hc]
    fin_cases c <;> rfl
  · simp only [hs, and_false, if_false]

theorem boxM_snd (h : ∀ k, OKBox i I k) (p : (S20x128x128.Idx → Ideal .f32) × (S4x128x128.Idx → Ideal .f32)) :
    (boxM i I h p k).2 = reg3 i I k (h k) (reg2 i I k (h k) (reg1 i I k (h k) (reg0 i I k (h k) p.2))) := by
  unfold boxM
  rfl

theorem fold_reg (h : ∀ k, OKBox i I k) (l : List (Fin 32)) : ∀ p : (S20x128x128.Idx → Ideal .f32) × (S4x128x128.Idx → Ideal .f32),
    ((l.foldl (boxM i I h) p).2 y : EReal)
      = l.foldl (fun s k => if Sets i I y k then targetsI i I k ⟨(y 0).val, (y 0).isLt⟩ else s) (p.2 y : EReal) := by
  induction l with
  | nil => intro p; rfl
  | cons k l ih =>
    intro p
    rw [List.foldl_cons, List.foldl_cons]
    refine (ih (boxM i I h p k)).trans ?_
    rw [boxM_snd, box_reg]

theorem foldl_one {ι : Type} [DecidableEq ι] (C : ι → Prop) [DecidablePred C] (v : ι → EReal) (hC : ∀ a b, C a → C b → a = b) (l : List ι)
    (hl : l.Nodup) (s : EReal) : l.foldl (fun s k => if C k then v k else s) s = if ∃ k ∈ l, C k then (l.map fun k => if C k then v k else 0).sum else s := by
  induction l generalizing s with
  | nil => simp
  | cons a l ih =>
    obtain ⟨ha, hl⟩ := List.nodup_cons.mp hl
    rw [List.foldl_cons, ih hl, List.map_cons, List.sum_cons]
    by_cases hc : C a
    · have hn : ∀ k ∈ l, ¬ C k := fun k hk e => ha (hC _ _ hc e ▸ hk)
      have h0 : (l.map fun k => if C k then v k else 0).sum = 0 := by
        refine List.sum_eq_zero fun x hx => ?_
        obtain ⟨k, hk, rfl⟩ := List.mem_map.mp hx
        exact if_neg (hn k hk)
      rw [if_neg (by rintro ⟨k, hk, e⟩; exact hn k hk e), if_pos hc, if_pos ⟨a, List.mem_cons_self .., hc⟩, h0, add_zero, if_pos hc]
    · rw [if_neg hc, if_neg hc, zero_add]
      refine if_congr ?_ rfl rfl
      simp [hc]

/-- A regression map at one cell, where at most one box sets the cell. -/
theorem reg_at (h : ∀ k, OKBox i I k) (hU : ∀ a b, Sets i I y a → Sets i I y b → a = b) :
    ((maps i I h).2 y : EReal) = ∑ k : Fin 32, if Sets i I y k then targetsI i I k ⟨(y 0).val, (y 0).isLt⟩ else 0 := by
  unfold maps
  rw [fold_reg]
  have hz : (k0_pay44 (F := Ideal) y : EReal) = 0 := by pointwise [k0_pay44]
  rw [foldl_one (Sets i I y) _ hU boxes (by decide)]
  have hs : (boxes.map fun k => if Sets i I y k then targetsI i I k ⟨(y 0).val, (y 0).isLt⟩ else 0).sum
      = ∑ k : Fin 32, if Sets i I y k then targetsI i I k ⟨(y 0).val, (y 0).isLt⟩ else 0 := by
    have hb : boxes = List.finRange 32 := by decide
    rw [hb, ← List.sum_ofFn, List.ofFn_eq_map]
  split
  · exact hs
  · next hn =>
    show (k0_pay44 (F := Ideal) y : EReal) = _
    rw [hz]
    refine (Finset.sum_eq_zero fun k _ => if_neg fun e => hn ⟨k, mem_boxes k, e⟩).symm

end Cert.KernelIdeal.Signs
end
-- ==== Proof.PI.Tables.lean ====
/-
  The twelve tables of the boxes that the kernel reads, as functions of the boxes, at one box of one image.
-/
module

public import proofs.«01_k».proof.Proof.PI.Scale
public import proofs.«01_k».proof.Proof.PI.Drawn

@[expose] public section

set_option maxRecDepth 16384

noncomputable section

namespace Cert.KernelIdeal.Before

open Idealize.ShloMosaic Idealize.ShloMosaic.TcCoe
open Idealize.ShloMosaic.Tactic Idealize.ShloMosaic.StableHlo Idealize.SL.Sem
open Cert.KernelIdeal.Gen Cert.KernelIdeal.Body Cert.KernelIdeal.Launch Cert.KernelIdeal.Signs Cert.Runs

/-- No later box of the image has its centre in the same cell. -/
def last (X : FVec Ideal S8x32x4 .f32) : IVec S8x32 1 :=
  noti (Host.reduce IntOp.ori (andi (andi
      (cmpi .eq (broadcastInDim S8x32x32 ![0, 1, 2] bcast_S8x32x1_S8x32x32_0_1_2 (broadcastInDim S8x32x1 ![0, 1] bcast_S8x32_S8x32x1_0_1 (colC X)))
        (broadcastInDim S8x32x32 ![0, 1, 2] bcast_S8x1x32_S8x32x32_0_1_2 (broadcastInDim S8x1x32 ![0, 2] bcast_S8x32_S8x1x32_0_2 (colC X))))
      (cmpi .eq (broadcastInDim S8x32x32 ![0, 1, 2] bcast_S8x32x1_S8x32x32_0_1_2 (broadcastInDim S8x32x1 ![0, 1] bcast_S8x32_S8x32x1_0_1 (rowC X)))
        (broadcastInDim S8x32x32 ![0, 1, 2] bcast_S8x1x32_S8x32x32_0_1_2 (broadcastInDim S8x1x32 ![0, 2] bcast_S8x32_S8x1x32_0_2 (rowC X)))))
    (broadcastInDim S8x32x32 ![0, 1, 2] bcast_S1x32x32_S8x32x32_0_1_2 (broadcastInDim S1x32x32 ![1, 2] bcast_S32x32_S1x32x32_1_2
      (cmpi .sgt (broadcastInDim S32x32 ![0, 1] bcast_S1x32_S32x32_0_1 (broadcastInDim S1x32 ![1] bcast_S32_S1x32_1 (iotaInDim S32 32 0)))
        (broadcastInDim S32x32 ![0, 1] bcast_S32x1_S32x32_0_1 (broadcastInDim S32x1 ![0] bcast_S32_S32x1_0 (iotaInDim S32 32 0)))))))
    (constantI S_ 1 0#1) reducesTo_S8x32x32_S8x32_d2 h_S_)

/-- The offset of each centre in its cell. -/
def offs (X : FVec Ideal S8x32x4 .f32) : FVec Ideal S8x32x2 .f32 := subf (mid X) (sitofp .f32 (cell X))

variable (m : (ℓ : Loc nD τ sig) → Buf (Elt Ideal) ℓ) (c : Dev nD)

theorem V_cx : V m c main_v38 = colC (F := Ideal) (m ((c : Thread nD τ).loc main_arg3)) := by
  unfold_abbrev_sides
  after_reads_simp
  rfl

theorem V_cxf : V m c main_v71 = fst' (mid (F := Ideal) (m ((c : Thread nD τ).loc main_arg3))) := by
  unfold_abbrev_sides
  after_reads_simp
  rfl

theorem V_cyf : V m c main_v73 = snd' (mid (F := Ideal) (m ((c : Thread nD τ).loc main_arg3))) := by
  unfold_abbrev_sides
  after_reads_simp
  rfl

theorem V_ox : V m c main_v75 = fst' (offs (m ((c : Thread nD τ).loc main_arg3))) := by
  unfold_abbrev_sides
  after_reads_simp
  rfl

theorem V_oy : V m c main_v77 = snd' (offs (m ((c : Thread nD τ).loc main_arg3))) := by
  unfold_abbrev_sides
  after_reads_simp
  rfl

theorem V_bw : V m c main_v79 = fst' (ext (F := Ideal) (m ((c : Thread nD τ).loc main_arg3))) := by
  unfold_abbrev_sides
  after_reads_simp
  rfl

theorem V_bh : V m c main_v81 = snd' (ext (F := Ideal) (m ((c : Thread nD τ).loc main_arg3))) := by
  unfold_abbrev_sides
  after_reads_simp
  rfl

theorem V_win : V m c main_v63 = extui 32 (last (m ((c : Thread nD τ).loc main_arg3))) natLt_1_32 := by
  unfold_abbrev_sides
  after_reads_simp
  rfl

theorem iblk_cxf (t : Fin cfg0.N) : (iblk m c 0 t : S8x32.Idx → Ideal .f32) = V m c main_v71 := by
  funext j
  blk_ext [iblk]
  · show 0 * 8 + (j 0 : ℕ) = _; omega
  · show 0 * 32 + (j 1 : ℕ) = _; omega

theorem iblk_cyf (t : Fin cfg0.N) : (iblk m c 1 t : S8x32.Idx → Ideal .f32) = V m c main_v73 := by
  funext j
  blk_ext [iblk]
  · show 0 * 8 + (j 0 : ℕ) = _; omega
  · show 0 * 32 + (j 1 : ℕ) = _; omega

theorem iblk_ox (t : Fin cfg0.N) : (iblk m c 3 t : S8x32.Idx → Ideal .f32) = V m c main_v75 := by
  funext j
  blk_ext [iblk]
  · show 0 * 8 + (j 0 : ℕ) = _; omega
  · show 0 * 32 + (j 1 : ℕ) = _; omega

theorem iblk_oy (t : Fin cfg0.N) : (iblk m c 4 t : S8x32.Idx → Ideal .f32) = V m c main_v77 := by
  funext j
  blk_ext [iblk]
  · show 0 * 8 + (j 0 : ℕ) = _; omega
  · show 0 * 32 + (j 1 : ℕ) = _; omega

theorem iblk_bw (t : Fin cfg0.N) : (iblk m c 5 t : S8x32.Idx → Ideal .f32) = V m c main_v79 := by
  funext j
  blk_ext [iblk]
  · show 0 * 8 + (j 0 : ℕ) = _; omega
  · show 0 * 32 + (j 1 : ℕ) = _; omega

theorem iblk_bh (t : Fin cfg0.N) : (iblk m c 6 t : S8x32.Idx → Ideal .f32) = V m c main_v81 := by
  funext j
  blk_ext [iblk]
  · show 0 * 8 + (j 0 : ℕ) = _; omega
  · show 0 * 32 + (j 1 : ℕ) = _; omega

theorem iblk_cx (t : Fin cfg0.N) : (iblk m c 7 t : S8x32.Idx → BitVec 32) = V m c main_v38 := by
  funext j
  blk_ext [iblk]
  · show 0 * 8 + (j 0 : ℕ) = _; omega
  · show 0 * 32 + (j 1 : ℕ) = _; omega

theorem iblk_win (t : Fin cfg0.N) : (iblk m c 10 t : S8x32.Idx → BitVec 32) = V m c main_v63 := by
  funext j
  blk_ext [iblk]
  · show 0 * 8 + (j 0 : ℕ) = _; omega
  · show 0 * 32 + (j 1 : ℕ) = _; omega

theorem point_index (t : Fin cfg0.N) : win0_12.index t 0 = t.val ∧ win0_13.index t 0 = t.val ∧ win0_14.index t 0 = t.val
    ∧ (grid0.coords t 0).val = t.val := by
  revert t
  decide +kernel

/-- The probabilities of a point's image, -/
theorem iblk_img (t : Fin cfg0.N) (y : S1x20x128x128.Idx) :
    (iblk m c 12 t : S1x20x128x128.Idx → Ideal .f32) y
      = (m ((c : Thread nD τ).loc main_arg0) : S8x20x128x128.Idx → Ideal .f32) (ix4 (⟨t.val, t.isLt⟩ : Fin 8) (y 1) (y 2) (y 3)) := by
  blk_ext [iblk]
  · exact (point_index t).1
  · show 0 * 20 + (y 1 : ℕ) = _; omega
  · show 0 * 128 + (y 2 : ℕ) = _; omega
  · show 0 * 128 + (y 3 : ℕ) = _; omega

/-- its sizes -/
theorem iblk_size (t : Fin cfg0.N) (y : S1x2x128x128.Idx) :
    (iblk m c 13 t : S1x2x128x128.Idx → Ideal .f32) y
      = (m ((c : Thread nD τ).loc main_arg1) : S8x2x128x128.Idx → Ideal .f32) (ix4 (⟨t.val, t.isLt⟩ : Fin 8) (y 1) (y 2) (y 3)) := by
  blk_ext [iblk]
  · exact (point_index t).2.1
  · show 0 * 2 + (y 1 : ℕ) = _; omega
  · show 0 * 128 + (y 2 : ℕ) = _; omega
  · show 0 * 128 + (y 3 : ℕ) = _; omega

/-- and its offsets. -/
theorem iblk_offs (t : Fin cfg0.N) (y : S1x2x128x128.Idx) :
    (iblk m c 14 t : S1x2x128x128.Idx → Ideal .f32) y
      = (m ((c : Thread nD τ).loc main_arg2) : S8x2x128x128.Idx → Ideal .f32) (ix4 (⟨t.val, t.isLt⟩ : Fin 8) (y 1) (y 2) (y 3)) := by
  blk_ext [iblk]
  · exact (point_index t).2.2.1
  · show 0 * 2 + (y 1 : ℕ) = _; omega
  · show 0 * 128 + (y 2 : ℕ) = _; omega
  · show 0 * 128 + (y 3 : ℕ) = _; omega

/-- The word of box `k` of image `b`. -/
theorem wd_at {e : EltTy} (A : S8x32.Idx → Elt Ideal e) (i : grid0.Coords) (k : Fin 32) : wd A i k = A (ix2 (i 0) k) := by
  unfold wd
  congr 1
  funext a
  apply Fin.ext
  have h := boxOff_eq i k
  have h1 := (Shape.Idx.first (s := S1x1) (numel1_S1x1.symm ▸ Nat.one_pos) a).isLt
  show boxOff i k a + 1 * (Shape.Idx.first (s := S1x1) (numel1_S1x1.symm ▸ Nat.one_pos) a).val = _
  rw [h]
  fin_cases a
  · have : (Shape.Idx.first (s := S1x1) (numel1_S1x1.symm ▸ Nat.one_pos) 0).val < 1 := Fin.isLt _
    show (i 0).val + 1 * (Shape.Idx.first (s := S1x1) (numel1_S1x1.symm ▸ Nat.one_pos) 0).val = (i 0).val
    omega
  · have : (Shape.Idx.first (s := S1x1) (numel1_S1x1.symm ▸ Nat.one_pos) 1).val < 1 := Fin.isLt _
    show k.val + 1 * (Shape.Idx.first (s := S1x1) (numel1_S1x1.symm ▸ Nat.one_pos) 1).val = k.val
    omega

theorem last_at (X : FVec Ideal S8x32x4 .f32) (b : Fin 8) (k : Fin 32) : last X (ix2 b k) = ~~~Finset.fold IntOp.ori (0#1) (fun x =>
    IntOp.andi (IntOp.andi (IntOp.cmpi .eq (colC X (ix2 b k)) (colC X (ix2 b x))) (IntOp.cmpi .eq (rowC X (ix2 b k)) (rowC X (ix2 b x))))
      (IntOp.cmpi .sgt (BitVec.ofNat 32 x.val) (BitVec.ofNat 32 k.val))) Finset.univ := by
  unfold last
  generalize colC X = B, rowC X = A
  pointwise []

theorem ori_zero (a b : BitVec 1) : IntOp.ori a b = 0#1 → a = 0#1 ∧ b = 0#1 := by revert a b; decide

theorem not_one (a : BitVec 1) : ~~~a = 1#1 → a = 0#1 := by revert a; decide

theorem fold_ori (f : Fin 32 → BitVec 1) (s : Finset (Fin 32)) (h : Finset.fold IntOp.ori (0#1) f s = 0#1) : ∀ x ∈ s, f x = 0#1 := by
  induction s using Finset.cons_induction with
  | empty => simp
  | cons a s ha ih =>
    rw [Finset.fold_cons] at h
    obtain ⟨h1, h2⟩ := ori_zero _ _ h
    intro x hx
    rcases Finset.mem_cons.mp hx with rfl | hx
    · exact h1
    · exact ih h2 x hx

theorem later : ∀ a b : Fin 32, a < b → IntOp.cmpi .sgt (BitVec.ofNat 32 b.val) (BitVec.ofNat 32 a.val) = 1#1 := by decide +kernel

theorem last_lt (X : FVec Ideal S8x32x4 .f32) (b : Fin 8) (k j : Fin 32) (hk : last X (ix2 b k) = 1#1) (hlt : k < j)
    (hc : colC X (ix2 b k) = colC X (ix2 b j)) (hr : rowC X (ix2 b k) = rowC X (ix2 b j)) : False := by
  rw [last_at] at hk
  have h := fold_ori _ _ (not_one _ hk) j (Finset.mem_univ _)
  rw [later k j hlt, (cmpi_eq_one _ _).mpr hc, (cmpi_eq_one _ _).mpr hr] at h
  revert h
  decide

/-- Of the boxes with a centre in the same cell one is the last. -/
theorem last_unique (X : FVec Ideal S8x32x4 .f32) (b : Fin 8) (k j : Fin 32) (hk : last X (ix2 b k) = 1#1) (hj : last X (ix2 b j) = 1#1)
    (hc : colC X (ix2 b k) = colC X (ix2 b j)) (hr : rowC X (ix2 b k) = rowC X (ix2 b j)) : k = j := by
  rcases lt_trichotomy k j with h | h | h
  · exact (last_lt X b k j hk h hc hr).elim
  · exact h
  · exact (last_lt X b j k hj h hc.symm hr.symm).elim

end Cert.KernelIdeal.Before
end
-- ==== Proof.Eq.Maps.lean ====
/-
  The reference's maps at one cell, in the terms of the kernel's tables.
-/
module

public import proofs.«01_k».proof.Proof.PI.Tables
public import proofs.«01_k».proof.Proof.Gen.ReferenceIdeal.Run

@[expose] public section

set_option maxRecDepth 16384

noncomputable section

namespace Cert.ReferenceIdeal.Value

open Idealize.ShloMosaic Idealize.ShloMosaic.TcCoe Idealize.SL.Sem
open Cert.KernelIdeal (S8x32 S8x32x4)
open Cert.KernelIdeal.Before Cert.KernelIdeal.Signs

variable (V : Valuation τ sig (Elt Ideal)) (X : FVec Ideal S8x32x4 .f32) (L : S8x32.Idx → BitVec 32)

theorem ext_eq (hX : V (Proc.devRef .tc main_arg3) = X) : res_main_v8 V = ext X := by
  unfold res_main_v8; rw [hX]; rfl
theorem mid_eq (hX : V (Proc.devRef .tc main_arg3) = X) : res_main_v11 V = mid X := by
  unfold res_main_v11; rw [hX]; rfl
theorem cell_eq (hX : V (Proc.devRef .tc main_arg3) = X) : res_main_v14 V = cell X := by
  unfold res_main_v14; rw [mid_eq V X hX]; rfl
theorem col_eq (hX : V (Proc.devRef .tc main_arg3) = X) : res_main_v18 V = colC X := by
  unfold res_main_v18; rw [cell_eq V X hX]; rfl
theorem row_eq (hX : V (Proc.devRef .tc main_arg3) = X) : res_main_v20 V = rowC X := by
  unfold res_main_v20; rw [cell_eq V X hX]; rfl
theorem top_eq (hX : V (Proc.devRef .tc main_arg3) = X) : res_main_v75 V = broadcastInDim Cert.ReferenceIdeal.S8x32x1x1 ![0, 1] Cert.ReferenceIdeal.Gen.bcast_S8x32_S8x32x1x1_0_1 (top X) := by
  unfold res_main_v75 res_main_call2_v2 res_main_call2_v0 res_main_v71; rw [row_eq V X hX]; rfl
theorem radius_eq (hX : V (Proc.devRef .tc main_arg3) = X) : res_main_v62 V = broadcastInDim Cert.ReferenceIdeal.S8x32x1x1 ![0, 1] Cert.ReferenceIdeal.Gen.bcast_S8x32_S8x32x1x1_0_1 (radius X) := by
  unfold res_main_v62; rw [ext_eq V X hX]; rfl

/-- The Gaussian of a box. -/
def bell (cxf cyf R : EReal) (y x : ℕ) : EReal :=
  Ideal.exp (Ideal.div (-((((x : ℝ) : EReal) - cxf) * (((x : ℝ) : EReal) - cxf) + (((y : ℝ) : EReal) - cyf) * (((y : ℝ) : EReal) - cyf)))
    (Ideal.ofBits .f32 0x40000000#32 * (R * R)))

theorem sle_at (t : BitVec 32) (ht : t.toNat ≤ 48) (y : ℕ) (hy : y < 128) : IntOp.cmpi .sle t (BitVec.ofNat 32 y) = 1#1 ↔ t.toNat ≤ y := by
  have h1 : t.toInt = (t.toNat : ℤ) := BitVec.toInt_eq_toNat_of_lt (by omega)
  have h2 : (BitVec.ofNat 32 y).toInt = (y : ℤ) := by
    rw [BitVec.toInt_eq_toNat_of_lt] <;> simp only [BitVec.toNat_ofNat] <;> omega
  show BitVec.ofBool (BitVec.sle t (BitVec.ofNat 32 y)) = 1#1 ↔ _
  rw [BitVec.sle_eq_decide, h1, h2]
  by_cases h : t.toNat ≤ y
  · simp [h]
  · simp [h]

theorem slt_at (t : BitVec 32) (ht : t.toNat ≤ 48) (y : ℕ) (hy : y < 128) :
    IntOp.cmpi .slt (BitVec.ofNat 32 y) (IntOp.addi t 80#32) = 1#1 ↔ y < t.toNat + 80 := by
  have h0 : (IntOp.addi t 80#32).toNat = t.toNat + 80 := by
    show (t + 80#32).toNat = _
    rw [BitVec.toNat_add, BitVec.toNat_ofNat]; omega
  have h1 : (IntOp.addi t 80#32).toInt = ((t.toNat + 80 : ℕ) : ℤ) := by
    rw [BitVec.toInt_eq_toNat_of_lt (by omega), h0]
  have h2 : (BitVec.ofNat 32 y).toInt = (y : ℤ) := by
    rw [BitVec.toInt_eq_toNat_of_lt] <;> simp only [BitVec.toNat_ofNat] <;> omega
  show BitVec.ofBool (BitVec.slt (BitVec.ofNat 32 y) (IntOp.addi t 80#32)) = 1#1 ↔ _
  rw [BitVec.slt_eq_decide, h1, h2]
  by_cases h : y < t.toNat + 80
  · have : (y : ℤ) < ((t.toNat + 80 : ℕ) : ℤ) := by exact_mod_cast h
    simp only [this, h]; decide
  · have : ¬ (y : ℤ) < ((t.toNat + 80 : ℕ) : ℤ) := by exact_mod_cast h
    simp only [this, h]; decide

theorem bot_eq : Ideal.ofBits .f32 0xFF800000#32 = ⊥ := by
  simp [Ideal.ofBits, Ideal.ieee]

/-- What a box puts there, read from the reference's operations. -/
theorem select_mark (l cx cy t : BitVec 32) (ht : t.toNat ≤ 48) (e : EReal) (c y x : ℕ) (hy : y < 128) :
    Scalar.select (IntOp.cmpi .eq l (BitVec.ofNat 32 c))
      (Scalar.select (IntOp.andi (IntOp.cmpi .eq (BitVec.ofNat 32 y) cy) (IntOp.cmpi .eq (BitVec.ofNat 32 x) cx)) (1 : EReal)
        (Scalar.select (IntOp.andi (IntOp.cmpi .sle t (BitVec.ofNat 32 y)) (IntOp.cmpi .slt (BitVec.ofNat 32 y) (IntOp.addi t 80#32))) e 0)) 0
      = mark l cx cy t e c y x := by
  unfold mark
  rw [select_if _ _ (cmpi_eq_one _ _), select_if _ _ ((andi_one _ _).trans (and_congr (cmpi_eq_one _ _) (cmpi_eq_one _ _))),
    select_if _ _ ((andi_one _ _).trans (and_congr (sle_at t ht y hy) (slt_at t ht y hy)))]

theorem one_at : (id (constant (F := Ideal) S_ .f32 0x3F800000#32) ix0 : EReal) = 1 := one_eq

theorem zero_at : (id (constant (F := Ideal) S_ .f32 0x00000000#32) ix0 : EReal) = 0 := Ideal.ofBits_zero_f32

theorem heat_at (hX : V (Proc.devRef .tc main_arg3) = X) (hL : V (Proc.devRef .tc main_arg4) = L) (b : Fin 8) (c : Fin 20) (y x : Fin 128) :
    (res_main_v107 V (ix4 b c y x) : EReal) = Finset.fold max ⊥ (fun k : Fin 32 =>
      mark (L (ix2 b k)) (colC X (ix2 b k)) (rowC X (ix2 b k)) (top X (ix2 b k))
        (bell (mid X (ix3 b k 0)) (mid X (ix3 b k 1)) (radius X (ix2 b k)) y x) c y x) Finset.univ := by
  have ht := top_le X
  unfold res_main_v107 res_main_v96 res_main_v52 res_main_v56 res_main_v37
  rw [top_eq V X hX, radius_eq V X hX, row_eq V X hX, col_eq V X hX, mid_eq V X hX, hL]
  generalize top X = T at ht ⊢
  generalize radius X = R, rowC X = A, colC X = B, mid X = M
  rw [← bot_eq]
  have hs : ∀ k : Fin 32, mark (L (ix2 b k)) (B (ix2 b k)) (A (ix2 b k)) (T (ix2 b k)) (bell (M (ix3 b k 0)) (M (ix3 b k 1)) (R (ix2 b k)) y x) c y x = _ :=
    fun k => (select_mark _ _ _ _ (ht _) _ c y x y.isLt).symm
  simp only [hs]
  unfold bell
  rw [← sitofp_nat y y.isLt, ← sitofp_nat x x.isLt]
  pointwise []
  rw [one_at, zero_at]

/-- The reference's targets of a box: its offset and its size. -/
def goal (b : Fin 8) (k : Fin 32) (c : Fin 4) : EReal :=
  ![(offs X (ix3 b k 0) : EReal), offs X (ix3 b k 1), ext X (ix3 b k 0), ext X (ix3 b k 1)] c

theorem reg_at (hX : V (Proc.devRef .tc main_arg3) = X) (b : Fin 8) (c : Fin 4) (y x : Fin 128) :
    (res_main_v137 V (ix4 b c y x) : EReal) = ∑ k : Fin 32,
      if BitVec.ofNat 32 y.val = rowC X (ix2 b k) ∧ BitVec.ofNat 32 x.val = colC X (ix2 b k) ∧ last X (ix2 b k) = 1#1 then goal X b k c else 0 := by
  have hs : ∀ k : Fin 32, (if BitVec.ofNat 32 y.val = rowC X (ix2 b k) ∧ BitVec.ofNat 32 x.val = colC X (ix2 b k) ∧ last X (ix2 b k) = 1#1 then goal X b k c else 0)
      = Scalar.select (IntOp.andi (IntOp.andi (IntOp.cmpi .eq (BitVec.ofNat 32 y.val) (rowC X (ix2 b k)))
        (IntOp.cmpi .eq (BitVec.ofNat 32 x.val) (colC X (ix2 b k)))) (last X (ix2 b k))) (goal X b k c) 0 := fun k => by
    refine (select_if _ _ ?_ _ _).symm
    rw [andi_one, andi_one, cmpi_eq_one, cmpi_eq_one, and_assoc]
  simp only [hs]
  simp only [last_at]
  unfold res_main_v137 res_main_v96 res_main_v37 res_main_v108
  rw [row_eq V X hX, col_eq V X hX, mid_eq V X hX, cell_eq V X hX, ext_eq V X hX]
  rw [show subf (mid X) (sitofp .f32 (cell X)) = offs X from rfl]
  unfold goal
  generalize rowC X = A, colC X = B, offs X = M, ext X = E
  pointwise []
  rw [zero_at]
  congr 1
  funext k
  congr 1
  fin_cases c <;> rfl

end Cert.ReferenceIdeal.Value
end
-- ==== Proof.Eq.Same.lean ====
/-
  The kernel's maps of an image are the reference's: where the boxes are real numbers the two ways of writing a box's
  Gaussian agree.
-/
module

public import proofs.«01_k».proof.Proof.Eq.Maps

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.KernelIdeal.Before Cert.Runs
open Cert.ReferenceIdeal.Value (bell goal)

/-! ## Real numbers among the extended reals -/

/-- A real number, -/
def IsR (x : EReal) : Prop := ∃ r : ℝ, x = (r : EReal)

/-- and one above zero. -/
def PosR (x : EReal) : Prop := ∃ r : ℝ, 0 < r ∧ x = (r : EReal)

theorem PosR.isR {x : EReal} (h : PosR x) : IsR x := h.imp fun _ h => h.2

theorem isR_add {x y : EReal} (hx : IsR x) (hy : IsR y) : IsR (x + y) := by
  obtain ⟨a, rfl⟩ := hx; obtain ⟨b, rfl⟩ := hy; exact ⟨a + b, (EReal.coe_add _ _).symm⟩
theorem isR_sub {x y : EReal} (hx : IsR x) (hy : IsR y) : IsR (x - y) := by
  obtain ⟨a, rfl⟩ := hx; obtain ⟨b, rfl⟩ := hy; exact ⟨a - b, (EReal.coe_sub _ _).symm⟩
theorem isR_mul {x y : EReal} (hx : IsR x) (hy : IsR y) : IsR (x * y) := by
  obtain ⟨a, rfl⟩ := hx; obtain ⟨b, rfl⟩ := hy; exact ⟨a * b, (EReal.coe_mul _ _).symm⟩
theorem isR_max {x y : EReal} (hx : IsR x) (hy : IsR y) : IsR (max x y) := by
  rcases max_choice x y with h | h <;> rw [h] <;> assumption
theorem isR_neg {x : EReal} (hx : IsR x) : IsR (-x) := by
  obtain ⟨a, rfl⟩ := hx; exact ⟨-a, (EReal.coe_neg _).symm⟩
theorem isR_div {x y : EReal} (hx : IsR x) (hy : PosR y) : IsR (Ideal.div x y) := by
  obtain ⟨a, rfl⟩ := hx; obtain ⟨b, hb, rfl⟩ := hy
  exact ⟨a * (1 / b), (Ideal.div_coe hb.ne' _).trans (EReal.coe_mul _ _).symm⟩

theorem posR_of {x : EReal} (h : 0 < x) (h' : x < ⊤) : PosR x := by
  lift x to ℝ using ⟨h'.ne, (EReal.bot_lt_zero.trans h).ne'⟩
  exact ⟨x, by exact_mod_cast h, rfl⟩

theorem half_pos : PosR (Ideal.ofBits .f32 0x3F000000#32) := by
  refine posR_of ?_ ?_ <;> simp [Ideal.ofBits, Ideal.ieee] <;> rw [← EReal.coe_mul]
  · exact EReal.coe_pos.mpr (by norm_num)
  · exact EReal.coe_lt_top _
theorem side_pos : PosR (Ideal.ofBits .f32 0x43000000#32) := by
  refine posR_of ?_ ?_ <;> simp [Ideal.ofBits, Ideal.ieee] <;> rw [← EReal.coe_mul]
  · exact EReal.coe_pos.mpr (by norm_num)
  · exact EReal.coe_lt_top _
theorem six_pos : PosR (Ideal.ofBits .f32 0x40C00000#32) := by
  refine posR_of ?_ ?_ <;> simp [Ideal.ofBits, Ideal.ieee] <;> rw [← EReal.coe_mul]
  · exact EReal.coe_pos.mpr (by norm_num)
  · exact EReal.coe_lt_top _
theorem least_pos : PosR (Ideal.ofBits .f32 0x3F333333#32) := by
  refine posR_of ?_ ?_ <;> simp [Ideal.ofBits, Ideal.ieee] <;> rw [← EReal.coe_mul]
  · exact EReal.coe_pos.mpr (by norm_num)
  · exact EReal.coe_lt_top _
theorem two_pos : PosR (Ideal.ofBits .f32 0x40000000#32) := by
  refine posR_of two_pos' ?_
  simp [Ideal.ofBits, Ideal.ieee]
  rw [← EReal.coe_mul]
  exact EReal.coe_lt_top _

/-! ## The tables are real -/

variable (X : FVec Ideal S8x32x4 .f32) (hX : ∀ j, IsR (X j))

theorem fst_at {α : Type} (A : S8x32x2.Idx → α) (b : Fin 8) (k : Fin 32) : fst' A (ix2 b k) = A (ix3 b k 0) := by
  pointwise [fst']
theorem snd_at {α : Type} (A : S8x32x2.Idx → α) (b : Fin 8) (k : Fin 32) : snd' A (ix2 b k) = A (ix3 b k 1) := by
  pointwise [snd']

include hX in
theorem mid_real (j : S8x32x2.Idx) : IsR (mid X j) :=
  isR_mul (isR_mul (isR_add (hX _) (hX _)) half_pos.isR) side_pos.isR

include hX in
theorem ext_real (j : S8x32x2.Idx) : IsR (ext X j) :=
  isR_max (isR_sub (hX _) (hX _)) (isR_neg (isR_sub (hX _) (hX _)))

include hX in
theorem radius_pos (j : S8x32.Idx) : PosR (radius X j) := by
  have h : IsR (radius X j) :=
    isR_max (isR_div (isR_mul (isR_add (isR_mul (ext_real X hX _) side_pos.isR) (isR_mul (ext_real X hX _) side_pos.isR)) half_pos.isR) six_pos)
      least_pos.isR
  obtain ⟨l, hl, e⟩ := least_pos
  have h0 : Ideal.ofBits .f32 0x3F333333#32 ≤ (radius X j : EReal) := le_max_right _ _
  obtain ⟨r, hr⟩ := h
  rw [hr, e] at h0
  exact ⟨r, lt_of_lt_of_le hl (by exact_mod_cast h0), hr⟩

/-- The two ways of writing a Gaussian agree. -/
theorem bell_eq {cxf cyf R : EReal} (hx : IsR cxf) (hy : IsR cyf) (hR : PosR R) (top : BitVec 32) (ht : top.toNat ≤ 48) (y x : ℕ)
    (hty : top.toNat ≤ y) : bellRow cxf cyf (Ideal.div (Ideal.ofBits .f32 0xBF800000#32) (Ideal.ofBits .f32 0x40000000#32 * (R * R))) top
      (y - top.toNat) x = bell cxf cyf R y x := by
  obtain ⟨a, rfl⟩ := hx
  obtain ⟨b, rfl⟩ := hy
  obtain ⟨r, hr, rfl⟩ := hR
  obtain ⟨w, hw, e⟩ := two_pos
  have h1 : top.toInt = (top.toNat : ℤ) := BitVec.toInt_eq_toNat_of_lt (by omega)
  have hq : w * (r * r) ≠ 0 := by positivity
  unfold bellRow bell
  rw [minus_one, e, h1, Nat.cast_sub hty]
  rw [← EReal.coe_mul, ← EReal.coe_mul, Ideal.div_coe hq, Ideal.div_coe hq]
  congr 1
  have e1 : (-1 : EReal) = ((-1 : ℝ) : EReal) := by norm_num
  rw [e1]
  simp only [← EReal.coe_sub, ← EReal.coe_mul, ← EReal.coe_add, ← EReal.coe_neg]
  congr 1
  push_cast
  ring

theorem mark_congr {l cx cy t : BitVec 32} {e e' : EReal} {c y x : ℕ} (h : t.toNat ≤ y → e = e') : mark l cx cy t e c y x = mark l cx cy t e' c y x := by
  unfold mark
  split
  · split
    · rfl
    · split
      · next hh => exact h hh.1
      · rfl
  · rfl

/-! ## The words a point reads -/

variable (m : (ℓ : Loc nD τ sig) → Buf (Elt Ideal) ℓ) (d : Dev nD) (t : Fin cfg0.N) (k : Fin 32)

/-- The boxes and their labels. -/
def boxesOf : FVec Ideal S8x32x4 .f32 := m ((d : Thread nD τ).loc main_arg3)
@[inherit_doc boxesOf]
def labelsOf : S8x32.Idx → BitVec 32 := m ((d : Thread nD τ).loc main_arg4)

/-- The image of a point. -/
def img : Fin 8 := ⟨t.val, t.isLt⟩

theorem coord_img : (grid0.coords t 0 : Fin 8) = img t := Fin.ext (point_index t).2.2.2

theorem wd_lab : wd (insAt m d t).x10 (grid0.coords t) k = labelsOf m d (ix2 (img t) k) := by
  rw [wd_at, coord_img]
  unfold insAt
  dsimp only
  rw [iblk_lab, V_main_arg4]
  rfl
theorem wd_cx : wd (insAt m d t).x8 (grid0.coords t) k = colC (boxesOf m d) (ix2 (img t) k) := by
  rw [wd_at, coord_img]
  unfold insAt
  dsimp only
  rw [iblk_cx, V_cx]
  rfl
theorem wd_cy : wd (insAt m d t).x9 (grid0.coords t) k = rowC (boxesOf m d) (ix2 (img t) k) := by
  rw [wd_at, coord_img]
  unfold insAt
  dsimp only
  rw [iblk_cy, V_cy]
  rfl
theorem wd_top : wd (insAt m d t).x12 (grid0.coords t) k = top (boxesOf m d) (ix2 (img t) k) := by
  rw [wd_at, coord_img]
  unfold insAt
  dsimp only
  rw [iblk_top, V_top]
  rfl
theorem wd_win : wd (insAt m d t).x11 (grid0.coords t) k = extui 32 (last (boxesOf m d)) natLt_1_32 (ix2 (img t) k) := by
  rw [wd_at, coord_img]
  unfold insAt
  dsimp only
  rw [iblk_win, V_win]
  rfl
theorem wd_cxf : wd (insAt m d t).x1 (grid0.coords t) k = mid (boxesOf m d) (ix3 (img t) k 0) := by
  rw [wd_at, coord_img]
  unfold insAt
  dsimp only
  rw [iblk_cxf, V_cxf]
  exact fst_at _ _ _
theorem wd_cyf : wd (insAt m d t).x2 (grid0.coords t) k = mid (boxesOf m d) (ix3 (img t) k 1) := by
  rw [wd_at, coord_img]
  unfold insAt
  dsimp only
  rw [iblk_cyf, V_cyf]
  exact snd_at _ _ _
theorem wd_scale : wd (insAt m d t).x3 (grid0.coords t) k = scale (boxesOf m d) (ix2 (img t) k) := by
  rw [wd_at, coord_img]
  unfold insAt
  dsimp only
  rw [iblk_scale, V_scale]
  rfl
theorem wd_ox : wd (insAt m d t).x4 (grid0.coords t) k = offs (boxesOf m d) (ix3 (img t) k 0) := by
  rw [wd_at, coord_img]
  unfold insAt
  dsimp only
  rw [iblk_ox, V_ox]
  exact fst_at _ _ _
theorem wd_oy : wd (insAt m d t).x5 (grid0.coords t) k = offs (boxesOf m d) (ix3 (img t) k 1) := by
  rw [wd_at, coord_img]
  unfold insAt
  dsimp only
  rw [iblk_oy, V_oy]
  exact snd_at _ _ _
theorem wd_bw : wd (insAt m d t).x6 (grid0.coords t) k = ext (boxesOf m d) (ix3 (img t) k 0) := by
  rw [wd_at, coord_img]
  unfold insAt
  dsimp only
  rw [iblk_bw, V_bw]
  exact fst_at _ _ _
theorem wd_bh : wd (insAt m d t).x7 (grid0.coords t) k = ext (boxesOf m d) (ix3 (img t) k 1) := by
  rw [wd_at, coord_img]
  unfold insAt
  dsimp only
  rw [iblk_bh, V_bh]
  exact snd_at _ _ _

/-! ## The maps -/

variable (h : ∀ k, OKBox (grid0.coords t) (insAt m d t) k)

theorem scale_le : (wd (insAt m d t).x3 (grid0.coords t) k : EReal) ≤ 0 := by
  rw [wd_scale]; exact scale_nonpos _ _

variable (V : Valuation Cert.ReferenceIdeal.τ Cert.ReferenceIdeal.sig (Elt Ideal))
  (hV3 : V (Proc.devRef .tc Cert.ReferenceIdeal.main_arg3) = boxesOf m d) (hV4 : V (Proc.devRef .tc Cert.ReferenceIdeal.main_arg4) = labelsOf m d)

include hV3 hV4 in
/-- The heat maps are the same, -/
theorem heat_same (hB : ∀ j, IsR (boxesOf m d j)) (c : Fin 20) (y x : Fin 128) :
    ((maps (grid0.coords t) (insAt m d t) h).1 (ix3 c y x) : EReal) = Cert.ReferenceIdeal.Value.res_main_v107 V (ix4 (img t) c y x) := by
  rw [heat_at _ _ h (fun k => scale_le m d t k)]
  refine Eq.trans ?_ (Cert.ReferenceIdeal.Value.heat_at V _ _ hV3 hV4 (img t) c y x).symm
  congr 1
  funext k
  unfold markI
  rw [wd_lab, wd_cx, wd_cy, wd_top, wd_cxf, wd_cyf, wd_scale]
  refine mark_congr fun hty => ?_
  exact bell_eq (mid_real _ hB _) (mid_real _ hB _) (radius_pos _ hB _) _ (top_le _ _) y.val x.val hty

theorem win_iff (b : Fin 8) : extui 32 (last (boxesOf m d)) natLt_1_32 (ix2 b k) ≠ 0#32 ↔ last (boxesOf m d) (ix2 b k) = 1#1 := by
  show BitVec.setWidth 32 (last (boxesOf m d) (ix2 b k)) ≠ 0#32 ↔ _
  generalize last (boxesOf m d) (ix2 b k) = w
  revert w
  decide

theorem sets_iff (c : Fin 4) (y x : Fin 128) : Sets (grid0.coords t) (insAt m d t) (ix3 c y x) k
    ↔ BitVec.ofNat 32 y.val = rowC (boxesOf m d) (ix2 (img t) k) ∧ BitVec.ofNat 32 x.val = colC (boxesOf m d) (ix2 (img t) k)
      ∧ last (boxesOf m d) (ix2 (img t) k) = 1#1 := by
  unfold Sets
  rw [wd_cx, wd_cy, wd_win, win_iff]
  exact Iff.rfl

include hV3 in
/-- and so are the regression maps. -/
theorem reg_same (c : Fin 4) (y x : Fin 128) :
    ((maps (grid0.coords t) (insAt m d t) h).2 (ix3 c y x) : EReal) = Cert.ReferenceIdeal.Value.res_main_v137 V (ix4 (img t) c y x) := by
  rw [reg_at _ _ _ h]
  · refine Eq.trans ?_ (Cert.ReferenceIdeal.Value.reg_at V _ hV3 (img t) c y x).symm
    refine Finset.sum_congr rfl fun k _ => ?_
    refine if_congr (sets_iff m d t k c y x) ?_ rfl
    unfold targetsI goal
    rw [wd_ox, wd_oy, wd_bw, wd_bh]
    rfl
  · intro a b ha hb
    obtain ⟨a1, a2, a3⟩ := (sets_iff m d t a c y x).mp ha
    obtain ⟨b1, b2, b3⟩ := (sets_iff m d t b c y x).mp hb
    exact last_unique _ _ _ _ a3 b3 (a2.symm.trans b2) (a1.symm.trans b1)

end Cert.KernelIdeal.Signs
end
-- ==== Proof.Eq.Entries.lean ====
/-
  The reference's loss, entry by entry.
-/
module

public import proofs.«01_k».proof.Proof.Eq.Same

@[expose] public section

set_option maxRecDepth 16384

noncomputable section

namespace Cert.ReferenceIdeal.Value

open Idealize.ShloMosaic Idealize.ShloMosaic.TcCoe
open Idealize.SL Idealize.SL.Sem
open Cert.ReferenceIdeal.Gen

variable (V : Valuation τ sig (Elt Ideal))

/-- The loss, from the maps, the mask, the probabilities and the bins. -/
def lossR (a1 a2 : FVec Ideal S8x2x128x128 .f32) (G : FVec Ideal S8x20x128x128 .f32) (R : FVec Ideal S8x4x128x128 .f32) (M : FVec Ideal S8x128x128 .f32) (n : FVec Ideal S_ .f32)
    (p : FVec Ideal S8x20x128x128 .f32) (H : FVec Ideal S10x8x20x128x128 .f32) (N : FVec Ideal S10 .f32) : FVec Ideal S_ .f32 :=
  addf (addf (mulf (Host.divf (Host.divf (Host.reduceAdd (mulf (select (cmpf .ogt N (broadcastInDim S10 ![] bcast_S_S10 (constant S_ .f32 0x00000000#32))) (Host.divf (broadcastInDim S10 ![] bcast_S_S10 (constant S_ .f32 0x4A200000#32)) (maximumf (mulf (broadcastInDim S10 ![] bcast_S_S10 (constant S_ .f32 0x3F400000#32)) N) (broadcastInDim S10 ![] bcast_S_S10 (constant S_ .f32 0x2B8CBCCC#32)))) (broadcastInDim S10 ![] bcast_S_S10 (id (constant S_ .f32 0x00000000#32)))) (Host.reduceAdd (mulf H (broadcastInDim S10x8x20x128x128 ![0, 1, 2, 3, 4] bcast_S1x8x20x128x128_S10x8x20x128x128_0_1_2_3_4 (broadcastInDim S1x8x20x128x128 ![1, 2, 3, 4] bcast_S8x20x128x128_S1x8x20x128x128_1_2_3_4 (Host.negf (addf (mulf G (Host.log p)) (mulf (subf (broadcastInDim S8x20x128x128 ![] bcast_S_S8x20x128x128 (constant S_ .f32 0x3F800000#32)) G) (Host.log (subf (broadcastInDim S8x20x128x128 ![] bcast_S_S8x20x128x128 (constant S_ .f32 0x3F800000#32)) p)))))))) (constant S_ .f32 0x00000000#32) reducesTo_S10x8x20x128x128_S10_d1_2_3_4 h_S_)) (constant S_ .f32 0x00000000#32) reducesTo_S10_S_d0 h_S_) (maximumf (Host.reduceAdd (uitofp .f32 (cmpf .ogt N (broadcastInDim S10 ![] bcast_S_S10 (constant S_ .f32 0x00000000#32)))) (constant S_ .f32 0x00000000#32) reducesTo_S10_S_d0 h_S_) (constant S_ .f32 0x3F800000#32))) (constant S_ .f32 0x4A200000#32)) (constant S_ .f32 0x3F800000#32)) (mulf (Host.divf (Host.reduceAdd (mulf (Host.absf (subf a2 (extractStridedSlice S8x2x128x128 ![0, 0, 0, 0] R slices_S8x4x128x128_S8x2x128x128_0_0_0_0))) (broadcastInDim S8x2x128x128 ![0, 1, 2, 3] bcast_S8x1x128x128_S8x2x128x128_0_1_2_3 (broadcastInDim S8x1x128x128 ![0, 2, 3] bcast_S8x128x128_S8x1x128x128_0_2_3 M))) (constant S_ .f32 0x00000000#32) reducesTo_S8x2x128x128_S_d0_1_2_3 h_S_) n) (constant S_ .f32 0x3F800000#32))) (mulf (Host.divf (Host.reduceAdd (mulf (Host.absf (subf a1 (extractStridedSlice S8x2x128x128 ![0, 2, 0, 0] R slices_S8x4x128x128_S8x2x128x128_0_2_0_0))) (broadcastInDim S8x2x128x128 ![0, 1, 2, 3] bcast_S8x1x128x128_S8x2x128x128_0_1_2_3 (broadcastInDim S8x1x128x128 ![0, 2, 3] bcast_S8x128x128_S8x1x128x128_0_2_3 M))) (constant S_ .f32 0x00000000#32) reducesTo_S8x2x128x128_S_d0_1_2_3 h_S_) n) (constant S_ .f32 0x3DCCCCCD#32))

/-! ## Sums over every entry -/

/-- The sum of all entries of two maps an image. -/
theorem total_two {t : Shape} (h : S8x2x128x128.ReducesTo [0, 1, 2, 3] t) (ht : ∀ b, t.size b = 1) (v : S8x2x128x128.Idx → EReal) (j : t.Idx) :
    Ideal.hostReduceAdd h v 0 j = ∑ b : Fin 8, ∑ c : Fin 2, ∑ y : Fin 128, ∑ x : Fin 128, v (ix4 b c y x) :=
  (Ideal.hostReduceAdd_total h ht v 0 j).trans ((zero_add _).trans (sum_idx4 v))

/-- The sum of all entries of a map an image. -/
theorem total_one {t : Shape} (h : S8x128x128.ReducesTo [0, 1, 2] t) (ht : ∀ b, t.size b = 1) (v : S8x128x128.Idx → EReal) (j : t.Idx) :
    Ideal.hostReduceAdd h v 0 j = ∑ b : Fin 8, ∑ y : Fin 128, ∑ x : Fin 128, v (ix3 b y x) :=
  (Ideal.hostReduceAdd_total h ht v 0 j).trans ((zero_add _).trans (sum_idx3 v))

/-- An entry of the heat maps: image, class, row, column. -/
abbrev Ent : Type := Fin 8 × Fin 20 × Fin 128 × Fin 128

/-- Where it lies. -/
def at4 (e : Ent) : S8x20x128x128.Idx := ix4 e.1 e.2.1 e.2.2.1 e.2.2.2
@[inherit_doc at4]
def at5 (j : Fin 10) (e : Ent) : S10x8x20x128x128.Idx := ix5 j e.1 e.2.1 e.2.2.1 e.2.2.2

/-- The sum of a bin's entries. -/
theorem total_bin (h : S10x8x20x128x128.ReducesTo [1, 2, 3, 4] S10) (v : S10x8x20x128x128.Idx → EReal) (j : Fin 10) :
    Ideal.hostReduceAdd h v 0 (ix1 j) = ∑ e : Ent, v (at5 j e) := by
  unfold Ideal.hostReduceAdd
  rw [zero_add]
  refine Finset.sum_nbij' (fun i => ((i 1, i 2, i 3, i 4) : Ent)) (at5 j) (fun _ _ => Finset.mem_univ _) (fun e _ => ?_) (fun i hi => ?_) (fun _ _ => rfl) (fun i hi => ?_)
  · refine Finset.mem_filter.mpr ⟨Finset.mem_univ _, funext fun a => Fin.ext ?_⟩
    match a with
    | ⟨0, _⟩ => rfl
  · have e := congrArg Fin.val (congrFun (Finset.mem_filter.mp hi).2 0)
    funext a
    apply Fin.ext
    match a with
    | ⟨0, _⟩ => exact e.symm
    | ⟨1, _⟩ => rfl
    | ⟨2, _⟩ => rfl
    | ⟨3, _⟩ => rfl
    | ⟨4, _⟩ => rfl
  · have e := congrArg Fin.val (congrFun (Finset.mem_filter.mp hi).2 0)
    congr 1
    funext a
    apply Fin.ext
    match a with
    | ⟨0, _⟩ => exact e
    | ⟨1, _⟩ => rfl
    | ⟨2, _⟩ => rfl
    | ⟨3, _⟩ => rfl
    | ⟨4, _⟩ => rfl

theorem uitofp_if (q : Prop) [Decidable q] : (FloatOps.uitofp .f32 (BitVec.ofBool (decide q)) : Ideal .f32) = ((if q then 1 else 0 : ℝ) : EReal) := by
  by_cases h : q
  · rw [if_pos h, decide_eq_true h]
    show (((BitVec.ofBool true).toNat : ℝ) : EReal) = _
    rw [show (BitVec.ofBool true).toNat = 1 from rfl]
    norm_num
  · rw [if_neg h, decide_eq_false h]
    show (((BitVec.ofBool false).toNat : ℝ) : EReal) = _
    rw [show (BitVec.ofBool false).toNat = 0 from rfl]
    norm_num

/-! ## The reference's arrays, as arrays of extended reals -/

/-- The heat map, -/
def heatR : S8x20x128x128.Idx → EReal := res_main_v107 V
/-- the targets, -/
def regR : S8x4x128x128.Idx → EReal := res_main_v137 V
/-- where a box is, -/
def maskR : S8x128x128.Idx → EReal := res_main_v141 V
/-- how many boxes are, -/
def numberR : S_.Idx → EReal := res_main_v143 V
/-- the clipped probabilities, -/
def clipR : S8x20x128x128.Idx → EReal := res_main_v144 V
/-- which bin holds an entry, -/
def inR : S10x8x20x128x128.Idx → EReal := res_main_v167 V
/-- and how many entries a bin holds. -/
def countR : S10.Idx → EReal := res_main_v168 V

/-! ## The mask -/

theorem sum_gen (G : FVec Ideal S8x128x128 .f32) : (Host.reduceAdd G (constant S_ .f32 0x00000000#32) reducesTo_S8x128x128_S_d0_1_2 h_S_ ix0 : EReal)
    = ∑ b : Fin 8, ∑ y : Fin 128, ∑ x : Fin 128, (G (ix3 b y x) : EReal) := by
  have e : (Host.reduceAdd G (constant S_ .f32 0x00000000#32) reducesTo_S8x128x128_S_d0_1_2 h_S_ ix0 : EReal)
    = Ideal.hostReduceAdd reducesTo_S8x128x128_S_d0_1_2 G (Ideal.ofBits .f32 0x00000000#32) ix0 := rfl
  rw [e, Ideal.ofBits_zero_f32]
  exact total_one _ (fun b => b.elim0) _ _

theorem number_at : numberR V ix0 = max (∑ b : Fin 8, ∑ y : Fin 128, ∑ x : Fin 128, maskR V (ix3 b y x)) (Ideal.ofBits .f32 0x34000000#32) := by
  have e : ∀ A B : FVec Ideal S_ .f32, (maximumf A B ix0 : EReal) = max (A ix0 : EReal) (B ix0) := fun _ _ => rfl
  have e' : (constant (F := Ideal) S_ .f32 0x34000000#32 ix0 : EReal) = Ideal.ofBits .f32 0x34000000#32 := rfl
  unfold numberR res_main_v143 maskR
  rw [e, e', sum_gen]

/-- A fold over the classes of a cell. -/
theorem fiber {t : Shape} (h : S8x20x128x128.ReducesTo [1] t) (G : S8x20x128x128.Idx → EReal) (z : EReal) (i0 : t.Idx) (b : Fin 8) (y x : Fin 128) (hr : t.rank = 3)
   (h0 : (i0 ⟨0, by omega⟩).val = b.val) (h1 : (i0 ⟨1, by omega⟩).val = y.val) (h2 : (i0 ⟨2, by omega⟩).val = x.val) :
   (Finset.univ.filter (fun i => h.drop i = i0)).fold max z G = Finset.fold max z (fun c : Fin 20 => (G (ix4 b c y x) : EReal)) Finset.univ := by
  rw [h.fold_fiber_r4_a1]
  congr 1
  funext k
  congr 1
  funext a
  apply Fin.ext
  match a with
    | ⟨0, _⟩ => exact h0
    | ⟨1, _⟩ => rfl
    | ⟨2, _⟩ => exact h1
    | ⟨3, _⟩ => exact h2

/-- The largest target of a cell. -/
theorem most_gen (G : FVec Ideal S8x20x128x128 .f32) (b : Fin 8) (y x : Fin 128) :
    (Host.reduce (FloatOps.maximumf (F := Ideal) (φ := .f32)) G (constant (F := Ideal) S_ .f32 0xFF800000#32) reducesTo_S8x20x128x128_S8x128x128_d1 h_S_ (ix3 b y x) : EReal)
      = Finset.fold max ⊥ (fun c : Fin 20 => (G (ix4 b c y x) : EReal)) Finset.univ := by
  have e : (Host.reduce (FloatOps.maximumf (F := Ideal) (φ := .f32)) G (constant (F := Ideal) S_ .f32 0xFF800000#32) reducesTo_S8x20x128x128_S8x128x128_d1 h_S_ (ix3 b y x) : EReal)
      = Host.reduce (max : EReal → EReal → EReal) G (constant (F := Ideal) S_ .f32 0xFF800000#32) reducesTo_S8x20x128x128_S8x128x128_d1 h_S_ (ix3 b y x) := rfl
  rw [e, Host.reduce_eq_fold, fiber _ _ _ _ b y x rfl rfl rfl rfl]
  rw [show (constant (F := Ideal) S_ .f32 0xFF800000#32 (Shape.Idx.first h_S_) : EReal) = ⊥ from bot_eq]

theorem mask_at (b : Fin 8) (y x : Fin 128) : maskR V (ix3 b y x)
    = ((if Ideal.ofBits .f32 0x3F7FFF58#32 ≤ Finset.fold max ⊥ (fun c : Fin 20 => heatR V (ix4 b c y x)) Finset.univ then 1 else 0 : ℝ) : EReal) := by
  have e : ∀ (A B : FVec Ideal S8x128x128 .f32) (i : S8x128x128.Idx), (uitofp (F := Ideal) .f32 (cmpf .oge A B) i : EReal)
      = (FloatOps.uitofp .f32 (BitVec.ofBool (decide ((B i : EReal) ≤ A i))) : Ideal .f32) := fun _ _ _ => rfl
  have e' : ∀ i : S8x128x128.Idx, (broadcastInDim S8x128x128 ![] bcast_S_S8x128x128 (constant (F := Ideal) S_ .f32 0x3F7FFF58#32) i : EReal)
      = Ideal.ofBits .f32 0x3F7FFF58#32 := fun _ => rfl
  unfold maskR heatR res_main_v141
  rw [e, e', most_gen, uitofp_if]

/-! ## The bins -/

theorem count_at (j : Fin 10) : countR V (ix1 j) = ∑ e : Ent, inR V (at5 j e) := by
  unfold countR inR res_main_v168
  generalize (res_main_v167 V : FVec Ideal S10x8x20x128x128 .f32) = H
  show Ideal.hostReduceAdd reducesTo_S10x8x20x128x128_S10_d1_2_3_4 H (Ideal.ofBits .f32 0x00000000#32) (ix1 j) = _
  rw [Ideal.ofBits_zero_f32, total_bin]

/-- The bin of an entry, from its probability and its target. -/
def binR (p g : EReal) : BitVec 32 :=
  IntOp.minsi 9#32 (IntOp.maxsi 0#32 (FloatOps.fptosi (F := Ideal) (φ := .f32) 32 (FloatOps.absf (F := Ideal) (φ := .f32) (p - g) * Ideal.ofBits .f32 0x41200000#32)))

theorem in_at (j : Fin 10) (e : Ent) : inR V (at5 j e)
    = ((if binR (clipR V (at4 e)) (heatR V (at4 e)) = BitVec.ofNat 32 j.val then 1 else 0 : ℝ) : EReal) := by
  refine Eq.trans ?_ (uitofp_if _)
  unfold inR clipR heatR res_main_v167 at5 at4 binR
  generalize (res_main_v144 V : FVec Ideal S8x20x128x128 .f32) = P
  generalize (res_main_v107 V : FVec Ideal S8x20x128x128 .f32) = G
  pointwise
  rfl

/-- The weight of a bin. -/
def weightR (c : EReal) : EReal :=
  if 0 < c then Ideal.div (Ideal.ofBits .f32 0x4A200000#32) (max (Ideal.ofBits .f32 0x3F400000#32 * c) (Ideal.ofBits .f32 0x2B8CBCCC#32)) else 0

/-- The cross-entropy of an entry. -/
def ceR (p g : EReal) : EReal := -(g * Ideal.log p + (1 - g) * Ideal.log (1 - p))

/-- The loss of the reference's terms. -/
theorem lossR_at (a1 a2 : FVec Ideal S8x2x128x128 .f32) (G : FVec Ideal S8x20x128x128 .f32) (R : FVec Ideal S8x4x128x128 .f32) (M : FVec Ideal S8x128x128 .f32) (n : FVec Ideal S_ .f32)
    (p : FVec Ideal S8x20x128x128 .f32) (H : FVec Ideal S10x8x20x128x128 .f32) (N : FVec Ideal S10 .f32) :
    (lossR a1 a2 G R M n p H N ix0 : EReal) =
      Ideal.div (Ideal.div (∑ j : Fin 10, weightR (N (ix1 j)) * ∑ e : Ent, (H (at5 j e) : EReal) * ceR (p (at4 e)) (G (at4 e)))
          (max (∑ j : Fin 10, ((if 0 < (N (ix1 j) : EReal) then 1 else 0 : ℝ) : EReal)) 1)) (Ideal.ofBits .f32 0x4A200000#32)
        + Ideal.div (∑ b : Fin 8, ∑ c : Fin 2, ∑ y : Fin 128, ∑ x : Fin 128,
            (FloatOps.absf ((a2 (ix4 b c y x) - R (ix4 b ⟨c.val, by omega⟩ y x) : EReal) : Ideal .f32) : EReal) * M (ix3 b y x)) (n ix0)
        + Ideal.div (∑ b : Fin 8, ∑ c : Fin 2, ∑ y : Fin 128, ∑ x : Fin 128,
            (FloatOps.absf ((a1 (ix4 b c y x) - R (ix4 b ⟨2 + c.val, by omega⟩ y x) : EReal) : Ideal .f32) : EReal) * M (ix3 b y x)) (n ix0)
          * Ideal.ofBits .f32 0x3DCCCCCD#32 := by
  pointwise [lossR]
  rw [total_two _ (fun b => b.elim0), total_two _ (fun b => b.elim0), zero_at]
  simp only [total_bin, uitofp_if]
  unfold weightR ceR at4
  pointwise [at5]

end Cert.ReferenceIdeal.Value
end
-- ==== Proof.Eq.Totals.lean ====
/-
  What the kernel carries after all images, as sums over every entry.
-/
module

public import proofs.«01_k».proof.Proof.Eq.Entries

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.KernelIdeal.Before Cert.Runs
open Cert.ReferenceIdeal.Value (heatR regR maskR Ent at4 mask_at bot_eq)

attribute [local irreducible] put

/-! ## Adding up along the images -/

variable (m : (ℓ : Loc nD τ sig) → Buf (Elt Ideal) ℓ) (d : Dev nD) (hOK : AllOK m)

/-- A carried number that each image adds to is the sum of what they add. -/
theorem car_sum (φ : Car Ideal → EReal) (h0 : φ car0 = 0) (f : Fin cfg0.N → EReal)
    (hs : ∀ t C, φ (stepC (grid0.coords t) (insAt m d t) (hOK d t) C) = φ C + f t) :
    ∀ (n : ℕ) (h : n ≤ cfg0.N), φ (carN m hOK d n h) = ∑ i : Fin n, f ⟨i.val, i.isLt.trans_le h⟩
  | 0, _ => h0.trans (Fin.sum_univ_zero _).symm
  | n + 1, h => by
    rw [Fin.sum_univ_castSucc]
    exact (hs ⟨n, h⟩ _).trans (congrArg (· + f ⟨n, h⟩) (car_sum φ h0 f hs n (Nat.le_of_succ_le h)))

/-- The rows of the flattened classes and rows. -/
theorem sum_rows {M : Type} [AddCommMonoid M] (f : Fin 20 → Fin 128 → M) :
    ∑ r : Fin 2560, f ⟨r.val / 128, by omega⟩ ⟨r.val % 128, by omega⟩ = ∑ c : Fin 20, ∑ y : Fin 128, f c y := by
  rw [← Fintype.sum_prod_type' f]
  exact (Equiv.sum_comp (finProdFinEquiv (m := 20) (n := 128)).symm fun p : Fin 20 × Fin 128 => f p.1 p.2)

/-- The bin of an entry, as the kernel computes it. -/
def binK (p g : EReal) : BitVec 32 :=
  IntOp.minsi (FloatOps.fptosi (F := Ideal) (φ := .f32) 32 (FloatOps.absf (F := Ideal) (φ := .f32) (p - g) * Ideal.ofBits .f32 0x41200000#32)) 9#32

/-- The cross-entropy of an entry, as the kernel computes it. -/
def ceK (p g : EReal) : EReal := 0 - (Ideal.log (1 - p) + g * (Ideal.log p - Ideal.log (1 - p)))

theorem bin_at (G : Vec Ideal S20x128x128 .f32) (p : Vec Ideal S1x20x128x128 .f32) (r : Fin 2560) (x : Fin 128) :
    k0_pay355 G p (ix2 r x) = binK (p (ix4 0 ⟨r.val / 128, by omega⟩ ⟨r.val % 128, by omega⟩ x)) (G (ix3 ⟨r.val / 128, by omega⟩ ⟨r.val % 128, by omega⟩ x)) := by
  unfold binK
  pointwise [k0_pay355, k0_pay353]

theorem ce_at (G : Vec Ideal S20x128x128 .f32) (p : Vec Ideal S1x20x128x128 .f32) (r : Fin 2560) (x : Fin 128) :
    (k0_pay354 G p (ix2 r x) : EReal) = ceK (p (ix4 0 ⟨r.val / 128, by omega⟩ ⟨r.val % 128, by omega⟩ x)) (G (ix3 ⟨r.val / 128, by omega⟩ ⟨r.val % 128, by omega⟩ x)) := by
  unfold ceK
  pointwise [k0_pay354, k0_pay353]

/-- Only bin `k` is added to row `k`. -/
theorem pick (k : Fin 10) (F : ℕ → EReal) :
    (∑ j : Fin 9, if j ∈ bins9 ∧ k = j.castSucc then F j.val else 0) = if k = 9 then 0 else F k.val := by
  have hmem : ∀ j : Fin 9, j ∈ bins9 := by decide
  by_cases h : k = 9
  · rw [if_pos h]
    refine Finset.sum_eq_zero fun j _ => if_neg ?_
    rintro ⟨_, e⟩
    have e' := congrArg Fin.val (h.symm.trans e)
    have hj := j.isLt
    change 9 = j.val at e'
    omega
  · have hk : k.val < 9 := by
      have h1 := k.isLt
      have h2 : k.val ≠ 9 := fun e => h (Fin.ext e)
      omega
    rw [if_neg h, Finset.sum_eq_single (⟨k.val, hk⟩ : Fin 9)]
    · exact if_pos ⟨hmem _, rfl⟩
    · intro j _ hj
      refine if_neg fun e => hj (Fin.ext ?_)
      exact (congrArg Fin.val e.2).symm
    · intro h'
      exact absurd (Finset.mem_univ _) h'

/-- One when the bin is `j`. -/
def ind (w : BitVec 32) (j : ℕ) : ℝ := if w = BitVec.ofNat 32 j then 1 else 0

theorem binsC_at (I : Ins Ideal) (G : Vec Ideal S20x128x128 .f32) (rc : S16x128.Idx → Ideal .f32) (k : Fin 10) (x : Fin 128) :
    (binsC I G rc ((r16 k).emb (ix2 0 x)) : EReal) = rc ((r16 k).emb (ix2 0 x)) + if k = 9 then (0 : EReal) else
      ∑ c : Fin 20, ∑ y : Fin 128, ((ind (binK (I.x13 (all13.emb (ix4 0 c y x))) (G (ix3 c y x))) k.val : ℝ) : EReal) := by
  unfold binsC
  rw [fold_rows _ _ (by decide : bins9.Nodup)]
  congr 1
  have e : ∀ j : ℕ, (∑ r : Fin 2560, (inBin (F := Ideal) (k0_pay355 G fun x => I.x13 (all13.emb x)) j (ix2 r x) : EReal))
      = ∑ c : Fin 20, ∑ y : Fin 128, ((ind (binK (I.x13 (all13.emb (ix4 0 c y x))) (G (ix3 c y x))) j : ℝ) : EReal) := fun j => by
    rw [← sum_rows fun c y => ((ind (binK (I.x13 (all13.emb (ix4 0 c y x))) (G (ix3 c y x))) j : ℝ) : EReal)]
    refine Finset.sum_congr rfl fun r _ => ?_
    rw [inBin_at, bin_at]
    rfl
  rw [← e]
  exact pick k fun j => ∑ r : Fin 2560, (inBin (F := Ideal) (k0_pay355 G fun x => I.x13 (all13.emb x)) j (ix2 r x) : EReal)

theorem binsB_at (I : Ins Ideal) (G : Vec Ideal S20x128x128 .f32) (rb : S16x128.Idx → Ideal .f32) (k : Fin 10) (x : Fin 128) :
    (binsB I G rb ((r16 k).emb (ix2 0 x)) : EReal) = rb ((r16 k).emb (ix2 0 x)) +
      ∑ c : Fin 20, ∑ y : Fin 128, if k = 9 then ceK (I.x13 (all13.emb (ix4 0 c y x))) (G (ix3 c y x))
        else ((ind (binK (I.x13 (all13.emb (ix4 0 c y x))) (G (ix3 c y x))) k.val : ℝ) : EReal) * ceK (I.x13 (all13.emb (ix4 0 c y x))) (G (ix3 c y x)) := by
  rw [← sum_rows fun c y => if k = 9 then ceK (I.x13 (all13.emb (ix4 0 c y x))) (G (ix3 c y x))
        else ((ind (binK (I.x13 (all13.emb (ix4 0 c y x))) (G (ix3 c y x))) k.val : ℝ) : EReal) * ceK (I.x13 (all13.emb (ix4 0 c y x))) (G (ix3 c y x))]
  unfold binsB
  rw [put_row]
  by_cases h : k = 9
  · subst h
    rw [if_pos rfl, addCols_at, fold_rows _ _ (by decide : bins9.Nodup)]
    have e := pick 9 fun j => ∑ r : Fin 2560, (mulf (inBin (F := Ideal) (k0_pay355 G fun x => I.x13 (all13.emb x)) j) (k0_pay354 G fun x => I.x13 (all13.emb x)) (ix2 r x) : EReal)
    rw [if_pos rfl] at e
    refine congrArg₂ (· + ·) (((congrArg (_ + ·) e).trans (add_zero _))) ?_
    refine Finset.sum_congr rfl fun r _ => ?_
    rw [if_pos rfl]
    exact ce_at _ _ r x
  · rw [if_neg h, fold_rows _ _ (by decide : bins9.Nodup)]
    have e := pick k fun j => ∑ r : Fin 2560, (mulf (inBin (F := Ideal) (k0_pay355 G fun x => I.x13 (all13.emb x)) j) (k0_pay354 G fun x => I.x13 (all13.emb x)) (ix2 r x) : EReal)
    rw [if_neg h] at e
    refine congrArg (_ + ·) (e.trans ?_)
    refine Finset.sum_congr rfl fun r _ => ?_
    rw [if_neg h]
    refine congrArg₂ (· * ·) ?_ (ce_at _ _ r x)
    rw [inBin_at, bin_at]
    rfl

/-! ## The errors of the offsets and sizes -/

/-- One where a box is. -/
theorem mask46 (G : Vec Ideal S20x128x128 .f32) (y x : Fin 128) : (k0_pay346 G (ix2 y x) : EReal)
    = ((if Ideal.ofBits .f32 0x3F7FFF58#32 ≤ Finset.fold max ⊥ (fun c : Fin 20 => (G (ix3 c y x) : EReal)) Finset.univ then 1 else 0 : ℝ) : EReal) := by
  pointwise [k0_pay346]
  rw [bit_val, bot_eq]
  congr 1
  refine if_congr ?_ rfl rfl
  exact ⟨fun h => by by_contra hn; rw [decide_eq_false hn] at h; exact absurd h (by decide), fun h => by rw [decide_eq_true h]; rfl⟩

/-- The error of one map. -/
def errAt (a b M : Fin 128 → Fin 128 → EReal) : EReal :=
  ∑ y : Fin 128, ∑ x : Fin 128, (FloatOps.absf (F := Ideal) (φ := .f32) (a y x - b y x) : EReal) * M y x

theorem n_at (G : Vec Ideal S20x128x128 .f32) (p : EReal) : (k0_pay347 G p : EReal) = p + ∑ y : Fin 128, ∑ x : Fin 128, (k0_pay346 G (ix2 y x) : EReal) := by
  generalize hM : k0_pay346 G = M
  unfold k0_pay347
  rw [hM]
  pointwise

theorem x_at (G : Vec Ideal S20x128x128 .f32) (a a' : Vec Ideal S1x1x128x128 .f32) (b b' : Vec Ideal S1x128x128 .f32) (p : EReal) :
    (k0_pay351 (k0_pay349 (k0_pay346 G) (k0_pay348 G a b) a' b') p : EReal)
      = p + (errAt (fun y x => a (ix4 0 0 y x)) (fun y x => b (ix3 0 y x)) (fun y x => k0_pay346 G (ix2 y x))
        + errAt (fun y x => a' (ix4 0 0 y x)) (fun y x => b' (ix3 0 y x)) (fun y x => k0_pay346 G (ix2 y x))) := by
  unfold k0_pay348 errAt
  generalize k0_pay346 G = M
  pointwise [k0_pay351, k0_pay349]

theorem w_at (G : Vec Ideal S20x128x128 .f32) (a a' : Vec Ideal S1x1x128x128 .f32) (b b' : Vec Ideal S1x128x128 .f32) (p : EReal) :
    (k0_pay352 (k0_pay350 (k0_pay346 G) a b a' b') p : EReal)
      = p + (errAt (fun y x => a (ix4 0 0 y x)) (fun y x => b (ix3 0 y x)) (fun y x => k0_pay346 G (ix2 y x))
        + errAt (fun y x => a' (ix4 0 0 y x)) (fun y x => b' (ix3 0 y x)) (fun y x => k0_pay346 G (ix2 y x))) := by
  unfold errAt
  generalize k0_pay346 G = M
  pointwise [k0_pay352, k0_pay350]

end Cert.KernelIdeal.Signs
end
-- ==== Proof.Eq.Carried.lean ====
/-
  What the kernel carries after all images is what the reference sums.
-/
module

public import proofs.«01_k».proof.Proof.Eq.Totals

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.KernelIdeal.Before Cert.Runs
open Cert.ReferenceIdeal.Value (heatR regR maskR Ent at4 mask_at bot_eq binR ceR)

attribute [local irreducible] put

variable (m : (ℓ : Loc nD τ sig) → Buf (Elt Ideal) ℓ) (d : Dev nD) (hOK : AllOK m)

theorem car_total (φ : Car Ideal → EReal) (h0 : φ car0 = 0) (g : Fin 8 → EReal)
    (hs : ∀ t C, φ (stepC (grid0.coords t) (insAt m d t) (hOK d t) C) = φ C + g (img t)) :
    φ (carN m hOK d cfg0.N le_rfl) = ∑ b : Fin 8, g b :=
  car_sum m d hOK φ h0 (fun t => g (img t)) hs cfg0.N le_rfl

/-- The sizes and the offsets that are predicted. -/
def sizes : S8x2x128x128.Idx → EReal := m ((d : Thread nD τ).loc main_arg1)
@[inherit_doc sizes]
def places : S8x2x128x128.Idx → EReal := m ((d : Thread nD τ).loc main_arg2)

theorem prob_at (t : Fin cfg0.N) (c : Fin 20) (y x : Fin 128) :
    ((insAt m d t).x13 (all13.emb (ix4 0 c y x)) : EReal) = probs m d (ix4 (img t) c y x) := by
  unfold insAt
  dsimp only
  rw [iblk_img]
  refine congrArg (probs m d) (funext fun a => Fin.ext ?_)
  match a with
  | ⟨0, _⟩ => rfl
  | ⟨1, _⟩ => show 0 + 1 * c.val = c.val; omega
  | ⟨2, _⟩ => show 0 + 1 * y.val = y.val; omega
  | ⟨3, _⟩ => show 0 + 1 * x.val = x.val; omega

theorem size_at (t : Fin cfg0.N) (y x : Fin 128) : ((insAt m d t).x14 (m2_0.emb (ix4 0 0 y x)) : EReal) = sizes m d (ix4 (img t) 0 y x)
    ∧ ((insAt m d t).x14 (m2_1.emb (ix4 0 0 y x)) : EReal) = sizes m d (ix4 (img t) 1 y x) := by
  unfold insAt
  dsimp only
  rw [iblk_size, iblk_size]
  constructor <;> refine congrArg (sizes m d) (funext fun a => Fin.ext ?_)
  all_goals
    match a with
    | ⟨0, _⟩ => rfl
    | ⟨1, _⟩ => rfl
    | ⟨2, _⟩ => show 0 + 1 * y.val = y.val; omega
    | ⟨3, _⟩ => show 0 + 1 * x.val = x.val; omega

theorem place_at (t : Fin cfg0.N) (y x : Fin 128) : ((insAt m d t).x15 (m2_0.emb (ix4 0 0 y x)) : EReal) = places m d (ix4 (img t) 0 y x)
    ∧ ((insAt m d t).x15 (m2_1.emb (ix4 0 0 y x)) : EReal) = places m d (ix4 (img t) 1 y x) := by
  unfold insAt
  dsimp only
  rw [iblk_offs, iblk_offs]
  constructor <;> refine congrArg (places m d) (funext fun a => Fin.ext ?_)
  all_goals
    match a with
    | ⟨0, _⟩ => rfl
    | ⟨1, _⟩ => rfl
    | ⟨2, _⟩ => show 0 + 1 * y.val = y.val; omega
    | ⟨3, _⟩ => show 0 + 1 * x.val = x.val; omega

theorem chan_at (y x : Fin 128) : m18_0.emb (ix3 0 y x) = ix3 0 y x ∧ m18_1.emb (ix3 0 y x) = ix3 1 y x
    ∧ m18_2.emb (ix3 0 y x) = ix3 2 y x ∧ m18_3.emb (ix3 0 y x) = ix3 3 y x := by
  refine ⟨?_, ?_, ?_, ?_⟩ <;> refine funext fun a => Fin.ext ?_
  all_goals
    match a with
    | ⟨0, _⟩ => rfl
    | ⟨1, _⟩ => show 0 + 1 * y.val = y.val; omega
    | ⟨2, _⟩ => show 0 + 1 * x.val = x.val; omega

variable (V : Valuation Cert.ReferenceIdeal.τ Cert.ReferenceIdeal.sig (Elt Ideal))
  (hV3 : V (Proc.devRef .tc Cert.ReferenceIdeal.main_arg3) = boxesOf m d) (hV4 : V (Proc.devRef .tc Cert.ReferenceIdeal.main_arg4) = labelsOf m d)
  (hB : ∀ j, IsR (boxesOf m d j))

include hV3 hV4 hB

theorem heat_eq (t : Fin cfg0.N) (c : Fin 20) (y x : Fin 128) :
    ((maps (grid0.coords t) (insAt m d t) (hOK d t)).1 (ix3 c y x) : EReal) = heatR V (ix4 (img t) c y x) :=
  heat_same m d t (hOK d t) V hV3 hV4 hB c y x

theorem mask_eq (t : Fin cfg0.N) (y x : Fin 128) :
    (k0_pay346 (F := Ideal) (maps (grid0.coords t) (insAt m d t) (hOK d t)).1 (ix2 y x) : EReal) = maskR V (ix3 (img t) y x) := by
  rw [mask46, mask_at]
  simp only [heat_eq m d hOK V hV3 hV4 hB]

/-- How many boxes are, -/
theorem car_n : ((carN m hOK d cfg0.N le_rfl).n : EReal) = ∑ b : Fin 8, ∑ y : Fin 128, ∑ x : Fin 128, maskR V (ix3 b y x) := by
  refine car_total m d hOK (fun C => C.n) Ideal.ofBits_zero_f32 _ fun t C => ?_
  refine (n_at _ C.n).trans ?_
  simp only [mask_eq m d hOK V hV3 hV4 hB]

omit hV4 hB in
theorem reg_eq (t : Fin cfg0.N) (c : Fin 4) (y x : Fin 128) :
    ((maps (grid0.coords t) (insAt m d t) (hOK d t)).2 (ix3 c y x) : EReal) = regR V (ix4 (img t) c y x) :=
  reg_same m d t (hOK d t) V hV3 c y x

/-- the error of the offsets, -/
theorem car_x : ((carN m hOK d cfg0.N le_rfl).x : EReal) = ∑ b : Fin 8, ∑ c : Fin 2,
    errAt (fun y x => places m d (ix4 b c y x)) (fun y x => regR V (ix4 b ⟨c.val, by omega⟩ y x)) (fun y x => maskR V (ix3 b y x)) := by
  refine car_total m d hOK (fun C => C.x) Ideal.ofBits_zero_f32 _ fun t C => ?_
  refine (x_at _ _ _ _ _ C.x).trans ?_
  rw [Fin.sum_univ_two]
  unfold errAt
  simp only [mask_eq m d hOK V hV3 hV4 hB, (place_at m d t _ _).1, (place_at m d t _ _).2, (chan_at _ _).1, (chan_at _ _).2.1, reg_eq m d hOK V hV3]
  rfl

/-- and of the sizes. -/
theorem car_w : ((carN m hOK d cfg0.N le_rfl).w : EReal) = ∑ b : Fin 8, ∑ c : Fin 2,
    errAt (fun y x => sizes m d (ix4 b c y x)) (fun y x => regR V (ix4 b ⟨2 + c.val, by omega⟩ y x)) (fun y x => maskR V (ix3 b y x)) := by
  refine car_total m d hOK (fun C => C.w) Ideal.ofBits_zero_f32 _ fun t C => ?_
  refine (w_at _ _ _ _ _ C.w).trans ?_
  rw [Fin.sum_univ_two]
  unfold errAt
  simp only [mask_eq m d hOK V hV3 hV4 hB, (size_at m d t _ _).1, (size_at m d t _ _).2, (chan_at _ _).2.2.1, (chan_at _ _).2.2.2, reg_eq m d hOK V hV3]
  rfl

/-- The counters, -/
theorem car_rc (k : Fin 10) (x : Fin 128) : ((carN m hOK d cfg0.N le_rfl).rc ((r16 k).emb (ix2 0 x)) : EReal)
    = ∑ b : Fin 8, if k = 9 then (0 : EReal) else ∑ c : Fin 20, ∑ y : Fin 128,
      ((ind (binK (probs m d (ix4 b c y x)) (heatR V (ix4 b c y x))) k.val : ℝ) : EReal) := by
  refine car_total m d hOK (fun C => C.rc ((r16 k).emb (ix2 0 x))) ?_ _ fun t C => ?_
  · show (k0_pay39 (F := Ideal) ((r16 k).emb (ix2 0 x)) : EReal) = 0
    pointwise [k0_pay39]
  · refine (binsC_at _ _ C.rc k x).trans ?_
    simp only [prob_at m d t, heat_eq m d hOK V hV3 hV4 hB]

/-- and the sums. -/
theorem car_rb (k : Fin 10) (x : Fin 128) : ((carN m hOK d cfg0.N le_rfl).rb ((r16 k).emb (ix2 0 x)) : EReal)
    = ∑ b : Fin 8, ∑ c : Fin 20, ∑ y : Fin 128, if k = 9 then ceK (probs m d (ix4 b c y x)) (heatR V (ix4 b c y x)) else
      ((ind (binK (probs m d (ix4 b c y x)) (heatR V (ix4 b c y x))) k.val : ℝ) : EReal) * ceK (probs m d (ix4 b c y x)) (heatR V (ix4 b c y x)) := by
  refine car_total m d hOK (fun C => C.rb ((r16 k).emb (ix2 0 x))) ?_ _ fun t C => ?_
  · show (k0_pay40 (F := Ideal) ((r16 k).emb (ix2 0 x)) : EReal) = 0
    pointwise [k0_pay40]
  · refine (binsB_at _ _ C.rb k x).trans ?_
    simp only [prob_at m d t, heat_eq m d hOK V hV3 hV4 hB]

include hOK in
/-- The heat map lies between zero and one. -/
theorem heat_unit (b : Fin 8) (c : Fin 20) (y x : Fin 128) : Unit01 (heatR V (ix4 b c y x)) := by
  have e := heat_eq m d hOK V hV3 hV4 hB ⟨b.val, b.isLt⟩ c y x
  have h := maps_unit (grid0.coords ⟨b.val, b.isLt⟩) (insAt m d ⟨b.val, b.isLt⟩) (hOK d ⟨b.val, b.isLt⟩) (fun k => scale_le m d _ k) (ix3 c y x)
  rw [e] at h
  exact h

end Cert.KernelIdeal.Signs
end
-- ==== Proof.Eq.Bins.lean ====
/-
  The bins and the cross-entropies of the kernel are the reference's; the entries of the first nine bins taken from all
  leave those of the last.
-/
module

public import proofs.«01_k».proof.Proof.Eq.Totals

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.KernelIdeal.Before Cert.Runs
open Cert.ReferenceIdeal.Value (heatR regR maskR Ent at4 mask_at bot_eq binR ceR)

/-! ## The cross-entropy -/

theorem ce_same {p g : EReal} (hg : Unit01 g) (hp : 0 < p ∧ p < 1) : ceR p g = ceK p g := by
  obtain ⟨h0, h1⟩ := hg
  obtain ⟨hp0, hp1⟩ := hp
  lift g to ℝ using ⟨ne_of_lt (lt_of_le_of_lt h1 (by exact EReal.coe_lt_top 1)), ne_of_gt (lt_of_lt_of_le (by exact EReal.bot_lt_zero) h0)⟩
  lift p to ℝ using ⟨ne_of_lt (hp1.trans (by exact EReal.coe_lt_top 1)), ne_of_gt (EReal.bot_lt_zero.trans hp0)⟩
  have p0 : (0 : ℝ) < p := by exact_mod_cast hp0
  have p1 : p < (1 : ℝ) := by exact_mod_cast hp1
  have e0 : ∀ q : ℝ, (1 : EReal) - (q : EReal) = ((1 - q : ℝ) : EReal) := fun q => by push_cast; rfl
  have e1 : ∀ q : ℝ, 0 < q → Ideal.log (q : EReal) = ((Real.log q : ℝ) : EReal) := fun q hq => by
    show (if q ≤ 0 then ⊥ else ((Real.log q : ℝ) : EReal)) = _
    rw [if_neg (not_le.mpr hq)]
  unfold ceR ceK
  rw [e0, e0, e1 p p0, e1 (1 - p) (by linarith)]
  rw [show (0 : EReal) = ((0 : ℝ) : EReal) from rfl]
  simp only [← EReal.coe_mul, ← EReal.coe_add, ← EReal.coe_sub, ← EReal.coe_neg]
  congr 1
  ring

/-! ## The bin of an entry -/

theorem fptosi_nonneg {v : EReal} (hv : 0 ≤ v) : 0 ≤ (Ideal.fptosi 32 v).toInt := by
  have h : 0 ≤ Ideal.toIntClamped (-(2 ^ (32 - 1) : Nat)) ((2 ^ (32 - 1) : Nat) - 1) v
      ∧ Ideal.toIntClamped (-(2 ^ (32 - 1) : Nat)) ((2 ^ (32 - 1) : Nat) - 1) v ≤ 2147483647 := by
    induction v with
    | bot => exact absurd hv (by simp)
    | top => exact ⟨by show (0 : ℤ) ≤ ((2 ^ (32 - 1) : Nat) : ℤ) - 1; norm_num, by show ((2 ^ (32 - 1) : Nat) : ℤ) - 1 ≤ _; norm_num⟩
    | coe r =>
      have hr : (0 : ℝ) ≤ r := by exact_mod_cast hv
      have hf : 0 ≤ ⌊r⌋ := Int.floor_nonneg.mpr hr
      have e : Ideal.toIntClamped (-(2 ^ (32 - 1) : Nat)) ((2 ^ (32 - 1) : Nat) - 1) (r : EReal)
          = max (-((2 ^ (32 - 1) : Nat) : ℤ)) (min (((2 ^ (32 - 1) : Nat) : ℤ) - 1) (if 0 ≤ r then ⌊r⌋ else ⌈r⌉)) := rfl
      rw [e, if_pos hr]
      constructor
      · exact le_max_of_le_right (le_min (by norm_num) hf)
      · exact max_le (by norm_num) ((min_le_left _ _).trans (by norm_num))
  unfold Ideal.fptosi
  rw [BitVec.toInt_ofInt]
  generalize Ideal.toIntClamped (-(2 ^ (32 - 1) : Nat)) ((2 ^ (32 - 1) : Nat) - 1) v = z at h
  rw [Int.bmod_eq_of_le (by omega) (by omega)]
  exact h.1

theorem ten_nonneg : (0 : EReal) ≤ Ideal.ofBits .f32 0x41200000#32 := by
  simp [Ideal.ofBits, Ideal.ieee]
  rw [← EReal.coe_mul]
  exact EReal.coe_nonneg.mpr (by norm_num)

theorem min_max (w : BitVec 32) (h : 0 ≤ w.toInt) : IntOp.minsi w 9#32 = IntOp.minsi 9#32 (IntOp.maxsi 0#32 w)
    ∧ ∃ j : Fin 10, IntOp.minsi 9#32 (IntOp.maxsi 0#32 w) = BitVec.ofNat 32 j.val := by
  have h1 : IntOp.maxsi 0#32 w = w := by
    unfold IntOp.maxsi
    rw [if_neg]
    simp only [BitVec.slt, decide_eq_true_eq]
    rw [show (0#32 : BitVec 32).toInt = 0 from rfl]
    omega
  have h9 : (9#32 : BitVec 32).toInt = 9 := rfl
  rw [h1]
  unfold IntOp.minsi
  simp only [BitVec.slt, decide_eq_true_eq, h9]
  by_cases a : w.toInt < 9
  · rw [if_pos a, if_neg (by omega)]
    refine ⟨rfl, ⟨w.toInt.toNat, by omega⟩, BitVec.eq_of_toInt_eq ?_⟩
    show w.toInt = (BitVec.ofNat 32 w.toInt.toNat).toInt
    rw [BitVec.toInt_ofNat']
    rw [Int.bmod_eq_of_le (by omega) (by omega)]
    omega
  · rw [if_neg a]
    by_cases b : 9 < w.toInt
    · rw [if_pos b]
      exact ⟨rfl, 9, rfl⟩
    · rw [if_neg b]
      have e : w = 9#32 := BitVec.eq_of_toInt_eq (by rw [h9]; omega)
      exact ⟨e.symm, 9, e⟩

theorem bin_same (p g : EReal) : binK p g = binR p g ∧ ∃ j : Fin 10, binR p g = BitVec.ofNat 32 j.val :=
  min_max _ (fptosi_nonneg (mul_nonneg (abs_nonneg' _) ten_nonneg))

theorem ind_sum (w : BitVec 32) (h : ∃ j : Fin 10, w = BitVec.ofNat 32 j.val) : ∑ j : Fin 10, ind w j.val = 1 := by
  obtain ⟨j, rfl⟩ := h
  rw [Finset.sum_eq_single j]
  · exact if_pos rfl
  · intro k _ hk
    refine if_neg fun e => ?_
    have e' := congrArg BitVec.toNat e
    simp only [BitVec.toNat_ofNat] at e'
    have := j.isLt
    have := k.isLt
    exact hk (Fin.ext (by omega))
  · intro h
    exact absurd (Finset.mem_univ _) h

/-- The columns summed last or first, the entries are the same. -/
theorem ent_sum (f : Ent → ℝ) : ∑ x : Fin 128, ∑ b : Fin 8, ∑ c : Fin 20, ∑ y : Fin 128, f (b, c, y, x) = ∑ e : Ent, f e := by
  rw [Finset.sum_comm]
  simp only [Fintype.sum_prod_type]
  refine Finset.sum_congr rfl fun b _ => ?_
  rw [Finset.sum_comm]
  refine Finset.sum_congr rfl fun c _ => ?_
  rw [Finset.sum_comm]

theorem card_ent : Fintype.card Ent = 2621440 := by
  simp only [Fintype.card_prod, Fintype.card_fin]

/-- The literal is the number of entries. -/
theorem total_eq : Ideal.ofBits .f32 0x4A200000#32 = ((2621440 : ℝ) : EReal) := by
  simp [Ideal.ofBits, Ideal.ieee]
  rw [← EReal.coe_mul]
  norm_num

/-- Every entry lies in one bin. -/
theorem ind_total (W : Ent → BitVec 32) (hW : ∀ e, ∃ j : Fin 10, W e = BitVec.ofNat 32 j.val) (v : Ent → ℝ) :
    ∑ e : Ent, ind (W e) 9 * v e = (∑ e : Ent, v e) - ∑ j : Fin 9, ∑ e : Ent, ind (W e) j.val * v e := by
  have h : ∑ j : Fin 10, ∑ e : Ent, ind (W e) j.val * v e = ∑ e : Ent, v e := by
    rw [Finset.sum_comm]
    refine Finset.sum_congr rfl fun e _ => ?_
    rw [← Finset.sum_mul, ind_sum _ (hW e), one_mul]
  rw [Fin.sum_univ_castSucc] at h
  rw [← h]
  exact (add_sub_cancel_left _ _).symm

end Cert.KernelIdeal.Signs
end
-- ==== Proof.Eq.Loss.lean ====
/-
  The loss of the kernel is the loss of the reference.
-/
module

public import proofs.«01_k».proof.Proof.Eq.Carried
public import proofs.«01_k».proof.Proof.Eq.Bins

@[expose] public section

set_option maxRecDepth 16384

noncomputable section

namespace Cert.KernelIdeal.Signs

open Idealize.ShloMosaic Idealize.ShloMosaic.TcCoe
open Idealize.SL Idealize.SL.Sem
open Cert.KernelIdeal.Gen Cert.KernelIdeal.Body Cert.KernelIdeal.Launch Cert.KernelIdeal.Before Cert.Runs
open Cert.ReferenceIdeal.Value (heatR regR maskR numberR clipR inR countR Ent at4 at5 binR ceR weightR lossR lossR_at number_at count_at in_at)

/-! ## The clip -/

/-- A probability between the bounds is left as it is. -/
theorem clip_eq (V : Valuation Cert.ReferenceIdeal.τ Cert.ReferenceIdeal.sig (Elt Ideal)) (P : S8x20x128x128.Idx → EReal)
    (hV0 : V (Proc.devRef .tc Cert.ReferenceIdeal.main_arg0) = P)
    (hp : ∀ i, Ideal.ofBits .f32 0x358637BD#32 ≤ P i ∧ P i ≤ Ideal.ofBits .f32 0x3F7FFFEF#32) (i : S8x20x128x128.Idx) :
    clipR V i = P i := by
  have e : clipR V i = min (Ideal.ofBits .f32 0x3F7FFFEF#32) (max (Ideal.ofBits .f32 0x358637BD#32) (V (Proc.devRef .tc Cert.ReferenceIdeal.main_arg0) i : EReal)) := by
    unfold clipR
    pointwise [Cert.ReferenceIdeal.Value.res_main_v144]
    rfl
  rw [e, hV0, max_eq_right (hp i).1, min_eq_right (hp i).2]

/-! ## From what is carried to the loss -/

theorem sel_gt (c a b : EReal) : Scalar.select (FloatOps.cmpf (F := Ideal) .ogt (c : Ideal .f32) z0) a b = if 0 < c then a else b := by
  refine select_if _ _ ?_ a b
  rw [show (z0 : Ideal .f32) = (0 : EReal) from Ideal.ofBits_zero_f32]
  show BitVec.ofBool (decide ((0 : EReal) < c)) = 1#1 ↔ _
  by_cases h : (0 : EReal) < c <;> simp [h]

theorem weight_eq (c : Ideal .f32) : (weight c : EReal) = weightR c := (sel_gt c _ _).trans (by rw [show (z0 : Ideal .f32) = (0 : EReal) from Ideal.ofBits_zero_f32]; rfl)

theorem fold_pair (f g : Fin 10 → EReal) :
    bins10.foldl (fun (p : Ideal .f32 × Ideal .f32) j => (Scalar.addf p.1 (f j : Ideal .f32), Scalar.addf p.2 (g j : Ideal .f32))) (z0, z0)
      = (∑ j : Fin 10, f j, ∑ j : Fin 10, g j) := by
  rw [show (z0 : Ideal .f32) = (0 : EReal) from Ideal.ofBits_zero_f32]
  simp only [Fin.sum_univ_castSucc, Fin.sum_univ_zero]
  rfl

/-- The loss of what is carried, with the sums written out. -/
theorem lossC_at (C : Car Ideal) : (lossC C : EReal) =
    Ideal.div (Ideal.div (∑ j : Fin 10, weightR (counts C.rc j) * (sums C.rb j : EReal))
        (max (∑ j : Fin 10, ((if 0 < (counts C.rc j : EReal) then 1 else 0 : ℝ) : EReal)) 1)) (Ideal.ofBits .f32 0x4A200000#32)
      + Ideal.div (C.x : EReal) (max (C.n : EReal) (Ideal.ofBits .f32 0x34000000#32))
      + Ideal.div (C.w : EReal) (max (C.n : EReal) (Ideal.ofBits .f32 0x34000000#32)) * Ideal.ofBits .f32 0x3DCCCCCD#32 := by
  have hf := fold_pair (fun j => ((if 0 < (counts C.rc j : EReal) then 1 else 0 : ℝ) : EReal)) (fun j => weightR (counts C.rc j) * (sums C.rb j : EReal))
  have hb : (fun (p : Ideal .f32 × Ideal .f32) (j : Fin 10) =>
      (Scalar.addf p.1 (Scalar.select (Scalar.cmpf .ogt (counts C.rc j) z0) (Scalar.ofBits .f32 0x3F800000#32) z0), Scalar.addf p.2 (Scalar.mulf (weight (counts C.rc j)) (sums C.rb j))))
      = fun p j => (Scalar.addf p.1 (((if 0 < (counts C.rc j : EReal) then 1 else 0 : ℝ) : EReal) : Ideal .f32), Scalar.addf p.2 ((weightR (counts C.rc j) * (sums C.rb j : EReal) : EReal) : Ideal .f32)) := by
    funext p j
    refine Prod.ext ?_ ?_
    · refine congrArg (fun z : Ideal .f32 => Scalar.addf p.1 z) ((sel_gt (counts C.rc j) _ _).trans ?_)
      by_cases h : (0 : EReal) < (counts C.rc j : EReal)
      · rw [if_pos h, if_pos h]; exact one_eq
      · rw [if_neg h, if_neg h]; exact Ideal.ofBits_zero_f32
    · exact congrArg (fun z : EReal => (Scalar.addf p.2 (Scalar.mulf (z : Ideal .f32) (sums C.rb j)) : Ideal .f32)) (weight_eq (counts C.rc j))
  unfold lossC
  rw [hb, hf]
  have h1 : Ideal.ofBits .f32 0x3F800000#32 = 1 := one_eq
  show Ideal.div (Ideal.div _ (max _ (Ideal.ofBits .f32 0x3F800000#32))) _ * Ideal.ofBits .f32 0x3F800000#32
    + Ideal.div _ _ * Ideal.ofBits .f32 0x3F800000#32 + _ * _ = _
  rw [h1, mul_one, mul_one]
  rfl

variable (m : (ℓ : Loc nD τ sig) → Buf (Elt Ideal) ℓ) (d : Dev nD) (hOK : AllOK m)
variable (V : Valuation Cert.ReferenceIdeal.τ Cert.ReferenceIdeal.sig (Elt Ideal))
  (hV3 : V (Proc.devRef .tc Cert.ReferenceIdeal.main_arg3) = boxesOf m d) (hV4 : V (Proc.devRef .tc Cert.ReferenceIdeal.main_arg4) = labelsOf m d)
  (hB : ∀ j, IsR (boxesOf m d j))

/-- The bin of an entry. -/
def binOf (e : Ent) : BitVec 32 := binR (probs m d (at4 e)) (heatR V (at4 e))

theorem row_eta (x : S1x128.Idx) : x = ix2 0 (x 1) := by
  funext a
  match a with
  | ⟨0, _⟩ => exact Subsingleton.elim (α := Fin 1) _ _
  | ⟨1, _⟩ => rfl

include hOK hV3 hV4 hB

/-- The counts of the bins. -/
theorem counts_eq (j : Fin 10) : (counts (carN m hOK d cfg0.N le_rfl).rc j : EReal) = ((∑ e : Ent, ind (binOf m d V e) j.val : ℝ) : EReal) := by
  let M : Fin 10 → S1x128.Idx → ℝ := fun k x => ∑ b : Fin 8, if k = 9 then 0 else ∑ c : Fin 20, ∑ y : Fin 128, ind (binOf m d V (b, c, y, x 1)) k.val
  have hM : ∀ k x, (carN m hOK d cfg0.N le_rfl).rc ((r16 k).emb x) = ((M k x : ℝ) : EReal) := fun k x => by
    rw [row_eta x]
    refine (car_rc m d hOK V hV3 hV4 hB k (x 1)).trans (sum_real _ _ fun b => ?_)
    split
    · rfl
    · refine sum_real _ _ fun c => sum_real _ _ fun y => ?_
      rw [(bin_same _ _).1]
      rfl
  have hrow : ∀ k : Fin 10, k ≠ 9 → ∑ c : Fin 128, M k (ix2 0 c) = ∑ e : Ent, ind (binOf m d V e) k.val := fun k hk => by
    refine Eq.trans ?_ (ent_sum _)
    exact Finset.sum_congr rfl fun x _ => Finset.sum_congr rfl fun b _ => if_neg hk
  unfold counts
  by_cases hj : j = 9
  · rw [if_pos hj, rest9_real _ M hM]
    show Ideal.ofBits .f32 0x4A200000#32 - ((_ : ℝ) : EReal) = _
    rw [total_eq, ← EReal.coe_sub, hj]
    have h := ind_total (binOf m d V) (fun e => (bin_same _ _).2) (fun _ => 1)
    simp only [mul_one, Finset.sum_const, Finset.card_univ, card_ent, nsmul_eq_mul] at h
    refine congrArg _ (Eq.trans ?_ h.symm)
    congr 1
    exact Finset.sum_congr rfl fun k _ => hrow k.castSucc (by rw [nine]; exact (Fin.castSucc_lt_last k).ne)
  · rw [if_neg hj, rowSum_real _ M hM, hrow j hj]

/-- The sums of the bins. -/
theorem sums_eq (v : Ent → ℝ) (hv : ∀ e, ceK (probs m d (at4 e)) (heatR V (at4 e)) = ((v e : ℝ) : EReal)) (j : Fin 10) :
    (sums (carN m hOK d cfg0.N le_rfl).rb j : EReal) = ((∑ e : Ent, ind (binOf m d V e) j.val * v e : ℝ) : EReal) := by
  let M : Fin 10 → S1x128.Idx → ℝ := fun k x => ∑ b : Fin 8, ∑ c : Fin 20, ∑ y : Fin 128,
    if k = 9 then v (b, c, y, x 1) else ind (binOf m d V (b, c, y, x 1)) k.val * v (b, c, y, x 1)
  have hM : ∀ k x, (carN m hOK d cfg0.N le_rfl).rb ((r16 k).emb x) = ((M k x : ℝ) : EReal) := fun k x => by
    rw [row_eta x]
    refine (car_rb m d hOK V hV3 hV4 hB k (x 1)).trans (sum_real _ _ fun b => sum_real _ _ fun c => sum_real _ _ fun y => ?_)
    have hve : ceK (probs m d (ix4 b c y (x 1))) (heatR V (ix4 b c y (x 1))) = ((v (b, c, y, x 1) : ℝ) : EReal) := hv (b, c, y, x 1)
    rw [hve, (bin_same _ _).1]
    split
    · rfl
    · rw [← EReal.coe_mul]
      rfl
  have hrow : ∀ k : Fin 10, k ≠ 9 → ∑ c : Fin 128, M k (ix2 0 c) = ∑ e : Ent, ind (binOf m d V e) k.val * v e := fun k hk => by
    refine Eq.trans ?_ (ent_sum _)
    exact Finset.sum_congr rfl fun x _ => Finset.sum_congr rfl fun b _ => Finset.sum_congr rfl fun c _ => Finset.sum_congr rfl fun y _ => if_neg hk
  have hlast : ∑ c : Fin 128, M 9 (ix2 0 c) = ∑ e : Ent, v e := by
    refine Eq.trans ?_ (ent_sum _)
    exact Finset.sum_congr rfl fun x _ => Finset.sum_congr rfl fun b _ => Finset.sum_congr rfl fun c _ => Finset.sum_congr rfl fun y _ => if_pos rfl
  unfold sums
  by_cases hj : j = 9
  · rw [if_pos hj, rest9_real _ M hM, rowSum_real _ M hM, hlast]
    show ((_ : ℝ) : EReal) - ((_ : ℝ) : EReal) = _
    rw [← EReal.coe_sub, hj]
    refine congrArg _ (Eq.trans ?_ (ind_total (binOf m d V) (fun e => (bin_same _ _).2) v).symm)
    congr 1
    exact Finset.sum_congr rfl fun k _ => hrow k.castSucc (by rw [nine]; exact (Fin.castSucc_lt_last k).ne)
  · rw [if_neg hj, rowSum_real _ M hM, hrow j hj]

/-- The kernel's loss is the reference's. -/
theorem loss_eq (hV0 : V (Proc.devRef .tc Cert.ReferenceIdeal.main_arg0) = probs m d)
    (hp : ∀ i, Ideal.ofBits .f32 0x358637BD#32 ≤ probs m d i ∧ probs m d i ≤ Ideal.ofBits .f32 0x3F7FFFEF#32) (hin : Inside m) :
    (loss m hOK d : EReal) = lossR (sizes m d) (places m d) (heatR V) (regR V) (maskR V) (numberR V) (clipR V) (inR V) (countR V) ix0 := by
  have hv : ∀ e : Ent, ∃ r : ℝ, ceK (probs m d (at4 e)) (heatR V (at4 e)) = (r : EReal) := fun e => by
    obtain ⟨r, -, hr⟩ := ce_real (heat_unit m d hOK V hV3 hV4 hB e.1 e.2.1 e.2.2.1 e.2.2.2) (hin d (at4 e))
    exact ⟨r, hr⟩
  choose v hv using hv
  have hc : ∀ e : Ent, ceR (clipR V (at4 e)) (heatR V (at4 e)) = ((v e : ℝ) : EReal) := fun e => by
    rw [clip_eq V _ hV0 hp]
    exact (ce_same (heat_unit m d hOK V hV3 hV4 hB e.1 e.2.1 e.2.2.1 e.2.2.2) (hin d (at4 e))).trans (hv e)
  have hi : ∀ (j : Fin 10) (e : Ent), inR V (at5 j e) = ((ind (binOf m d V e) j.val : ℝ) : EReal) := fun j e => by
    rw [in_at, clip_eq V _ hV0 hp]
    rfl
  have hN : ∀ j : Fin 10, countR V (ix1 j) = ((∑ e : Ent, ind (binOf m d V e) j.val : ℝ) : EReal) := fun j =>
    (count_at V j).trans (sum_real _ _ (hi j))
  have hS : ∀ j : Fin 10, ∑ e : Ent, inR V (at5 j e) * ceR (clipR V (at4 e)) (heatR V (at4 e)) = ((∑ e : Ent, ind (binOf m d V e) j.val * v e : ℝ) : EReal) :=
    fun j => sum_real _ _ fun e => by rw [hi, hc, EReal.coe_mul]
  unfold loss
  rw [lossC_at]
  refine Eq.trans ?_ (lossR_at _ _ _ _ _ _ _ _ _).symm
  simp only [hS, hN, number_at, counts_eq m d hOK V hV3 hV4 hB, sums_eq m d hOK V hV3 hV4 hB v hv, car_n m d hOK V hV3 hV4 hB,
    car_x m d hOK V hV3 hV4 hB, car_w m d hOK V hV3 hV4 hB]
  rfl

end Cert.KernelIdeal.Signs
end
-- ==== Proof.Algebraic.lean ====
/-
  Over the extended reals the kernel and the reference give one loss, where the inputs are in range.
-/
module

public import proofs.«01_k».proof.Proof.Holds
public import proofs.«01_k».proof.Proof.Eq.Loss

@[expose] public section

set_option maxRecDepth 16384

noncomputable section

namespace Cert.Proof

open Idealize.ShloMosaic Idealize.SL.Sem Idealize.ShloMosaic.TcCoe
open Cert.KernelIdeal.Launch Cert.KernelIdeal.Signs
open Cert.ReferenceIdeal.Value (heatR regR maskR numberR clipR inR countR lossR)

/-- The result of the reference, by the names of its parts. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v211)
          = lossR (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (heatR (StableHlo.launchContents m c)) (regR (StableHlo.launchContents m c)) (maskR (StableHlo.launchContents m c)) (numberR (StableHlo.launchContents m c))
            (clipR (StableHlo.launchContents m c)) (inR (StableHlo.launchContents m c)) (countR (StableHlo.launchContents m c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run Cert.ReferenceIdeal.defs _ _).mono (fun r h c => ⟨(h c).1, (h c).2⟩) (Cert.ReferenceIdeal.Value.run (F := Ideal) m ρ)

/-- The boxes are real numbers. -/
theorem boxes_real (m : (ℓ : Loc Cert.KernelIdeal.nD Cert.KernelIdeal.τ Cert.KernelIdeal.sig) → Buf (Elt Ideal) ℓ) (h : Cert.Pre_KernelIdeal m) (c : Dev Cert.KernelIdeal.nD)
    (j : Cert.KernelIdeal.S8x32x4.Idx) : IsR (boxesOf m c j) := by
  have hs := Cert.Pre_in_range.split _ _ _ _ _ (h c)
  have lo : Ideal.ofBits .f32 0xFF800000#32 < boxesOf m c j := of_ofBool (hs.2.2.1 j)
  have hi : boxesOf m c j < Ideal.ofBits .f32 0x7F800000#32 := of_ofBool (hs.2.2.2.1 j)
  exact ⟨(boxesOf m c j).toReal, (EReal.coe_toReal (ne_of_lt (lt_of_lt_of_le hi le_top)) (ne_of_gt (lt_of_le_of_lt bot_le lo))).symm⟩

/-- Cert.algebraic_KernelIdeal_ReferenceIdeal: both programs end with the same loss. -/
theorem algebraic : Cert.algebraic_KernelIdeal_ReferenceIdeal := fun m g m' g' h hm => by
  refine ⟨fun c _ => loss m (ok_ideal m h) c, ?_, ?_⟩
  · exact (θ_run Cert.KernelIdeal.defs _ _).mono (fun r hr c => by
      obtain ⟨⟨hq, -⟩, hp, -⟩ := hr
      exact ⟨((hp c).2 Cert.KernelIdeal.main_v83 (Pipeline.mem_restRefs_of Cert.KernelIdeal.main_v83 (by decide) (by decide))).trans (result m (ok_ideal m h) c), hq c⟩)
      (θ_run_and (frame_ideal m g h) (run_main m g (ok_ideal m h)))
  · refine (θ_run Cert.ReferenceIdeal.defs _ _).mono (fun r hr c => ⟨(hr c).1.trans ?_, (hr c).2⟩) (run_reference m' g')
    have hs := Cert.Pre_in_range.split _ _ _ _ _ (h c)
    have hp : ∀ i, Ideal.ofBits .f32 0x358637BD#32 ≤ probs m c i ∧ probs m c i ≤ Ideal.ofBits .f32 0x3F7FFFEF#32 :=
      fun i => ⟨of_ofBool (hs.1 i), of_ofBool (hs.2.1 i)⟩
    have e := loss_eq m c (ok_ideal m h) (StableHlo.launchContents m' c) (hm c).2.2.2.1 (hm c).2.2.2.2 (boxes_real m h c) (hm c).1 hp (inside m h)
    rw [(hm c).2.1, (hm c).2.2.1]
    funext i
    rw [show i = ix0 from Subsingleton.elim _ _]
    exact e.symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Holds
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_in_range.Gen.facts, post_facts, frame_kernel, frame_ideal, frame_reference, trivial, algebraic, holds⟩

end Cert.Proof

end
